-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsPlainIdeal (m : (ℓ : Loc Cert.ExpertsPlainIdeal.nD Cert.ExpertsPlainIdeal.τ Cert.ExpertsPlainIdeal.sig) → Buf (Elt Ideal) ℓ) : Prop :=
  True

def Pre_ExpertsPlainIdeal_routed [hPre_routed : Cert.Pre_routed.Facts] (m : (ℓ : Loc Cert.ExpertsPlainIdeal.nD Cert.ExpertsPlainIdeal.τ Cert.ExpertsPlainIdeal.sig) → Buf (Elt Ideal) ℓ) : Prop :=
  ∀ c : Dev Cert.ExpertsPlainIdeal.nD,
    (Cert.Pre_routed.fn (F := Ideal) (m ((c.tc : Thread Cert.ExpertsPlainIdeal.nD Cert.ExpertsPlainIdeal.τ).loc Cert.ExpertsPlainIdeal.main_arg0)) (m ((c.tc : Thread Cert.ExpertsPlainIdeal.nD Cert.ExpertsPlainIdeal.τ).loc Cert.ExpertsPlainIdeal.main_arg1)) (m ((c.tc : Thread Cert.ExpertsPlainIdeal.nD Cert.ExpertsPlainIdeal.τ).loc Cert.ExpertsPlainIdeal.main_arg2)) (m ((c.tc : Thread Cert.ExpertsPlainIdeal.nD Cert.ExpertsPlainIdeal.τ).loc Cert.ExpertsPlainIdeal.main_arg3)) (m ((c.tc : Thread Cert.ExpertsPlainIdeal.nD Cert.ExpertsPlainIdeal.τ).loc Cert.ExpertsPlainIdeal.main_arg4)) (m ((c.tc : Thread Cert.ExpertsPlainIdeal.nD Cert.ExpertsPlainIdeal.τ).loc Cert.ExpertsPlainIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DensePlainIdeal (m : (ℓ : Loc Cert.DensePlainIdeal.nD Cert.DensePlainIdeal.τ Cert.DensePlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsPlainIdeal [hExpertsPlainIdeal : Cert.ExpertsPlainIdeal.Facts] : Prop :=
  ∀ (m : (ℓ : Loc Cert.ExpertsPlainIdeal.nD Cert.ExpertsPlainIdeal.τ Cert.ExpertsPlainIdeal.sig) → Buf (Elt Ideal) ℓ) (g : Dev Cert.ExpertsPlainIdeal.nD → PrngReg), Pre_ExpertsPlainIdeal m →
    θ_run (Cert.ExpertsPlainIdeal.defs (F := Ideal)) (onTc (τ := Cert.ExpertsPlainIdeal.τ) (Cert.ExpertsPlainIdeal.main (F := Ideal))) ⟨m, fun _ => 0, g⟩ (fun r => (∀ c : Dev Cert.ExpertsPlainIdeal.nD,
      r.2.mem ((c.tc : Thread Cert.ExpertsPlainIdeal.nD Cert.ExpertsPlainIdeal.τ).loc Cert.ExpertsPlainIdeal.main_arg0) = m ((c.tc : Thread Cert.ExpertsPlainIdeal.nD Cert.ExpertsPlainIdeal.τ).loc Cert.ExpertsPlainIdeal.main_arg0)
      ∧ r.2.mem ((c.tc : Thread Cert.ExpertsPlainIdeal.nD Cert.ExpertsPlainIdeal.τ).loc Cert.ExpertsPlainIdeal.main_arg1) = m ((c.tc : Thread Cert.ExpertsPlainIdeal.nD Cert.ExpertsPlainIdeal.τ).loc Cert.ExpertsPlainIdeal.main_arg1)
      ∧ r.2.mem ((c.tc : Thread Cert.ExpertsPlainIdeal.nD Cert.ExpertsPlainIdeal.τ).loc Cert.ExpertsPlainIdeal.main_arg2) = m ((c.tc : Thread Cert.ExpertsPlainIdeal.nD Cert.ExpertsPlainIdeal.τ).loc Cert.ExpertsPlainIdeal.main_arg2)
      ∧ r.2.mem ((c.tc : Thread Cert.ExpertsPlainIdeal.nD Cert.ExpertsPlainIdeal.τ).loc Cert.ExpertsPlainIdeal.main_arg3) = m ((c.tc : Thread Cert.ExpertsPlainIdeal.nD Cert.ExpertsPlainIdeal.τ).loc Cert.ExpertsPlainIdeal.main_arg3)
      ∧ r.2.mem ((c.tc : Thread Cert.ExpertsPlainIdeal.nD Cert.ExpertsPlainIdeal.τ).loc Cert.ExpertsPlainIdeal.main_arg4) = m ((c.tc : Thread Cert.ExpertsPlainIdeal.nD Cert.ExpertsPlainIdeal.τ).loc Cert.ExpertsPlainIdeal.main_arg4)
      ∧ r.2.mem ((c.tc : Thread Cert.ExpertsPlainIdeal.nD Cert.ExpertsPlainIdeal.τ).loc Cert.ExpertsPlainIdeal.main_arg5) = m ((c.tc : Thread Cert.ExpertsPlainIdeal.nD Cert.ExpertsPlainIdeal.τ).loc Cert.ExpertsPlainIdeal.main_arg5))
      ∧ r.2.sem = fun _ => 0)

def quiescent_ExpertsPlainIdeal_pre_routed [hExpertsPlainIdeal : Cert.ExpertsPlainIdeal.Facts] [hPre_routed : Cert.Pre_routed.Facts] : Prop :=
  ∀ (m : (ℓ : Loc Cert.ExpertsPlainIdeal.nD Cert.ExpertsPlainIdeal.τ Cert.ExpertsPlainIdeal.sig) → Buf (Elt Ideal) ℓ) (g : Dev Cert.ExpertsPlainIdeal.nD → PrngReg), Pre_ExpertsPlainIdeal_routed m →
    θ_run (Cert.ExpertsPlainIdeal.defs (F := Ideal)) (onTc (τ := Cert.ExpertsPlainIdeal.τ) (Cert.ExpertsPlainIdeal.main (F := Ideal))) ⟨m, fun _ => 0, g⟩ (fun r => (∀ c : Dev Cert.ExpertsPlainIdeal.nD,
      r.2.mem ((c.tc : Thread Cert.ExpertsPlainIdeal.nD Cert.ExpertsPlainIdeal.τ).loc Cert.ExpertsPlainIdeal.main_arg0) = m ((c.tc : Thread Cert.ExpertsPlainIdeal.nD Cert.ExpertsPlainIdeal.τ).loc Cert.ExpertsPlainIdeal.main_arg0)
      ∧ r.2.mem ((c.tc : Thread Cert.ExpertsPlainIdeal.nD Cert.ExpertsPlainIdeal.τ).loc Cert.ExpertsPlainIdeal.main_arg1) = m ((c.tc : Thread Cert.ExpertsPlainIdeal.nD Cert.ExpertsPlainIdeal.τ).loc Cert.ExpertsPlainIdeal.main_arg1)
      ∧ r.2.mem ((c.tc : Thread Cert.ExpertsPlainIdeal.nD Cert.ExpertsPlainIdeal.τ).loc Cert.ExpertsPlainIdeal.main_arg2) = m ((c.tc : Thread Cert.ExpertsPlainIdeal.nD Cert.ExpertsPlainIdeal.τ).loc Cert.ExpertsPlainIdeal.main_arg2)
      ∧ r.2.mem ((c.tc : Thread Cert.ExpertsPlainIdeal.nD Cert.ExpertsPlainIdeal.τ).loc Cert.ExpertsPlainIdeal.main_arg3) = m ((c.tc : Thread Cert.ExpertsPlainIdeal.nD Cert.ExpertsPlainIdeal.τ).loc Cert.ExpertsPlainIdeal.main_arg3)
      ∧ r.2.mem ((c.tc : Thread Cert.ExpertsPlainIdeal.nD Cert.ExpertsPlainIdeal.τ).loc Cert.ExpertsPlainIdeal.main_arg4) = m ((c.tc : Thread Cert.ExpertsPlainIdeal.nD Cert.ExpertsPlainIdeal.τ).loc Cert.ExpertsPlainIdeal.main_arg4)
      ∧ r.2.mem ((c.tc : Thread Cert.ExpertsPlainIdeal.nD Cert.ExpertsPlainIdeal.τ).loc Cert.ExpertsPlainIdeal.main_arg5) = m ((c.tc : Thread Cert.ExpertsPlainIdeal.nD Cert.ExpertsPlainIdeal.τ).loc Cert.ExpertsPlainIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DensePlainIdeal [hDensePlainIdeal : Cert.DensePlainIdeal.Facts] : Prop :=
  ∀ (m : (ℓ : Loc Cert.DensePlainIdeal.nD Cert.DensePlainIdeal.τ Cert.DensePlainIdeal.sig) → Buf (Elt Ideal) ℓ) (g : Dev Cert.DensePlainIdeal.nD → PrngReg), Pre_DensePlainIdeal m →
    θ_run (Cert.DensePlainIdeal.defs (F := Ideal)) (onTc (τ := Cert.DensePlainIdeal.τ) (Cert.DensePlainIdeal.main (F := Ideal))) ⟨m, fun _ => 0, g⟩ (fun r => (∀ c : Dev Cert.DensePlainIdeal.nD,
      r.2.mem ((c.tc : Thread Cert.DensePlainIdeal.nD Cert.DensePlainIdeal.τ).loc Cert.DensePlainIdeal.main_arg0) = m ((c.tc : Thread Cert.DensePlainIdeal.nD Cert.DensePlainIdeal.τ).loc Cert.DensePlainIdeal.main_arg0)
      ∧ r.2.mem ((c.tc : Thread Cert.DensePlainIdeal.nD Cert.DensePlainIdeal.τ).loc Cert.DensePlainIdeal.main_arg1) = m ((c.tc : Thread Cert.DensePlainIdeal.nD Cert.DensePlainIdeal.τ).loc Cert.DensePlainIdeal.main_arg1)
      ∧ r.2.mem ((c.tc : Thread Cert.DensePlainIdeal.nD Cert.DensePlainIdeal.τ).loc Cert.DensePlainIdeal.main_arg2) = m ((c.tc : Thread Cert.DensePlainIdeal.nD Cert.DensePlainIdeal.τ).loc Cert.DensePlainIdeal.main_arg2)
      ∧ r.2.mem ((c.tc : Thread Cert.DensePlainIdeal.nD Cert.DensePlainIdeal.τ).loc Cert.DensePlainIdeal.main_arg3) = m ((c.tc : Thread Cert.DensePlainIdeal.nD Cert.DensePlainIdeal.τ).loc Cert.DensePlainIdeal.main_arg3)
      ∧ r.2.mem ((c.tc : Thread Cert.DensePlainIdeal.nD Cert.DensePlainIdeal.τ).loc Cert.DensePlainIdeal.main_arg4) = m ((c.tc : Thread Cert.DensePlainIdeal.nD Cert.DensePlainIdeal.τ).loc Cert.DensePlainIdeal.main_arg4)
      ∧ r.2.mem ((c.tc : Thread Cert.DensePlainIdeal.nD Cert.DensePlainIdeal.τ).loc Cert.DensePlainIdeal.main_arg5) = m ((c.tc : Thread Cert.DensePlainIdeal.nD Cert.DensePlainIdeal.τ).loc Cert.DensePlainIdeal.main_arg5))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsPlainIdeal_on_real_rows [hExpertsIdeal : Cert.ExpertsIdeal.Facts] [hExpertsPlainIdeal : Cert.ExpertsPlainIdeal.Facts] [hPre_routed : Cert.Pre_routed.Facts] [hOn_real_rows : Cert.On_real_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsPlainIdeal.nD Cert.ExpertsPlainIdeal.τ Cert.ExpertsPlainIdeal.sig) → Buf (Elt Ideal) ℓ) (g' : Dev Cert.ExpertsPlainIdeal.nD → PrngReg), Pre_ExpertsIdeal m →
    (∀ c : Dev Cert.ExpertsIdeal.nD,
      m' ((c.tc : Thread Cert.ExpertsPlainIdeal.nD Cert.ExpertsPlainIdeal.τ).loc Cert.ExpertsPlainIdeal.main_arg0) = m ((c.tc : Thread Cert.ExpertsIdeal.nD Cert.ExpertsIdeal.τ).loc Cert.ExpertsIdeal.main_arg0)
      ∧ m' ((c.tc : Thread Cert.ExpertsPlainIdeal.nD Cert.ExpertsPlainIdeal.τ).loc Cert.ExpertsPlainIdeal.main_arg1) = m ((c.tc : Thread Cert.ExpertsIdeal.nD Cert.ExpertsIdeal.τ).loc Cert.ExpertsIdeal.main_arg1)
      ∧ m' ((c.tc : Thread Cert.ExpertsPlainIdeal.nD Cert.ExpertsPlainIdeal.τ).loc Cert.ExpertsPlainIdeal.main_arg2) = m ((c.tc : Thread Cert.ExpertsIdeal.nD Cert.ExpertsIdeal.τ).loc Cert.ExpertsIdeal.main_arg2)
      ∧ m' ((c.tc : Thread Cert.ExpertsPlainIdeal.nD Cert.ExpertsPlainIdeal.τ).loc Cert.ExpertsPlainIdeal.main_arg3) = m ((c.tc : Thread Cert.ExpertsIdeal.nD Cert.ExpertsIdeal.τ).loc Cert.ExpertsIdeal.main_arg3)
      ∧ m' ((c.tc : Thread Cert.ExpertsPlainIdeal.nD Cert.ExpertsPlainIdeal.τ).loc Cert.ExpertsPlainIdeal.main_arg4) = m ((c.tc : Thread Cert.ExpertsIdeal.nD Cert.ExpertsIdeal.τ).loc Cert.ExpertsIdeal.main_arg4)
      ∧ m' ((c.tc : Thread Cert.ExpertsPlainIdeal.nD Cert.ExpertsPlainIdeal.τ).loc Cert.ExpertsPlainIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![73728, 1024]⟩ : Shape).Idx, (Cert.On_real_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsPlainIdeal.defs (F := Ideal)) (onTc (τ := Cert.ExpertsPlainIdeal.τ) (Cert.ExpertsPlainIdeal.main (F := Ideal))) ⟨m', fun _ => 0, g'⟩ (fun r => ∀ c : Dev Cert.ExpertsPlainIdeal.nD,
          (∀ i : (⟨2, ![73728, 1024]⟩ : Shape).Idx, (Cert.On_real_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsPlainIdeal.nD Cert.ExpertsPlainIdeal.τ).loc Cert.ExpertsPlainIdeal.main_v14) i = v0 c i)
          ∧ r.2.mem ((c.tc : Thread Cert.ExpertsPlainIdeal.nD Cert.ExpertsPlainIdeal.τ).loc Cert.ExpertsPlainIdeal.main_arg0) = m' ((c.tc : Thread Cert.ExpertsPlainIdeal.nD Cert.ExpertsPlainIdeal.τ).loc Cert.ExpertsPlainIdeal.main_arg0)
          ∧ r.2.mem ((c.tc : Thread Cert.ExpertsPlainIdeal.nD Cert.ExpertsPlainIdeal.τ).loc Cert.ExpertsPlainIdeal.main_arg1) = m' ((c.tc : Thread Cert.ExpertsPlainIdeal.nD Cert.ExpertsPlainIdeal.τ).loc Cert.ExpertsPlainIdeal.main_arg1)
          ∧ r.2.mem ((c.tc : Thread Cert.ExpertsPlainIdeal.nD Cert.ExpertsPlainIdeal.τ).loc Cert.ExpertsPlainIdeal.main_arg2) = m' ((c.tc : Thread Cert.ExpertsPlainIdeal.nD Cert.ExpertsPlainIdeal.τ).loc Cert.ExpertsPlainIdeal.main_arg2)
          ∧ r.2.mem ((c.tc : Thread Cert.ExpertsPlainIdeal.nD Cert.ExpertsPlainIdeal.τ).loc Cert.ExpertsPlainIdeal.main_arg3) = m' ((c.tc : Thread Cert.ExpertsPlainIdeal.nD Cert.ExpertsPlainIdeal.τ).loc Cert.ExpertsPlainIdeal.main_arg3)
          ∧ r.2.mem ((c.tc : Thread Cert.ExpertsPlainIdeal.nD Cert.ExpertsPlainIdeal.τ).loc Cert.ExpertsPlainIdeal.main_arg4) = m' ((c.tc : Thread Cert.ExpertsPlainIdeal.nD Cert.ExpertsPlainIdeal.τ).loc Cert.ExpertsPlainIdeal.main_arg4)
          ∧ r.2.mem ((c.tc : Thread Cert.ExpertsPlainIdeal.nD Cert.ExpertsPlainIdeal.τ).loc Cert.ExpertsPlainIdeal.main_arg5) = m' ((c.tc : Thread Cert.ExpertsPlainIdeal.nD Cert.ExpertsPlainIdeal.τ).loc Cert.ExpertsPlainIdeal.main_arg5))

def preserves_Dense_DenseIdeal : Prop :=
  True

def algebraic_DenseIdeal_DensePlainIdeal [hDenseIdeal : Cert.DenseIdeal.Facts] [hDensePlainIdeal : Cert.DensePlainIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DensePlainIdeal.nD Cert.DensePlainIdeal.τ Cert.DensePlainIdeal.sig) → Buf (Elt Ideal) ℓ) (g' : Dev Cert.DensePlainIdeal.nD → PrngReg), Pre_DenseIdeal m →
    (∀ c : Dev Cert.DenseIdeal.nD,
      m' ((c.tc : Thread Cert.DensePlainIdeal.nD Cert.DensePlainIdeal.τ).loc Cert.DensePlainIdeal.main_arg0) = m ((c.tc : Thread Cert.DenseIdeal.nD Cert.DenseIdeal.τ).loc Cert.DenseIdeal.main_arg0)
      ∧ m' ((c.tc : Thread Cert.DensePlainIdeal.nD Cert.DensePlainIdeal.τ).loc Cert.DensePlainIdeal.main_arg1) = m ((c.tc : Thread Cert.DenseIdeal.nD Cert.DenseIdeal.τ).loc Cert.DenseIdeal.main_arg1)
      ∧ m' ((c.tc : Thread Cert.DensePlainIdeal.nD Cert.DensePlainIdeal.τ).loc Cert.DensePlainIdeal.main_arg2) = m ((c.tc : Thread Cert.DenseIdeal.nD Cert.DenseIdeal.τ).loc Cert.DenseIdeal.main_arg2)
      ∧ m' ((c.tc : Thread Cert.DensePlainIdeal.nD Cert.DensePlainIdeal.τ).loc Cert.DensePlainIdeal.main_arg3) = m ((c.tc : Thread Cert.DenseIdeal.nD Cert.DenseIdeal.τ).loc Cert.DenseIdeal.main_arg3)
      ∧ m' ((c.tc : Thread Cert.DensePlainIdeal.nD Cert.DensePlainIdeal.τ).loc Cert.DensePlainIdeal.main_arg4) = m ((c.tc : Thread Cert.DenseIdeal.nD Cert.DenseIdeal.τ).loc Cert.DenseIdeal.main_arg4)
      ∧ m' ((c.tc : Thread Cert.DensePlainIdeal.nD Cert.DensePlainIdeal.τ).loc Cert.DensePlainIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v6_0)) (v1 : (c : Dev Cert.DenseIdeal.nD) → Buf (Elt Ideal) ((c.tc : Thread Cert.DenseIdeal.nD Cert.DenseIdeal.τ).loc Cert.DenseIdeal.main_v6_1)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v6_0) = v0 c
          ∧ r.2.mem ((c.tc : Thread Cert.DenseIdeal.nD Cert.DenseIdeal.τ).loc Cert.DenseIdeal.main_v6_1) = v1 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DensePlainIdeal.defs (F := Ideal)) (onTc (τ := Cert.DensePlainIdeal.τ) (Cert.DensePlainIdeal.main (F := Ideal))) ⟨m', fun _ => 0, g'⟩ (fun r => ∀ c : Dev Cert.DensePlainIdeal.nD,
          r.2.mem ((c.tc : Thread Cert.DensePlainIdeal.nD Cert.DensePlainIdeal.τ).loc Cert.DensePlainIdeal.main_v31) = v0 c
          ∧ r.2.mem ((c.tc : Thread Cert.DensePlainIdeal.nD Cert.DensePlainIdeal.τ).loc Cert.DensePlainIdeal.main_v32) = v1 c
          ∧ r.2.mem ((c.tc : Thread Cert.DensePlainIdeal.nD Cert.DensePlainIdeal.τ).loc Cert.DensePlainIdeal.main_arg0) = m' ((c.tc : Thread Cert.DensePlainIdeal.nD Cert.DensePlainIdeal.τ).loc Cert.DensePlainIdeal.main_arg0)
          ∧ r.2.mem ((c.tc : Thread Cert.DensePlainIdeal.nD Cert.DensePlainIdeal.τ).loc Cert.DensePlainIdeal.main_arg1) = m' ((c.tc : Thread Cert.DensePlainIdeal.nD Cert.DensePlainIdeal.τ).loc Cert.DensePlainIdeal.main_arg1)
          ∧ r.2.mem ((c.tc : Thread Cert.DensePlainIdeal.nD Cert.DensePlainIdeal.τ).loc Cert.DensePlainIdeal.main_arg2) = m' ((c.tc : Thread Cert.DensePlainIdeal.nD Cert.DensePlainIdeal.τ).loc Cert.DensePlainIdeal.main_arg2)
          ∧ r.2.mem ((c.tc : Thread Cert.DensePlainIdeal.nD Cert.DensePlainIdeal.τ).loc Cert.DensePlainIdeal.main_arg3) = m' ((c.tc : Thread Cert.DensePlainIdeal.nD Cert.DensePlainIdeal.τ).loc Cert.DensePlainIdeal.main_arg3)
          ∧ r.2.mem ((c.tc : Thread Cert.DensePlainIdeal.nD Cert.DensePlainIdeal.τ).loc Cert.DensePlainIdeal.main_arg4) = m' ((c.tc : Thread Cert.DensePlainIdeal.nD Cert.DensePlainIdeal.τ).loc Cert.DensePlainIdeal.main_arg4)
          ∧ r.2.mem ((c.tc : Thread Cert.DensePlainIdeal.nD Cert.DensePlainIdeal.τ).loc Cert.DensePlainIdeal.main_arg5) = m' ((c.tc : Thread Cert.DensePlainIdeal.nD Cert.DensePlainIdeal.τ).loc Cert.DensePlainIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsPlainIdeal : Cert.ExpertsPlainIdeal.Facts) (hDense : Cert.Dense.Facts) (hDenseIdeal : Cert.DenseIdeal.Facts) (hDensePlainIdeal : Cert.DensePlainIdeal.Facts) (hPre_finite : Cert.Pre_finite.Facts) (hPre_routed : Cert.Pre_routed.Facts) (hOn_real_rows : Cert.On_real_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertsPlainIdeal (hExpertsPlainIdeal := hExpertsPlainIdeal)
    ∧ quiescent_ExpertsPlainIdeal_pre_routed (hExpertsPlainIdeal := hExpertsPlainIdeal) (hPre_routed := hPre_routed)
    ∧ quiescent_Dense (hDense := hDense)
    ∧ quiescent_DenseIdeal (hDenseIdeal := hDenseIdeal)
    ∧ quiescent_DensePlainIdeal (hDensePlainIdeal := hDensePlainIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsPlainIdeal_on_real_rows (hExpertsIdeal := hExpertsIdeal) (hExpertsPlainIdeal := hExpertsPlainIdeal) (hPre_routed := hPre_routed) (hOn_real_rows := hOn_real_rows)
    ∧ preserves_Dense_DenseIdeal
    ∧ algebraic_DenseIdeal_DensePlainIdeal (hDenseIdeal := hDenseIdeal) (hDensePlainIdeal := hDensePlainIdeal)
-- ==== On_real_rows.lean ====
abbrev S73728x1024 : Shape := ⟨2, ![73728, 1024]⟩
abbrev S72 : Shape := ⟨1, ![72]⟩
abbrev S8x1024x3584 : Shape := ⟨3, ![8, 1024, 3584]⟩
abbrev S8x3584x1024 : Shape := ⟨3, ![8, 3584, 1024]⟩
abbrev S72x1024x1024 : Shape := ⟨3, ![72, 1024, 1024]⟩

class Facts : Prop where
  bcast_S72_S72x1024x1024_0 : S72.BroadcastsInDim S72x1024x1024 (![0] : Fin 1 → Fin S72x1024x1024.rank)
  shapeCasts_S72x1024x1024_S73728x1024 : S72x1024x1024.ShapeCasts S73728x1024

variable [Facts]

def fn {F : FTy → Type} [FloatOps F] (main_arg0 : FVec F S73728x1024 .f32) (main_arg1 : IVec S72 32) (main_arg2 : IVec S72 32) (main_arg3 : FVec F S8x1024x3584 .f32) (main_arg4 : FVec F S8x1024x3584 .f32) (main_arg5 : FVec F S8x3584x1024 .f32) : IVec S73728x1024 1 :=
  let main_v0 : IVec S72x1024x1024 32 := iotaInDim S72x1024x1024 32 1
  let main_v1 : IVec S72x1024x1024 32 := broadcastInDim S72x1024x1024 ![0] bcast_S72_S72x1024x1024_0 main_arg2
  let main_v2 : IVec S72x1024x1024 1 := cmpi .slt main_v0 main_v1
  let main_v3 : IVec S73728x1024 1 := shapeCast S73728x1024 main_v2 shapeCasts_S72x1024x1024_S73728x1024
  main_v3
-- ==== Pre_finite.lean ====
abbrev S8x4096x3072 : Shape := ⟨3, ![8, 4096, 3072]⟩
abbrev S3x8x128x256 : Shape := ⟨4, ![3, 8, 128, 256]⟩
abbrev S_ : Shape := ⟨0, ![]⟩

class Facts : Prop where
  bitsLt_bf16_f32 : FTy.bits .bf16 < FTy.bits .f32
  bcast_S_S8x4096x3072 : S_.BroadcastsInDim S8x4096x3072 (![] : Fin 0 → Fin S8x4096x3072.rank)
  reducesTo_S8x4096x3072_S_d0_1_2 : S8x4096x3072.ReducesTo [0, 1, 2] S_
  h_S_ : 0 < S_.numel
  bcast_S_S3x8x128x256 : S_.BroadcastsInDim S3x8x128x256 (![] : Fin 0 → Fin S3x8x128x256.rank)
  reducesTo_S3x8x128x256_S_d0_1_2_3 : S3x8x128x256.ReducesTo [0, 1, 2, 3] S_

variable [Facts]

def fn {F : FTy → Type} [FloatOps F] (main_arg0 : FVec F S8x4096x3072 .bf16) (main_arg1 : FVec F S8x4096x3072 .bf16) (main_arg2 : FVec F S8x4096x3072 .bf16) (main_arg3 : FVec F S3x8x128x256 .f32) : IVec S_ 1 :=
  let main_v0 : FVec F S8x4096x3072 .f32 := (extf .f32 · bitsLt_bf16_f32) main_arg0
  let main_v1 : FVec F S8x4096x3072 .f32 := Host.absf main_v0
  let main_cst : FVec F S_ .f32 := constant S_ .f32 0x7F800000#32
  let main_v2 : FVec F S8x4096x3072 .f32 := broadcastInDim S8x4096x3072 ![] bcast_S_S8x4096x3072 main_cst
  let main_v3 : IVec S8x4096x3072 1 := cmpf .olt main_v1 main_v2
  let main_c : IVec S_ 1 := constantI S_ 1 1#1
  let main_v4 : IVec S_ 1 := (fun x v => Host.reduce IntOp.andi x v reducesTo_S8x4096x3072_S_d0_1_2 h_S_) main_v3 main_c
  let main_v5 : FVec F S3x8x128x256 .f32 := Host.absf main_arg3
  let main_cst_0 : FVec F S_ .f32 := constant S_ .f32 0x7F800000#32
  let main_v6 : FVec F S3x8x128x256 .f32 := broadcastInDim S3x8x128x256 ![] bcast_S_S3x8x128x256 main_cst_0
  let main_v7 : IVec S3x8x128x256 1 := cmpf .olt main_v5 main_v6
  let main_c_1 : IVec S_ 1 := constantI S_ 1 1#1
  let main_v8 : IVec S_ 1 := (fun x v => Host.reduce IntOp.andi x v reducesTo_S3x8x128x256_S_d0_1_2_3 h_S_) main_v7 main_c_1
  let main_v9 : IVec S_ 1 := andi main_v4 main_v8
  main_v9
-- ==== Pre_routed.lean ====
abbrev S73728x1024 : Shape := ⟨2, ![73728, 1024]⟩
abbrev S72 : Shape := ⟨1, ![72]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S73728x1024 .f32) (main_arg1 : IVec S72 32) (main_arg2 : IVec S72 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 0#32
  let main_v2 : IVec S72 32 := broadcastInDim S72 ![] bcast_S_S72 main_c_0
  let main_v3 : IVec S72 1 := cmpi .sle main_arg2 main_v2
  let main_c_1 : IVec S_ 32 := constantI S_ 32 8#32
  let main_v4 : IVec S72 32 := broadcastInDim S72 ![] bcast_S_S72 main_c_1
  let main_v5 : IVec S72 1 := cmpi .slt main_arg1 main_v4
  let main_v6 : IVec S72 1 := ori main_v3 main_v5
  let main_v7 : IVec S72 1 := andi main_v1 main_v6
  let main_c_2 : IVec S_ 1 := constantI S_ 1 1#1
  let main_v8 : IVec S_ 1 := (fun x v => Host.reduce IntOp.andi x v reducesTo_S72_S_d0 h_S_) main_v7 main_c_2
  main_v8
-- ==== Kernel.lean ====
abbrev S8x4096x3072 : Shape := ⟨3, ![8, 4096, 3072]⟩
abbrev S3x8x128x256 : Shape := ⟨4, ![3, 8, 128, 256]⟩
abbrev S8x4096x1024 : Shape := ⟨3, ![8, 4096, 1024]⟩
abbrev S1x4096x128 : Shape := ⟨3, ![1, 4096, 128]⟩
abbrev S3x1x128x256 : Shape := ⟨4, ![3, 1, 128, 256]⟩
abbrev S1x2048x128 : Shape := ⟨3, ![1, 2048, 128]⟩
abbrev S3x2048x128 : Shape := ⟨3, ![3, 2048, 128]⟩
abbrev S128x128 : Shape := ⟨2, ![128, 128]⟩
abbrev S1x1x128x128 : Shape := ⟨4, ![1, 1, 128, 128]⟩
abbrev S1x128x128 : Shape := ⟨3, ![1, 128, 128]⟩
abbrev S16x128x128 : Shape := ⟨3, ![16, 128, 128]⟩
abbrev S16x128 : Shape := ⟨2, ![16, 128]⟩
abbrev S16x128x1 : Shape := ⟨3, ![16, 128, 1]⟩
abbrev S1x128x1 : Shape := ⟨3, ![1, 128, 1]⟩
abbrev S128x1 : Shape := ⟨2, ![128, 1]⟩
abbrev S1x256x128 : Shape := ⟨3, ![1, 256, 128]⟩
abbrev S256x128 : Shape := ⟨2, ![256, 128]⟩

abbrev nBuf : Space → Nat
  | .hbm => 5
  | .vmem => 24
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x3072, .bf16⟩
  | .hbm, ⟨2, _⟩ => ⟨S8x4096x3072, .bf16⟩
  | .hbm, ⟨3, _⟩ => ⟨S3x8x128x256, .f32⟩
  | .hbm, ⟨4, _⟩ => ⟨S8x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S3x1x128x256, .f32⟩
  | .local _ .vmem, ⟨19, _⟩ => ⟨S3x1x128x256, .f32⟩
  | .local _ .vmem, ⟨20, _⟩ => ⟨S1x2048x128, .bf16⟩
  | .local _ .vmem, ⟨21, _⟩ => ⟨S1x2048x128, .bf16⟩
  | .local _ .vmem, ⟨22, _⟩ => ⟨S3x2048x128, .f32⟩
  | .local _ .vmem, ⟨23, _⟩ => ⟨S3x2048x128, .f32⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 8, 2], ![false, false, false]⟩

def k0_mult1 (i : grid0.Coords) : BitVec 32 :=
  let c0_i32 : BitVec 32 := 0#32
  let arg2 : BitVec 32 := BitVec.ofNat 32 (i 2).val
  let c2048_i32 : BitVec 32 := 2048#32
  let v8 : BitVec 32 := Scalar.muli arg2 c2048_i32
  let v9 : BitVec 32 := Scalar.addi c0_i32 v8
  let c0_i32_6 : BitVec 32 := 0#32
  let v10 : BitVec 32 := Scalar.addi v9 c0_i32_6
  v10
def k0_mult2 (i : grid0.Coords) : BitVec 32 :=
  let c0_i32 : BitVec 32 := 0#32
  let arg2 : BitVec 32 := BitVec.ofNat 32 (i 2).val
  let c2048_i32 : BitVec 32 := 2048#32
  let v8 : BitVec 32 := Scalar.muli arg2 c2048_i32
  let v9 : BitVec 32 := Scalar.addi c0_i32 v8
  let c0_i32_6 : BitVec 32 := 0#32
  let v10 : BitVec 32 := Scalar.addi v9 c0_i32_6
  let v11 : BitVec 32 := v10
  let c128_i32 : BitVec 32 := 128#32
  let v12 : BitVec 32 := Scalar.subi v11 c128_i32
  let c0_i32_7 : BitVec 32 := 0#32
  let v13 : BitVec 32 := Scalar.maxsi v12 c0_i32_7
  v13
def k0_mult3 (i : grid0.Coords) : BitVec 32 :=
  let c0_i32_10 : BitVec 32 := 0#32
  let arg2 : BitVec 32 := BitVec.ofNat 32 (i 2).val
  let c2048_i32_9 : BitVec 32 := 2048#32
  let v18 : BitVec 32 := Scalar.muli arg2 c2048_i32_9
  let v19 : BitVec 32 := Scalar.addi c0_i32_10 v18
  let c128_i32_11 : BitVec 32 := 128#32
  let v20 : BitVec 32 := Scalar.addi v19 c128_i32_11
  v20
def k0_mult4 (i : grid0.Coords) : BitVec 32 :=
  let c0_i32_10 : BitVec 32 := 0#32
  let arg2 : BitVec 32 := BitVec.ofNat 32 (i 2).val
  let c2048_i32_9 : BitVec 32 := 2048#32
  let v18 : BitVec 32 := Scalar.muli arg2 c2048_i32_9
  let v19 : BitVec 32 := Scalar.addi c0_i32_10 v18
  let c128_i32_11 : BitVec 32 := 128#32
  let v20 : BitVec 32 := Scalar.addi v19 c128_i32_11
  let v21 : BitVec 32 := v20
  let c128_i32_12 : BitVec 32 := 128#32
  let v22 : BitVec 32 := Scalar.subi v21 c128_i32_12
  let c0_i32_13 : BitVec 32 := 0#32
  let v23 : BitVec 32 := Scalar.maxsi v22 c0_i32_13
  v23
def k0_mult5 (i : grid0.Coords) : BitVec 32 :=
  let c0_i32_15 : BitVec 32 := 0#32
  let arg2 : BitVec 32 := BitVec.ofNat 32 (i 2).val
  let c2048_i32_14 : BitVec 32 := 2048#32
  let v25 : BitVec 32 := Scalar.muli arg2 c2048_i32_14
  let v26 : BitVec 32 := Scalar.addi c0_i32_15 v25
  let c256_i32 : BitVec 32 := 256#32
  let v27 : BitVec 32 := Scalar.addi v26 c256_i32
  v27
def k0_mult6 (i : grid0.Coords) : BitVec 32 :=
  let c0_i32_15 : BitVec 32 := 0#32
  let arg2 : BitVec 32 := BitVec.ofNat 32 (i 2).val
  let c2048_i32_14 : BitVec 32 := 2048#32
  let v25 : BitVec 32 := Scalar.muli arg2 c2048_i32_14
  let v26 : BitVec 32 := Scalar.addi c0_i32_15 v25
  let c256_i32 : BitVec 32 := 256#32
  let v27 : BitVec 32 := Scalar.addi v26 c256_i32
  let v28 : BitVec 32 := v27
  let c128_i32_16 : BitVec 32 := 128#32
  let v29 : BitVec 32 := Scalar.subi v28 c128_i32_16
  let c0_i32_17 : BitVec 32 := 0#32
  let v30 : BitVec 32 := Scalar.maxsi v29 c0_i32_17
  v30
def k0_mult7 (i : grid0.Coords) : BitVec 32 :=
  let c0_i32_19 : BitVec 32 := 0#32
  let arg2 : BitVec 32 := BitVec.ofNat 32 (i 2).val
  let c2048_i32_18 : BitVec 32 := 2048#32
  let v32 : BitVec 32 := Scalar.muli arg2 c2048_i32_18
  let v33 : BitVec 32 := Scalar.addi c0_i32_19 v32
  let c384_i32 : BitVec 32 := 384#32
  let v34 : BitVec 32 := Scalar.addi v33 c384_i32
  v34
def k0_mult8 (i : grid0.Coords) : BitVec 32 :=
  let c0_i32_19 : BitVec 32 := 0#32
  let arg2 : BitVec 32 := BitVec.ofNat 32 (i 2).val
  let c2048_i32_18 : BitVec 32 := 2048#32
  let v32 : BitVec 32 := Scalar.muli arg2 c2048_i32_18
  let v33 : BitVec 32 := Scalar.addi c0_i32_19 v32
  let c384_i32 : BitVec 32 := 384#32
  let v34 : BitVec 32 := Scalar.addi v33 c384_i32
  let v35 : BitVec 32 := v34
  let c128_i32_20 : BitVec 32 := 128#32
  let v36 : BitVec 32 := Scalar.subi v35 c128_i32_20
  let c0_i32_21 : BitVec 32 := 0#32
  let v37 : BitVec 32 := Scalar.maxsi v36 c0_i32_21
  v37
def k0_mult9 (i : grid0.Coords) : BitVec 32 :=
  let c0_i32_23 : BitVec 32 := 0#32
  let arg2 : BitVec 32 := BitVec.ofNat 32 (i 2).val
  let c2048_i32_22 : BitVec 32 := 2048#32
  let v39 : BitVec 32 := Scalar.muli arg2 c2048_i32_22
  let v40 : BitVec 32 := Scalar.addi c0_i32_23 v39
  let c512_i32 : BitVec 32 := 512#32
  let v41 : BitVec 32 := Scalar.addi v40 c512_i32
  v41
def k0_mult10 (i : grid0.Coords) : BitVec 32 :=
  let c0_i32_23 : BitVec 32 := 0#32
  let arg2 : BitVec 32 := BitVec.ofNat 32 (i 2).val
  let c2048_i32_22 : BitVec 32 := 2048#32
  let v39 : BitVec 32 := Scalar.muli arg2 c2048_i32_22
  let v40 : BitVec 32 := Scalar.addi c0_i32_23 v39
  let c512_i32 : BitVec 32 := 512#32
  let v41 : BitVec 32 := Scalar.addi v40 c512_i32
  let v42 : BitVec 32 := v41
  let c128_i32_24 : BitVec 32 := 128#32
  let v43 : BitVec 32 := Scalar.subi v42 c128_i32_24
  let c0_i32_25 : BitVec 32 := 0#32
  let v44 : BitVec 32 := Scalar.maxsi v43 c0_i32_25
  v44
def k0_mult11 (i : grid0.Coords) : BitVec 32 :=
  let c0_i32_27 : BitVec 32 := 0#32
  let arg2 : BitVec 32 := BitVec.ofNat 32 (i 2).val
  let c2048_i32_26 : BitVec 32 := 2048#32
  let v46 : BitVec 32 := Scalar.muli arg2 c2048_i32_26
  let v47 : BitVec 32 := Scalar.addi c0_i32_27 v46
  let c640_i32 : BitVec 32 := 640#32
  let v48 : BitVec 32 := Scalar.addi v47 c640_i32
  v48
def k0_mult12 (i : grid0.Coords) : BitVec 32 :=
  let c0_i32_27 : BitVec 32 := 0#32
  let arg2 : BitVec 32 := BitVec.ofNat 32 (i 2).val
  let c2048_i32_26 : BitVec 32 := 2048#32
  let v46 : BitVec 32 := Scalar.muli arg2 c2048_i32_26
  let v47 : BitVec 32 := Scalar.addi c0_i32_27 v46
  let c640_i32 : BitVec 32 := 640#32
  let v48 : BitVec 32 := Scalar.addi v47 c640_i32
  let v49 : BitVec 32 := v48
  let c128_i32_28 : BitVec 32 := 128#32
  let v50 : BitVec 32 := Scalar.subi v49 c128_i32_28
  let c0_i32_29 : BitVec 32 := 0#32
  let v51 : BitVec 32 := Scalar.maxsi v50 c0_i32_29
  v51
def k0_mult13 (i : grid0.Coords) : BitVec 32 :=
  let c0_i32_31 : BitVec 32 := 0#32
  let arg2 : BitVec 32 := BitVec.ofNat 32 (i 2).val
  let c2048_i32_30 : BitVec 32 := 2048#32
  let v53 : BitVec 32 := Scalar.muli arg2 c2048_i32_30
  let v54 : BitVec 32 := Scalar.addi c0_i32_31 v53
  let c768_i32 : BitVec 32 := 768#32
  let v55 : BitVec 32 := Scalar.addi v54 c768_i32
  v55
def k0_mult14 (i : grid0.Coords) : BitVec 32 :=
  let c0_i32_31 : BitVec 32 := 0#32
  let arg2 : BitVec 32 := BitVec.ofNat 32 (i 2).val
  let c2048_i32_30 : BitVec 32 := 2048#32
  let v53 : BitVec 32 := Scalar.muli arg2 c2048_i32_30
  let v54 : BitVec 32 := Scalar.addi c0_i32_31 v53
  let c768_i32 : BitVec 32 := 768#32
  let v55 : BitVec 32 := Scalar.addi v54 c768_i32
  let v56 : BitVec 32 := v55
  let c128_i32_32 : BitVec 32 := 128#32
  let v57 : BitVec 32 := Scalar.subi v56 c128_i32_32
  let c0_i32_33 : BitVec 32 := 0#32
  let v58 : BitVec 32 := Scalar.maxsi v57 c0_i32_33
  v58
def k0_mult15 (i : grid0.Coords) : BitVec 32 :=
  let c0_i32_35 : BitVec 32 := 0#32
  let arg2 : BitVec 32 := BitVec.ofNat 32 (i 2).val
  let c2048_i32_34 : BitVec 32 := 2048#32
  let v60 : BitVec 32 := Scalar.muli arg2 c2048_i32_34
  let v61 : BitVec 32 := Scalar.addi c0_i32_35 v60
  let c896_i32 : BitVec 32 := 896#32
  let v62 : BitVec 32 := Scalar.addi v61 c896_i32
  v62
def k0_mult16 (i : grid0.Coords) : BitVec 32 :=
  let c0_i32_35 : BitVec 32 := 0#32
  let arg2 : BitVec 32 := BitVec.ofNat 32 (i 2).val
  let c2048_i32_34 : BitVec 32 := 2048#32
  let v60 : BitVec 32 := Scalar.muli arg2 c2048_i32_34
  let v61 : BitVec 32 := Scalar.addi c0_i32_35 v60
  let c896_i32 : BitVec 32 := 896#32
  let v62 : BitVec 32 := Scalar.addi v61 c896_i32
  let v63 : BitVec 32 := v62
  let c128_i32_36 : BitVec 32 := 128#32
  let v64 : BitVec 32 := Scalar.subi v63 c128_i32_36
  let c0_i32_37 : BitVec 32 := 0#32
  let v65 : BitVec 32 := Scalar.maxsi v64 c0_i32_37
  v65
def k0_mult17 (i : grid0.Coords) : BitVec 32 :=
  let c0_i32_39 : BitVec 32 := 0#32
  let arg2 : BitVec 32 := BitVec.ofNat 32 (i 2).val
  let c2048_i32_38 : BitVec 32 := 2048#32
  let v67 : BitVec 32 := Scalar.muli arg2 c2048_i32_38
  let v68 : BitVec 32 := Scalar.addi c0_i32_39 v67
  let c1024_i32 : BitVec 32 := 1024#32
  let v69 : BitVec 32 := Scalar.addi v68 c1024_i32
  v69
def k0_mult18 (i : grid0.Coords) : BitVec 32 :=
  let c0_i32_39 : BitVec 32 := 0#32
  let arg2 : BitVec 32 := BitVec.ofNat 32 (i 2).val
  let c2048_i32_38 : BitVec 32 := 2048#32
  let v67 : BitVec 32 := Scalar.muli arg2 c2048_i32_38
  let v68 : BitVec 32 := Scalar.addi c0_i32_39 v67
  let c1024_i32 : BitVec 32 := 1024#32
  let v69 : BitVec 32 := Scalar.addi v68 c1024_i32
  let v70 : BitVec 32 := v69
  let c128_i32_40 : BitVec 32 := 128#32
  let v71 : BitVec 32 := Scalar.subi v70 c128_i32_40
  let c0_i32_41 : BitVec 32 := 0#32
  let v72 : BitVec 32 := Scalar.maxsi v71 c0_i32_41
  v72
def k0_mult19 (i : grid0.Coords) : BitVec 32 :=
  let c0_i32_43 : BitVec 32 := 0#32
  let arg2 : BitVec 32 := BitVec.ofNat 32 (i 2).val
  let c2048_i32_42 : BitVec 32 := 2048#32
  let v74 : BitVec 32 := Scalar.muli arg2 c2048_i32_42
  let v75 : BitVec 32 := Scalar.addi c0_i32_43 v74
  let c1152_i32 : BitVec 32 := 1152#32
  let v76 : BitVec 32 := Scalar.addi v75 c1152_i32
  v76
def k0_mult20 (i : grid0.Coords) : BitVec 32 :=
  let c0_i32_43 : BitVec 32 := 0#32
  let arg2 : BitVec 32 := BitVec.ofNat 32 (i 2).val
  let c2048_i32_42 : BitVec 32 := 2048#32
  let v74 : BitVec 32 := Scalar.muli arg2 c2048_i32_42
  let v75 : BitVec 32 := Scalar.addi c0_i32_43 v74
  let c1152_i32 : BitVec 32 := 1152#32
  let v76 : BitVec 32 := Scalar.addi v75 c1152_i32
  let v77 : BitVec 32 := v76
  let c128_i32_44 : BitVec 32 := 128#32
  let v78 : BitVec 32 := Scalar.subi v77 c128_i32_44
  let c0_i32_45 : BitVec 32 := 0#32
  let v79 : BitVec 32 := Scalar.maxsi v78 c0_i32_45
  v79
def k0_mult21 (i : grid0.Coords) : BitVec 32 :=
  let c0_i32_47 : BitVec 32 := 0#32
  let arg2 : BitVec 32 := BitVec.ofNat 32 (i 2).val
  let c2048_i32_46 : BitVec 32 := 2048#32
  let v81 : BitVec 32 := Scalar.muli arg2 c2048_i32_46
  let v82 : BitVec 32 := Scalar.addi c0_i32_47 v81
  let c1280_i32 : BitVec 32 := 1280#32
  let v83 : BitVec 32 := Scalar.addi v82 c1280_i32
  v83
def k0_mult22 (i : grid0.Coords) : BitVec 32 :=
  let c0_i32_47 : BitVec 32 := 0#32
  let arg2 : BitVec 32 := BitVec.ofNat 32 (i 2).val
  let c2048_i32_46 : BitVec 32 := 2048#32
  let v81 : BitVec 32 := Scalar.muli arg2 c2048_i32_46
  let v82 : BitVec 32 := Scalar.addi c0_i32_47 v81
  let c1280_i32 : BitVec 32 := 1280#32
  let v83 : BitVec 32 := Scalar.addi v82 c1280_i32
  let v84 : BitVec 32 := v83
  let c128_i32_48 : BitVec 32 := 128#32
  let v85 : BitVec 32 := Scalar.subi v84 c128_i32_48
  let c0_i32_49 : BitVec 32 := 0#32
  let v86 : BitVec 32 := Scalar.maxsi v85 c0_i32_49
  v86
def k0_mult23 (i : grid0.Coords) : BitVec 32 :=
  let c0_i32_51 : BitVec 32 := 0#32
  let arg2 : BitVec 32 := BitVec.ofNat 32 (i 2).val
  let c2048_i32_50 : BitVec 32 := 2048#32
  let v88 : BitVec 32 := Scalar.muli arg2 c2048_i32_50
  let v89 : BitVec 32 := Scalar.addi c0_i32_51 v88
  let c1408_i32 : BitVec 32 := 1408#32
  let v90 : BitVec 32 := Scalar.addi v89 c1408_i32
  v90
def k0_mult24 (i : grid0.Coords) : BitVec 32 :=
  let c0_i32_51 : BitVec 32 := 0#32
  let arg2 : BitVec 32 := BitVec.ofNat 32 (i 2).val
  let c2048_i32_50 : BitVec 32 := 2048#32
  let v88 : BitVec 32 := Scalar.muli arg2 c2048_i32_50
  let v89 : BitVec 32 := Scalar.addi c0_i32_51 v88
  let c1408_i32 : BitVec 32 := 1408#32
  let v90 : BitVec 32 := Scalar.addi v89 c1408_i32
  let v91 : BitVec 32 := v90
  let c128_i32_52 : BitVec 32 := 128#32
  let v92 : BitVec 32 := Scalar.subi v91 c128_i32_52
  let c0_i32_53 : BitVec 32 := 0#32
  let v93 : BitVec 32 := Scalar.maxsi v92 c0_i32_53
  v93
def k0_mult25 (i : grid0.Coords) : BitVec 32 :=
  let c0_i32_55 : BitVec 32 := 0#32
  let arg2 : BitVec 32 := BitVec.ofNat 32 (i 2).val
  let c2048_i32_54 : BitVec 32 := 2048#32
  let v95 : BitVec 32 := Scalar.muli arg2 c2048_i32_54
  let v96 : BitVec 32 := Scalar.addi c0_i32_55 v95
  let c1536_i32 : BitVec 32 := 1536#32
  let v97 : BitVec 32 := Scalar.addi v96 c1536_i32
  v97
def k0_mult26 (i : grid0.Coords) : BitVec 32 :=
  let c0_i32_55 : BitVec 32 := 0#32
  let arg2 : BitVec 32 := BitVec.ofNat 32 (i 2).val
  let c2048_i32_54 : BitVec 32 := 2048#32
  let v95 : BitVec 32 := Scalar.muli arg2 c2048_i32_54
  let v96 : BitVec 32 := Scalar.addi c0_i32_55 v95
  let c1536_i32 : BitVec 32 := 1536#32
  let v97 : BitVec 32 := Scalar.addi v96 c1536_i32
  let v98 : BitVec 32 := v97
  let c128_i32_56 : BitVec 32 := 128#32
  let v99 : BitVec 32 := Scalar.subi v98 c128_i32_56
  let c0_i32_57 : BitVec 32 := 0#32
  let v100 : BitVec 32 := Scalar.maxsi v99 c0_i32_57
  v100
def k0_mult27 (i : grid0.Coords) : BitVec 32 :=
  let c0_i32_59 : BitVec 32 := 0#32
  let arg2 : BitVec 32 := BitVec.ofNat 32 (i 2).val
  let c2048_i32_58 : BitVec 32 := 2048#32
  let v102 : BitVec 32 := Scalar.muli arg2 c2048_i32_58
  let v103 : BitVec 32 := Scalar.addi c0_i32_59 v102
  let c1664_i32 : BitVec 32 := 1664#32
  let v104 : BitVec 32 := Scalar.addi v103 c1664_i32
  v104
def k0_mult28 (i : grid0.Coords) : BitVec 32 :=
  let c0_i32_59 : BitVec 32 := 0#32
  let arg2 : BitVec 32 := BitVec.ofNat 32 (i 2).val
  let c2048_i32_58 : BitVec 32 := 2048#32
  let v102 : BitVec 32 := Scalar.muli arg2 c2048_i32_58
  let v103 : BitVec 32 := Scalar.addi c0_i32_59 v102
  let c1664_i32 : BitVec 32 := 1664#32
  let v104 : BitVec 32 := Scalar.addi v103 c1664_i32
  let v105 : BitVec 32 := v104
  let c128_i32_60 : BitVec 32 := 128#32
  let v106 : BitVec 32 := Scalar.subi v105 c128_i32_60
  let c0_i32_61 : BitVec 32 := 0#32
  let v107 : BitVec 32 := Scalar.maxsi v106 c0_i32_61
  v107
def k0_mult29 (i : grid0.Coords) : BitVec 32 :=
  let c0_i32_63 : BitVec 32 := 0#32
  let arg2 : BitVec 32 := BitVec.ofNat 32 (i 2).val
  let c2048_i32_62 : BitVec 32 := 2048#32
  let v109 : BitVec 32 := Scalar.muli arg2 c2048_i32_62
  let v110 : BitVec 32 := Scalar.addi c0_i32_63 v109
  let c1792_i32 : BitVec 32 := 1792#32
  let v111 : BitVec 32 := Scalar.addi v110 c1792_i32
  v111
def k0_mult30 (i : grid0.Coords) : BitVec 32 :=
  let c0_i32_63 : BitVec 32 := 0#32
  let arg2 : BitVec 32 := BitVec.ofNat 32 (i 2).val
  let c2048_i32_62 : BitVec 32 := 2048#32
  let v109 : BitVec 32 := Scalar.muli arg2 c2048_i32_62
  let v110 : BitVec 32 := Scalar.addi c0_i32_63 v109
  let c1792_i32 : BitVec 32 := 1792#32
  let v111 : BitVec 32 := Scalar.addi v110 c1792_i32
  let v112 : BitVec 32 := v111
  let c128_i32_64 : BitVec 32 := 128#32
  let v113 : BitVec 32 := Scalar.subi v112 c128_i32_64
  let c0_i32_65 : BitVec 32 := 0#32
  let v114 : BitVec 32 := Scalar.maxsi v113 c0_i32_65
  v114
def k0_mult31 (i : grid0.Coords) : BitVec 32 :=
  let c0_i32_67 : BitVec 32 := 0#32
  let arg2 : BitVec 32 := BitVec.ofNat 32 (i 2).val
  let c2048_i32_66 : BitVec 32 := 2048#32
  let v116 : BitVec 32 := Scalar.muli arg2 c2048_i32_66
  let v117 : BitVec 32 := Scalar.addi c0_i32_67 v116
  let c1920_i32 : BitVec 32 := 1920#32
  let v118 : BitVec 32 := Scalar.addi v117 c1920_i32
  v118
def k0_mult32 (i : grid0.Coords) : BitVec 32 :=
  let c0_i32_67 : BitVec 32 := 0#32
  let arg2 : BitVec 32 := BitVec.ofNat 32 (i 2).val
  let c2048_i32_66 : BitVec 32 := 2048#32
  let v116 : BitVec 32 := Scalar.muli arg2 c2048_i32_66
  let v117 : BitVec 32 := Scalar.addi c0_i32_67 v116
  let c1920_i32 : BitVec 32 := 1920#32
  let v118 : BitVec 32 := Scalar.addi v117 c1920_i32
  let v119 : BitVec 32 := v118
  let c128_i32_68 : BitVec 32 := 128#32
  let v120 : BitVec 32 := Scalar.subi v119 c128_i32_68
  let c0_i32_69 : BitVec 32 := 0#32
  let v121 : BitVec 32 := Scalar.maxsi v120 c0_i32_69
  v121
def k0_off1 (i : grid0.Coords) (c0_i32 : BitVec 32) (c2048_i32 : BitVec 32) (c0_i32_6 : BitVec 32) : Fin 3 → Nat :=
  let c0_70 : Index := 0#32
  let arg2 : BitVec 32 := BitVec.ofNat 32 (i 2).val
  let v8 : BitVec 32 := Scalar.muli arg2 c2048_i32
  let v9 : BitVec 32 := Scalar.addi c0_i32 v8
  let v10 : BitVec 32 := Scalar.addi v9 c0_i32_6
  let v11 : BitVec 32 := v10
  let v123 : Index := Scalar.indexCast v11
  let c0_71 : Index := 0#32
  ![0, v123.toNat, 0]
def k0_off1_at (r : Fin 48) : BitVec 32 × BitVec 32 × BitVec 32 :=
  if r.val < 24 then
    if r.val < 12 then
      if r.val < 6 then
        if r.val < 3 then
          if r.val < 1 then
            (0#32, 2048#32, 0#32)
          else
            if r.val < 2 then
              (0#32, 2048#32, 128#32)
            else
              (0#32, 2048#32, 256#32)
        else
          if r.val < 4 then
            (0#32, 2048#32, 384#32)
          else
            if r.val < 5 then
              (0#32, 2048#32, 512#32)
            else
              (0#32, 2048#32, 640#32)
      else
        if r.val < 9 then
          if r.val < 7 then
            (0#32, 2048#32, 768#32)
          else
            if r.val < 8 then
              (0#32, 2048#32, 896#32)
            else
              (0#32, 2048#32, 1024#32)
        else
          if r.val < 10 then
            (0#32, 2048#32, 1152#32)
          else
            if r.val < 11 then
              (0#32, 2048#32, 1280#32)
            else
              (0#32, 2048#32, 1408#32)
    else
      if r.val < 18 then
        if r.val < 15 then
          if r.val < 13 then
            (0#32, 2048#32, 1536#32)
          else
            if r.val < 14 then
              (0#32, 2048#32, 1664#32)
            else
              (0#32, 2048#32, 1792#32)
        else
          if r.val < 16 then
            (0#32, 2048#32, 1920#32)
          else
            if r.val < 17 then
              (0#32, 512#32, 0#32)
            else
              (0#32, 512#32, 128#32)
      else
        if r.val < 21 then
          if r.val < 19 then
            (0#32, 512#32, 256#32)
          else
            if r.val < 20 then
              (0#32, 512#32, 384#32)
            else
              (1024#32, 512#32, 0#32)
        else
          if r.val < 22 then
            (1024#32, 512#32, 128#32)
          else
            if r.val < 23 then
              (1024#32, 512#32, 256#32)
            else
              (1024#32, 512#32, 384#32)
  else
    if r.val < 36 then
      if r.val < 30 then
        if r.val < 27 then
          if r.val < 25 then
            (2048#32, 512#32, 0#32)
          else
            if r.val < 26 then
              (2048#32, 512#32, 128#32)
            else
              (2048#32, 512#32, 256#32)
        else
          if r.val < 28 then
            (2048#32, 512#32, 384#32)
          else
            if r.val < 29 then
              (3072#32, 512#32, 0#32)
            else
              (3072#32, 512#32, 128#32)
      else
        if r.val < 33 then
          if r.val < 31 then
            (3072#32, 512#32, 256#32)
          else
            if r.val < 32 then
              (3072#32, 512#32, 384#32)
            else
              (0#32, 128#32, 0#32)
        else
          if r.val < 34 then
            (256#32, 128#32, 0#32)
          else
            if r.val < 35 then
              (512#32, 128#32, 0#32)
            else
              (768#32, 128#32, 0#32)
    else
      if r.val < 42 then
        if r.val < 39 then
          if r.val < 37 then
            (1024#32, 128#32, 0#32)
          else
            if r.val < 38 then
              (1280#32, 128#32, 0#32)
            else
              (1536#32, 128#32, 0#32)
        else
          if r.val < 40 then
            (1792#32, 128#32, 0#32)
          else
            if r.val < 41 then
              (2048#32, 128#32, 0#32)
            else
              (2304#32, 128#32, 0#32)
      else
        if r.val < 45 then
          if r.val < 43 then
            (2560#32, 128#32, 0#32)
          else
            if r.val < 44 then
              (2816#32, 128#32, 0#32)
            else
              (3072#32, 128#32, 0#32)
        else
          if r.val < 46 then
            (3328#32, 128#32, 0#32)
          else
            if r.val < 47 then
              (3584#32, 128#32, 0#32)
            else
              (3840#32, 128#32, 0#32)
def k0_off2 (i : grid0.Coords) (c0_i32 : BitVec 32) (c2048_i32 : BitVec 32) (c0_i32_6 : BitVec 32) : Fin 3 → Nat :=
  let c0_134 : Index := 0#32
  let arg2 : BitVec 32 := BitVec.ofNat 32 (i 2).val
  let v8 : BitVec 32 := Scalar.muli arg2 c2048_i32
  let v9 : BitVec 32 := Scalar.addi c0_i32 v8
  let v10 : BitVec 32 := Scalar.addi v9 c0_i32_6
  let v11 : BitVec 32 := v10
  let c128_i32 : BitVec 32 := 128#32
  let v12 : BitVec 32 := Scalar.subi v11 c128_i32
  let c0_i32_7 : BitVec 32 := 0#32
  let v13 : BitVec 32 := Scalar.maxsi v12 c0_i32_7
  let v14 : BitVec 32 := v13
  let v254 : Index := Scalar.indexCast v14
  let c0_135 : Index := 0#32
  ![0, v254.toNat, 0]
def k0_off2_at (r : Fin 48) : BitVec 32 × BitVec 32 × BitVec 32 :=
  if r.val < 24 then
    if r.val < 12 then
      if r.val < 6 then
        if r.val < 3 then
          if r.val < 1 then
            (0#32, 2048#32, 0#32)
          else
            if r.val < 2 then
              (0#32, 2048#32, 128#32)
            else
              (0#32, 2048#32, 256#32)
        else
          if r.val < 4 then
            (0#32, 2048#32, 384#32)
          else
            if r.val < 5 then
              (0#32, 2048#32, 512#32)
            else
              (0#32, 2048#32, 640#32)
      else
        if r.val < 9 then
          if r.val < 7 then
            (0#32, 2048#32, 768#32)
          else
            if r.val < 8 then
              (0#32, 2048#32, 896#32)
            else
              (0#32, 2048#32, 1024#32)
        else
          if r.val < 10 then
            (0#32, 2048#32, 1152#32)
          else
            if r.val < 11 then
              (0#32, 2048#32, 1280#32)
            else
              (0#32, 2048#32, 1408#32)
    else
      if r.val < 18 then
        if r.val < 15 then
          if r.val < 13 then
            (0#32, 2048#32, 1536#32)
          else
            if r.val < 14 then
              (0#32, 2048#32, 1664#32)
            else
              (0#32, 2048#32, 1792#32)
        else
          if r.val < 16 then
            (0#32, 2048#32, 1920#32)
          else
            if r.val < 17 then
              (0#32, 512#32, 0#32)
            else
              (0#32, 512#32, 128#32)
      else
        if r.val < 21 then
          if r.val < 19 then
            (0#32, 512#32, 256#32)
          else
            if r.val < 20 then
              (0#32, 512#32, 384#32)
            else
              (1024#32, 512#32, 0#32)
        else
          if r.val < 22 then
            (1024#32, 512#32, 128#32)
          else
            if r.val < 23 then
              (1024#32, 512#32, 256#32)
            else
              (1024#32, 512#32, 384#32)
  else
    if r.val < 36 then
      if r.val < 30 then
        if r.val < 27 then
          if r.val < 25 then
            (2048#32, 512#32, 0#32)
          else
            if r.val < 26 then
              (2048#32, 512#32, 128#32)
            else
              (2048#32, 512#32, 256#32)
        else
          if r.val < 28 then
            (2048#32, 512#32, 384#32)
          else
            if r.val < 29 then
              (3072#32, 512#32, 0#32)
            else
              (3072#32, 512#32, 128#32)
      else
        if r.val < 33 then
          if r.val < 31 then
            (3072#32, 512#32, 256#32)
          else
            if r.val < 32 then
              (3072#32, 512#32, 384#32)
            else
              (0#32, 128#32, 0#32)
        else
          if r.val < 34 then
            (256#32, 128#32, 0#32)
          else
            if r.val < 35 then
              (512#32, 128#32, 0#32)
            else
              (768#32, 128#32, 0#32)
    else
      if r.val < 42 then
        if r.val < 39 then
          if r.val < 37 then
            (1024#32, 128#32, 0#32)
          else
            if r.val < 38 then
              (1280#32, 128#32, 0#32)
            else
              (1536#32, 128#32, 0#32)
        else
          if r.val < 40 then
            (1792#32, 128#32, 0#32)
          else
            if r.val < 41 then
              (2048#32, 128#32, 0#32)
            else
              (2304#32, 128#32, 0#32)
      else
        if r.val < 45 then
          if r.val < 43 then
            (2560#32, 128#32, 0#32)
          else
            if r.val < 44 then
              (2816#32, 128#32, 0#32)
            else
              (3072#32, 128#32, 0#32)
        else
          if r.val < 46 then
            (3328#32, 128#32, 0#32)
          else
            if r.val < 47 then
              (3584#32, 128#32, 0#32)
            else
              (3840#32, 128#32, 0#32)
def k0_mult33 (i : grid0.Coords) : BitVec 32 :=
  let c0_i32_329 : BitVec 32 := 0#32
  let arg2 : BitVec 32 := BitVec.ofNat 32 (i 2).val
  let c512_i32_328 : BitVec 32 := 512#32
  let v700 : BitVec 32 := Scalar.muli arg2 c512_i32_328
  let v701 : BitVec 32 := Scalar.addi c0_i32_329 v700
  let c0_i32_330 : BitVec 32 := 0#32
  let v702 : BitVec 32 := Scalar.addi v701 c0_i32_330
  v702
def k0_mult34 (i : grid0.Coords) : BitVec 32 :=
  let c0_i32_329 : BitVec 32 := 0#32
  let arg2 : BitVec 32 := BitVec.ofNat 32 (i 2).val
  let c512_i32_328 : BitVec 32 := 512#32
  let v700 : BitVec 32 := Scalar.muli arg2 c512_i32_328
  let v701 : BitVec 32 := Scalar.addi c0_i32_329 v700
  let c0_i32_330 : BitVec 32 := 0#32
  let v702 : BitVec 32 := Scalar.addi v701 c0_i32_330
  let v703 : BitVec 32 := v702
  let c128_i32_331 : BitVec 32 := 128#32
  let v704 : BitVec 32 := Scalar.subi v703 c128_i32_331
  let c0_i32_332 : BitVec 32 := 0#32
  let v705 : BitVec 32 := Scalar.maxsi v704 c0_i32_332
  v705
def k0_mult35 (i : grid0.Coords) : BitVec 32 :=
  let c0_i32_335 : BitVec 32 := 0#32
  let arg2 : BitVec 32 := BitVec.ofNat 32 (i 2).val
  let c512_i32_334 : BitVec 32 := 512#32
  let v710 : BitVec 32 := Scalar.muli arg2 c512_i32_334
  let v711 : BitVec 32 := Scalar.addi c0_i32_335 v710
  let c128_i32_336 : BitVec 32 := 128#32
  let v712 : BitVec 32 := Scalar.addi v711 c128_i32_336
  v712
def k0_mult36 (i : grid0.Coords) : BitVec 32 :=
  let c0_i32_335 : BitVec 32 := 0#32
  let arg2 : BitVec 32 := BitVec.ofNat 32 (i 2).val
  let c512_i32_334 : BitVec 32 := 512#32
  let v710 : BitVec 32 := Scalar.muli arg2 c512_i32_334
  let v711 : BitVec 32 := Scalar.addi c0_i32_335 v710
  let c128_i32_336 : BitVec 32 := 128#32
  let v712 : BitVec 32 := Scalar.addi v711 c128_i32_336
  let v713 : BitVec 32 := v712
  let c128_i32_337 : BitVec 32 := 128#32
  let v714 : BitVec 32 := Scalar.subi v713 c128_i32_337
  let c0_i32_338 : BitVec 32 := 0#32
  let v715 : BitVec 32 := Scalar.maxsi v714 c0_i32_338
  v715
def k0_mult37 (i : grid0.Coords) : BitVec 32 :=
  let c0_i32_340 : BitVec 32 := 0#32
  let arg2 : BitVec 32 := BitVec.ofNat 32 (i 2).val
  let c512_i32_339 : BitVec 32 := 512#32
  let v717 : BitVec 32 := Scalar.muli arg2 c512_i32_339
  let v718 : BitVec 32 := Scalar.addi c0_i32_340 v717
  let c256_i32_341 : BitVec 32 := 256#32
  let v719 : BitVec 32 := Scalar.addi v718 c256_i32_341
  v719
def k0_mult38 (i : grid0.Coords) : BitVec 32 :=
  let c0_i32_340 : BitVec 32 := 0#32
  let arg2 : BitVec 32 := BitVec.ofNat 32 (i 2).val
  let c512_i32_339 : BitVec 32 := 512#32
  let v717 : BitVec 32 := Scalar.muli arg2 c512_i32_339
  let v718 : BitVec 32 := Scalar.addi c0_i32_340 v717
  let c256_i32_341 : BitVec 32 := 256#32
  let v719 : BitVec 32 := Scalar.addi v718 c256_i32_341
  let v720 : BitVec 32 := v719
  let c128_i32_342 : BitVec 32 := 128#32
  let v721 : BitVec 32 := Scalar.subi v720 c128_i32_342
  let c0_i32_343 : BitVec 32 := 0#32
  let v722 : BitVec 32 := Scalar.maxsi v721 c0_i32_343
  v722
def k0_mult39 (i : grid0.Coords) : BitVec 32 :=
  let c0_i32_345 : BitVec 32 := 0#32
  let arg2 : BitVec 32 := BitVec.ofNat 32 (i 2).val
  let c512_i32_344 : BitVec 32 := 512#32
  let v724 : BitVec 32 := Scalar.muli arg2 c512_i32_344
  let v725 : BitVec 32 := Scalar.addi c0_i32_345 v724
  let c384_i32_346 : BitVec 32 := 384#32
  let v726 : BitVec 32 := Scalar.addi v725 c384_i32_346
  v726
def k0_mult40 (i : grid0.Coords) : BitVec 32 :=
  let c0_i32_345 : BitVec 32 := 0#32
  let arg2 : BitVec 32 := BitVec.ofNat 32 (i 2).val
  let c512_i32_344 : BitVec 32 := 512#32
  let v724 : BitVec 32 := Scalar.muli arg2 c512_i32_344
  let v725 : BitVec 32 := Scalar.addi c0_i32_345 v724
  let c384_i32_346 : BitVec 32 := 384#32
  let v726 : BitVec 32 := Scalar.addi v725 c384_i32_346
  let v727 : BitVec 32 := v726
  let c128_i32_347 : BitVec 32 := 128#32
  let v728 : BitVec 32 := Scalar.subi v727 c128_i32_347
  let c0_i32_348 : BitVec 32 := 0#32
  let v729 : BitVec 32 := Scalar.maxsi v728 c0_i32_348
  v729
def k0_mult41 (i : grid0.Coords) : BitVec 32 :=
  let c1024_i32_350 : BitVec 32 := 1024#32
  let arg2 : BitVec 32 := BitVec.ofNat 32 (i 2).val
  let c512_i32_349 : BitVec 32 := 512#32
  let v731 : BitVec 32 := Scalar.muli arg2 c512_i32_349
  let v732 : BitVec 32 := Scalar.addi c1024_i32_350 v731
  let c0_i32_351 : BitVec 32 := 0#32
  let v733 : BitVec 32 := Scalar.addi v732 c0_i32_351
  v733
def k0_mult42 (i : grid0.Coords) : BitVec 32 :=
  let c1024_i32_350 : BitVec 32 := 1024#32
  let arg2 : BitVec 32 := BitVec.ofNat 32 (i 2).val
  let c512_i32_349 : BitVec 32 := 512#32
  let v731 : BitVec 32 := Scalar.muli arg2 c512_i32_349
  let v732 : BitVec 32 := Scalar.addi c1024_i32_350 v731
  let c0_i32_351 : BitVec 32 := 0#32
  let v733 : BitVec 32 := Scalar.addi v732 c0_i32_351
  let v734 : BitVec 32 := v733
  let c128_i32_352 : BitVec 32 := 128#32
  let v735 : BitVec 32 := Scalar.subi v734 c128_i32_352
  let c0_i32_353 : BitVec 32 := 0#32
  let v736 : BitVec 32 := Scalar.maxsi v735 c0_i32_353
  v736
def k0_mult43 (i : grid0.Coords) : BitVec 32 :=
  let c1024_i32_356 : BitVec 32 := 1024#32
  let arg2 : BitVec 32 := BitVec.ofNat 32 (i 2).val
  let c512_i32_355 : BitVec 32 := 512#32
  let v741 : BitVec 32 := Scalar.muli arg2 c512_i32_355
  let v742 : BitVec 32 := Scalar.addi c1024_i32_356 v741
  let c128_i32_357 : BitVec 32 := 128#32
  let v743 : BitVec 32 := Scalar.addi v742 c128_i32_357
  v743
def k0_mult44 (i : grid0.Coords) : BitVec 32 :=
  let c1024_i32_356 : BitVec 32 := 1024#32
  let arg2 : BitVec 32 := BitVec.ofNat 32 (i 2).val
  let c512_i32_355 : BitVec 32 := 512#32
  let v741 : BitVec 32 := Scalar.muli arg2 c512_i32_355
  let v742 : BitVec 32 := Scalar.addi c1024_i32_356 v741
  let c128_i32_357 : BitVec 32 := 128#32
  let v743 : BitVec 32 := Scalar.addi v742 c128_i32_357
  let v744 : BitVec 32 := v743
  let c128_i32_358 : BitVec 32 := 128#32
  let v745 : BitVec 32 := Scalar.subi v744 c128_i32_358
  let c0_i32_359 : BitVec 32 := 0#32
  let v746 : BitVec 32 := Scalar.maxsi v745 c0_i32_359
  v746
def k0_mult45 (i : grid0.Coords) : BitVec 32 :=
  let c1024_i32_361 : BitVec 32 := 1024#32
  let arg2 : BitVec 32 := BitVec.ofNat 32 (i 2).val
  let c512_i32_360 : BitVec 32 := 512#32
  let v748 : BitVec 32 := Scalar.muli arg2 c512_i32_360
  let v749 : BitVec 32 := Scalar.addi c1024_i32_361 v748
  let c256_i32_362 : BitVec 32 := 256#32
  let v750 : BitVec 32 := Scalar.addi v749 c256_i32_362
  v750
def k0_mult46 (i : grid0.Coords) : BitVec 32 :=
  let c1024_i32_361 : BitVec 32 := 1024#32
  let arg2 : BitVec 32 := BitVec.ofNat 32 (i 2).val
  let c512_i32_360 : BitVec 32 := 512#32
  let v748 : BitVec 32 := Scalar.muli arg2 c512_i32_360
  let v749 : BitVec 32 := Scalar.addi c1024_i32_361 v748
  let c256_i32_362 : BitVec 32 := 256#32
  let v750 : BitVec 32 := Scalar.addi v749 c256_i32_362
  let v751 : BitVec 32 := v750
  let c128_i32_363 : BitVec 32 := 128#32
  let v752 : BitVec 32 := Scalar.subi v751 c128_i32_363
  let c0_i32_364 : BitVec 32 := 0#32
  let v753 : BitVec 32 := Scalar.maxsi v752 c0_i32_364
  v753
def k0_mult47 (i : grid0.Coords) : BitVec 32 :=
  let c1024_i32_366 : BitVec 32 := 1024#32
  let arg2 : BitVec 32 := BitVec.ofNat 32 (i 2).val
  let c512_i32_365 : BitVec 32 := 512#32
  let v755 : BitVec 32 := Scalar.muli arg2 c512_i32_365
  let v756 : BitVec 32 := Scalar.addi c1024_i32_366 v755
  let c384_i32_367 : BitVec 32 := 384#32
  let v757 : BitVec 32 := Scalar.addi v756 c384_i32_367
  v757
def k0_mult48 (i : grid0.Coords) : BitVec 32 :=
  let c1024_i32_366 : BitVec 32 := 1024#32
  let arg2 : BitVec 32 := BitVec.ofNat 32 (i 2).val
  let c512_i32_365 : BitVec 32 := 512#32
  let v755 : BitVec 32 := Scalar.muli arg2 c512_i32_365
  let v756 : BitVec 32 := Scalar.addi c1024_i32_366 v755
  let c384_i32_367 : BitVec 32 := 384#32
  let v757 : BitVec 32 := Scalar.addi v756 c384_i32_367
  let v758 : BitVec 32 := v757
  let c128_i32_368 : BitVec 32 := 128#32
  let v759 : BitVec 32 := Scalar.subi v758 c128_i32_368
  let c0_i32_369 : BitVec 32 := 0#32
  let v760 : BitVec 32 := Scalar.maxsi v759 c0_i32_369
  v760
def k0_mult49 (i : grid0.Coords) : BitVec 32 :=
  let c2048_i32_371 : BitVec 32 := 2048#32
  let arg2 : BitVec 32 := BitVec.ofNat 32 (i 2).val
  let c512_i32_370 : BitVec 32 := 512#32
  let v762 : BitVec 32 := Scalar.muli arg2 c512_i32_370
  let v763 : BitVec 32 := Scalar.addi c2048_i32_371 v762
  let c0_i32_372 : BitVec 32 := 0#32
  let v764 : BitVec 32 := Scalar.addi v763 c0_i32_372
  v764
def k0_mult50 (i : grid0.Coords) : BitVec 32 :=
  let c2048_i32_371 : BitVec 32 := 2048#32
  let arg2 : BitVec 32 := BitVec.ofNat 32 (i 2).val
  let c512_i32_370 : BitVec 32 := 512#32
  let v762 : BitVec 32 := Scalar.muli arg2 c512_i32_370
  let v763 : BitVec 32 := Scalar.addi c2048_i32_371 v762
  let c0_i32_372 : BitVec 32 := 0#32
  let v764 : BitVec 32 := Scalar.addi v763 c0_i32_372
  let v765 : BitVec 32 := v764
  let c128_i32_373 : BitVec 32 := 128#32
  let v766 : BitVec 32 := Scalar.subi v765 c128_i32_373
  let c0_i32_374 : BitVec 32 := 0#32
  let v767 : BitVec 32 := Scalar.maxsi v766 c0_i32_374
  v767
def k0_mult51 (i : grid0.Coords) : BitVec 32 :=
  let c2048_i32_377 : BitVec 32 := 2048#32
  let arg2 : BitVec 32 := BitVec.ofNat 32 (i 2).val
  let c512_i32_376 : BitVec 32 := 512#32
  let v772 : BitVec 32 := Scalar.muli arg2 c512_i32_376
  let v773 : BitVec 32 := Scalar.addi c2048_i32_377 v772
  let c128_i32_378 : BitVec 32 := 128#32
  let v774 : BitVec 32 := Scalar.addi v773 c128_i32_378
  v774
def k0_mult52 (i : grid0.Coords) : BitVec 32 :=
  let c2048_i32_377 : BitVec 32 := 2048#32
  let arg2 : BitVec 32 := BitVec.ofNat 32 (i 2).val
  let c512_i32_376 : BitVec 32 := 512#32
  let v772 : BitVec 32 := Scalar.muli arg2 c512_i32_376
  let v773 : BitVec 32 := Scalar.addi c2048_i32_377 v772
  let c128_i32_378 : BitVec 32 := 128#32
  let v774 : BitVec 32 := Scalar.addi v773 c128_i32_378
  let v775 : BitVec 32 := v774
  let c128_i32_379 : BitVec 32 := 128#32
  let v776 : BitVec 32 := Scalar.subi v775 c128_i32_379
  let c0_i32_380 : BitVec 32 := 0#32
  let v777 : BitVec 32 := Scalar.maxsi v776 c0_i32_380
  v777
def k0_mult53 (i : grid0.Coords) : BitVec 32 :=
  let c2048_i32_382 : BitVec 32 := 2048#32
  let arg2 : BitVec 32 := BitVec.ofNat 32 (i 2).val
  let c512_i32_381 : BitVec 32 := 512#32
  let v779 : BitVec 32 := Scalar.muli arg2 c512_i32_381
  let v780 : BitVec 32 := Scalar.addi c2048_i32_382 v779
  let c256_i32_383 : BitVec 32 := 256#32
  let v781 : BitVec 32 := Scalar.addi v780 c256_i32_383
  v781
def k0_mult54 (i : grid0.Coords) : BitVec 32 :=
  let c2048_i32_382 : BitVec 32 := 2048#32
  let arg2 : BitVec 32 := BitVec.ofNat 32 (i 2).val
  let c512_i32_381 : BitVec 32 := 512#32
  let v779 : BitVec 32 := Scalar.muli arg2 c512_i32_381
  let v780 : BitVec 32 := Scalar.addi c2048_i32_382 v779
  let c256_i32_383 : BitVec 32 := 256#32
  let v781 : BitVec 32 := Scalar.addi v780 c256_i32_383
  let v782 : BitVec 32 := v781
  let c128_i32_384 : BitVec 32 := 128#32
  let v783 : BitVec 32 := Scalar.subi v782 c128_i32_384
  let c0_i32_385 : BitVec 32 := 0#32
  let v784 : BitVec 32 := Scalar.maxsi v783 c0_i32_385
  v784
def k0_mult55 (i : grid0.Coords) : BitVec 32 :=
  let c2048_i32_387 : BitVec 32 := 2048#32
  let arg2 : BitVec 32 := BitVec.ofNat 32 (i 2).val
  let c512_i32_386 : BitVec 32 := 512#32
  let v786 : BitVec 32 := Scalar.muli arg2 c512_i32_386
  let v787 : BitVec 32 := Scalar.addi c2048_i32_387 v786
  let c384_i32_388 : BitVec 32 := 384#32
  let v788 : BitVec 32 := Scalar.addi v787 c384_i32_388
  v788
def k0_mult56 (i : grid0.Coords) : BitVec 32 :=
  let c2048_i32_387 : BitVec 32 := 2048#32
  let arg2 : BitVec 32 := BitVec.ofNat 32 (i 2).val
  let c512_i32_386 : BitVec 32 := 512#32
  let v786 : BitVec 32 := Scalar.muli arg2 c512_i32_386
  let v787 : BitVec 32 := Scalar.addi c2048_i32_387 v786
  let c384_i32_388 : BitVec 32 := 384#32
  let v788 : BitVec 32 := Scalar.addi v787 c384_i32_388
  let v789 : BitVec 32 := v788
  let c128_i32_389 : BitVec 32 := 128#32
  let v790 : BitVec 32 := Scalar.subi v789 c128_i32_389
  let c0_i32_390 : BitVec 32 := 0#32
  let v791 : BitVec 32 := Scalar.maxsi v790 c0_i32_390
  v791
def k0_mult57 (i : grid0.Coords) : BitVec 32 :=
  let c3072_i32 : BitVec 32 := 3072#32
  let arg2 : BitVec 32 := BitVec.ofNat 32 (i 2).val
  let c512_i32_391 : BitVec 32 := 512#32
  let v793 : BitVec 32 := Scalar.muli arg2 c512_i32_391
  let v794 : BitVec 32 := Scalar.addi c3072_i32 v793
  let c0_i32_392 : BitVec 32 := 0#32
  let v795 : BitVec 32 := Scalar.addi v794 c0_i32_392
  v795
def k0_mult58 (i : grid0.Coords) : BitVec 32 :=
  let c3072_i32 : BitVec 32 := 3072#32
  let arg2 : BitVec 32 := BitVec.ofNat 32 (i 2).val
  let c512_i32_391 : BitVec 32 := 512#32
  let v793 : BitVec 32 := Scalar.muli arg2 c512_i32_391
  let v794 : BitVec 32 := Scalar.addi c3072_i32 v793
  let c0_i32_392 : BitVec 32 := 0#32
  let v795 : BitVec 32 := Scalar.addi v794 c0_i32_392
  let v796 : BitVec 32 := v795
  let c128_i32_393 : BitVec 32 := 128#32
  let v797 : BitVec 32 := Scalar.subi v796 c128_i32_393
  let c0_i32_394 : BitVec 32 := 0#32
  let v798 : BitVec 32 := Scalar.maxsi v797 c0_i32_394
  v798
def k0_mult59 (i : grid0.Coords) : BitVec 32 :=
  let c3072_i32_397 : BitVec 32 := 3072#32
  let arg2 : BitVec 32 := BitVec.ofNat 32 (i 2).val
  let c512_i32_396 : BitVec 32 := 512#32
  let v803 : BitVec 32 := Scalar.muli arg2 c512_i32_396
  let v804 : BitVec 32 := Scalar.addi c3072_i32_397 v803
  let c128_i32_398 : BitVec 32 := 128#32
  let v805 : BitVec 32 := Scalar.addi v804 c128_i32_398
  v805
def k0_mult60 (i : grid0.Coords) : BitVec 32 :=
  let c3072_i32_397 : BitVec 32 := 3072#32
  let arg2 : BitVec 32 := BitVec.ofNat 32 (i 2).val
  let c512_i32_396 : BitVec 32 := 512#32
  let v803 : BitVec 32 := Scalar.muli arg2 c512_i32_396
  let v804 : BitVec 32 := Scalar.addi c3072_i32_397 v803
  let c128_i32_398 : BitVec 32 := 128#32
  let v805 : BitVec 32 := Scalar.addi v804 c128_i32_398
  let v806 : BitVec 32 := v805
  let c128_i32_399 : BitVec 32 := 128#32
  let v807 : BitVec 32 := Scalar.subi v806 c128_i32_399
  let c0_i32_400 : BitVec 32 := 0#32
  let v808 : BitVec 32 := Scalar.maxsi v807 c0_i32_400
  v808
def k0_mult61 (i : grid0.Coords) : BitVec 32 :=
  let c3072_i32_402 : BitVec 32 := 3072#32
  let arg2 : BitVec 32 := BitVec.ofNat 32 (i 2).val
  let c512_i32_401 : BitVec 32 := 512#32
  let v810 : BitVec 32 := Scalar.muli arg2 c512_i32_401
  let v811 : BitVec 32 := Scalar.addi c3072_i32_402 v810
  let c256_i32_403 : BitVec 32 := 256#32
  let v812 : BitVec 32 := Scalar.addi v811 c256_i32_403
  v812
def k0_mult62 (i : grid0.Coords) : BitVec 32 :=
  let c3072_i32_402 : BitVec 32 := 3072#32
  let arg2 : BitVec 32 := BitVec.ofNat 32 (i 2).val
  let c512_i32_401 : BitVec 32 := 512#32
  let v810 : BitVec 32 := Scalar.muli arg2 c512_i32_401
  let v811 : BitVec 32 := Scalar.addi c3072_i32_402 v810
  let c256_i32_403 : BitVec 32 := 256#32
  let v812 : BitVec 32 := Scalar.addi v811 c256_i32_403
  let v813 : BitVec 32 := v812
  let c128_i32_404 : BitVec 32 := 128#32
  let v814 : BitVec 32 := Scalar.subi v813 c128_i32_404
  let c0_i32_405 : BitVec 32 := 0#32
  let v815 : BitVec 32 := Scalar.maxsi v814 c0_i32_405
  v815
def k0_mult63 (i : grid0.Coords) : BitVec 32 :=
  let c3072_i32_407 : BitVec 32 := 3072#32
  let arg2 : BitVec 32 := BitVec.ofNat 32 (i 2).val
  let c512_i32_406 : BitVec 32 := 512#32
  let v817 : BitVec 32 := Scalar.muli arg2 c512_i32_406
  let v818 : BitVec 32 := Scalar.addi c3072_i32_407 v817
  let c384_i32_408 : BitVec 32 := 384#32
  let v819 : BitVec 32 := Scalar.addi v818 c384_i32_408
  v819
def k0_mult64 (i : grid0.Coords) : BitVec 32 :=
  let c3072_i32_407 : BitVec 32 := 3072#32
  let arg2 : BitVec 32 := BitVec.ofNat 32 (i 2).val
  let c512_i32_406 : BitVec 32 := 512#32
  let v817 : BitVec 32 := Scalar.muli arg2 c512_i32_406
  let v818 : BitVec 32 := Scalar.addi c3072_i32_407 v817
  let c384_i32_408 : BitVec 32 := 384#32
  let v819 : BitVec 32 := Scalar.addi v818 c384_i32_408
  let v820 : BitVec 32 := v819
  let c128_i32_409 : BitVec 32 := 128#32
  let v821 : BitVec 32 := Scalar.subi v820 c128_i32_409
  let c0_i32_410 : BitVec 32 := 0#32
  let v822 : BitVec 32 := Scalar.maxsi v821 c0_i32_410
  v822
def k0_mult65 (i : grid0.Coords) : BitVec 32 :=
  let c0_i32_675 : BitVec 32 := 0#32
  let arg2 : BitVec 32 := BitVec.ofNat 32 (i 2).val
  let c128_i32_674 : BitVec 32 := 128#32
  let v1401 : BitVec 32 := Scalar.muli arg2 c128_i32_674
  let v1402 : BitVec 32 := Scalar.addi c0_i32_675 v1401
  let c0_i32_676 : BitVec 32 := 0#32
  let v1403 : BitVec 32 := Scalar.addi v1402 c0_i32_676
  v1403
def k0_mult66 (i : grid0.Coords) : BitVec 32 :=
  let c0_i32_675 : BitVec 32 := 0#32
  let arg2 : BitVec 32 := BitVec.ofNat 32 (i 2).val
  let c128_i32_674 : BitVec 32 := 128#32
  let v1401 : BitVec 32 := Scalar.muli arg2 c128_i32_674
  let v1402 : BitVec 32 := Scalar.addi c0_i32_675 v1401
  let c0_i32_676 : BitVec 32 := 0#32
  let v1403 : BitVec 32 := Scalar.addi v1402 c0_i32_676
  let v1404 : BitVec 32 := v1403
  let c128_i32_677 : BitVec 32 := 128#32
  let v1405 : BitVec 32 := Scalar.subi v1404 c128_i32_677
  let c0_i32_678 : BitVec 32 := 0#32
  let v1406 : BitVec 32 := Scalar.maxsi v1405 c0_i32_678
  v1406
def k0_mult67 (i : grid0.Coords) : BitVec 32 :=
  let c256_i32_681 : BitVec 32 := 256#32
  let arg2 : BitVec 32 := BitVec.ofNat 32 (i 2).val
  let c128_i32_680 : BitVec 32 := 128#32
  let v1411 : BitVec 32 := Scalar.muli arg2 c128_i32_680
  let v1412 : BitVec 32 := Scalar.addi c256_i32_681 v1411
  let c0_i32_682 : BitVec 32 := 0#32
  let v1413 : BitVec 32 := Scalar.addi v1412 c0_i32_682
  v1413
def k0_mult68 (i : grid0.Coords) : BitVec 32 :=
  let c256_i32_681 : BitVec 32 := 256#32
  let arg2 : BitVec 32 := BitVec.ofNat 32 (i 2).val
  let c128_i32_680 : BitVec 32 := 128#32
  let v1411 : BitVec 32 := Scalar.muli arg2 c128_i32_680
  let v1412 : BitVec 32 := Scalar.addi c256_i32_681 v1411
  let c0_i32_682 : BitVec 32 := 0#32
  let v1413 : BitVec 32 := Scalar.addi v1412 c0_i32_682
  let v1414 : BitVec 32 := v1413
  let c128_i32_683 : BitVec 32 := 128#32
  let v1415 : BitVec 32 := Scalar.subi v1414 c128_i32_683
  let c0_i32_684 : BitVec 32 := 0#32
  let v1416 : BitVec 32 := Scalar.maxsi v1415 c0_i32_684
  v1416
def k0_mult69 (i : grid0.Coords) : BitVec 32 :=
  let c512_i32_687 : BitVec 32 := 512#32
  let arg2 : BitVec 32 := BitVec.ofNat 32 (i 2).val
  let c128_i32_686 : BitVec 32 := 128#32
  let v1421 : BitVec 32 := Scalar.muli arg2 c128_i32_686
  let v1422 : BitVec 32 := Scalar.addi c512_i32_687 v1421
  let c0_i32_688 : BitVec 32 := 0#32
  let v1423 : BitVec 32 := Scalar.addi v1422 c0_i32_688
  v1423
def k0_mult70 (i : grid0.Coords) : BitVec 32 :=
  let c512_i32_687 : BitVec 32 := 512#32
  let arg2 : BitVec 32 := BitVec.ofNat 32 (i 2).val
  let c128_i32_686 : BitVec 32 := 128#32
  let v1421 : BitVec 32 := Scalar.muli arg2 c128_i32_686
  let v1422 : BitVec 32 := Scalar.addi c512_i32_687 v1421
  let c0_i32_688 : BitVec 32 := 0#32
  let v1423 : BitVec 32 := Scalar.addi v1422 c0_i32_688
  let v1424 : BitVec 32 := v1423
  let c128_i32_689 : BitVec 32 := 128#32
  let v1425 : BitVec 32 := Scalar.subi v1424 c128_i32_689
  let c0_i32_690 : BitVec 32 := 0#32
  let v1426 : BitVec 32 := Scalar.maxsi v1425 c0_i32_690
  v1426
def k0_mult71 (i : grid0.Coords) : BitVec 32 :=
  let c768_i32_693 : BitVec 32 := 768#32
  let arg2 : BitVec 32 := BitVec.ofNat 32 (i 2).val
  let c128_i32_692 : BitVec 32 := 128#32
  let v1431 : BitVec 32 := Scalar.muli arg2 c128_i32_692
  let v1432 : BitVec 32 := Scalar.addi c768_i32_693 v1431
  let c0_i32_694 : BitVec 32 := 0#32
  let v1433 : BitVec 32 := Scalar.addi v1432 c0_i32_694
  v1433
def k0_mult72 (i : grid0.Coords) : BitVec 32 :=
  let c768_i32_693 : BitVec 32 := 768#32
  let arg2 : BitVec 32 := BitVec.ofNat 32 (i 2).val
  let c128_i32_692 : BitVec 32 := 128#32
  let v1431 : BitVec 32 := Scalar.muli arg2 c128_i32_692
  let v1432 : BitVec 32 := Scalar.addi c768_i32_693 v1431
  let c0_i32_694 : BitVec 32 := 0#32
  let v1433 : BitVec 32 := Scalar.addi v1432 c0_i32_694
  let v1434 : BitVec 32 := v1433
  let c128_i32_695 : BitVec 32 := 128#32
  let v1435 : BitVec 32 := Scalar.subi v1434 c128_i32_695
  let c0_i32_696 : BitVec 32 := 0#32
  let v1436 : BitVec 32 := Scalar.maxsi v1435 c0_i32_696
  v1436
def k0_mult73 (i : grid0.Coords) : BitVec 32 :=
  let c1024_i32_699 : BitVec 32 := 1024#32
  let arg2 : BitVec 32 := BitVec.ofNat 32 (i 2).val
  let c128_i32_698 : BitVec 32 := 128#32
  let v1441 : BitVec 32 := Scalar.muli arg2 c128_i32_698
  let v1442 : BitVec 32 := Scalar.addi c1024_i32_699 v1441
  let c0_i32_700 : BitVec 32 := 0#32
  let v1443 : BitVec 32 := Scalar.addi v1442 c0_i32_700
  v1443
def k0_mult74 (i : grid0.Coords) : BitVec 32 :=
  let c1024_i32_699 : BitVec 32 := 1024#32
  let arg2 : BitVec 32 := BitVec.ofNat 32 (i 2).val
  let c128_i32_698 : BitVec 32 := 128#32
  let v1441 : BitVec 32 := Scalar.muli arg2 c128_i32_698
  let v1442 : BitVec 32 := Scalar.addi c1024_i32_699 v1441
  let c0_i32_700 : BitVec 32 := 0#32
  let v1443 : BitVec 32 := Scalar.addi v1442 c0_i32_700
  let v1444 : BitVec 32 := v1443
  let c128_i32_701 : BitVec 32 := 128#32
  let v1445 : BitVec 32 := Scalar.subi v1444 c128_i32_701
  let c0_i32_702 : BitVec 32 := 0#32
  let v1446 : BitVec 32 := Scalar.maxsi v1445 c0_i32_702
  v1446
def k0_mult75 (i : grid0.Coords) : BitVec 32 :=
  let c1280_i32_705 : BitVec 32 := 1280#32
  let arg2 : BitVec 32 := BitVec.ofNat 32 (i 2).val
  let c128_i32_704 : BitVec 32 := 128#32
  let v1451 : BitVec 32 := Scalar.muli arg2 c128_i32_704
  let v1452 : BitVec 32 := Scalar.addi c1280_i32_705 v1451
  let c0_i32_706 : BitVec 32 := 0#32
  let v1453 : BitVec 32 := Scalar.addi v1452 c0_i32_706
  v1453
def k0_mult76 (i : grid0.Coords) : BitVec 32 :=
  let c1280_i32_705 : BitVec 32 := 1280#32
  let arg2 : BitVec 32 := BitVec.ofNat 32 (i 2).val
  let c128_i32_704 : BitVec 32 := 128#32
  let v1451 : BitVec 32 := Scalar.muli arg2 c128_i32_704
  let v1452 : BitVec 32 := Scalar.addi c1280_i32_705 v1451
  let c0_i32_706 : BitVec 32 := 0#32
  let v1453 : BitVec 32 := Scalar.addi v1452 c0_i32_706
  let v1454 : BitVec 32 := v1453
  let c128_i32_707 : BitVec 32 := 128#32
  let v1455 : BitVec 32 := Scalar.subi v1454 c128_i32_707
  let c0_i32_708 : BitVec 32 := 0#32
  let v1456 : BitVec 32 := Scalar.maxsi v1455 c0_i32_708
  v1456
def k0_mult77 (i : grid0.Coords) : BitVec 32 :=
  let c1536_i32_711 : BitVec 32 := 1536#32
  let arg2 : BitVec 32 := BitVec.ofNat 32 (i 2).val
  let c128_i32_710 : BitVec 32 := 128#32
  let v1461 : BitVec 32 := Scalar.muli arg2 c128_i32_710
  let v1462 : BitVec 32 := Scalar.addi c1536_i32_711 v1461
  let c0_i32_712 : BitVec 32 := 0#32
  let v1463 : BitVec 32 := Scalar.addi v1462 c0_i32_712
  v1463
def k0_mult78 (i : grid0.Coords) : BitVec 32 :=
  let c1536_i32_711 : BitVec 32 := 1536#32
  let arg2 : BitVec 32 := BitVec.ofNat 32 (i 2).val
  let c128_i32_710 : BitVec 32 := 128#32
  let v1461 : BitVec 32 := Scalar.muli arg2 c128_i32_710
  let v1462 : BitVec 32 := Scalar.addi c1536_i32_711 v1461
  let c0_i32_712 : BitVec 32 := 0#32
  let v1463 : BitVec 32 := Scalar.addi v1462 c0_i32_712
  let v1464 : BitVec 32 := v1463
  let c128_i32_713 : BitVec 32 := 128#32
  let v1465 : BitVec 32 := Scalar.subi v1464 c128_i32_713
  let c0_i32_714 : BitVec 32 := 0#32
  let v1466 : BitVec 32 := Scalar.maxsi v1465 c0_i32_714
  v1466
def k0_mult79 (i : grid0.Coords) : BitVec 32 :=
  let c1792_i32_717 : BitVec 32 := 1792#32
  let arg2 : BitVec 32 := BitVec.ofNat 32 (i 2).val
  let c128_i32_716 : BitVec 32 := 128#32
  let v1471 : BitVec 32 := Scalar.muli arg2 c128_i32_716
  let v1472 : BitVec 32 := Scalar.addi c1792_i32_717 v1471
  let c0_i32_718 : BitVec 32 := 0#32
  let v1473 : BitVec 32 := Scalar.addi v1472 c0_i32_718
  v1473
def k0_mult80 (i : grid0.Coords) : BitVec 32 :=
  let c1792_i32_717 : BitVec 32 := 1792#32
  let arg2 : BitVec 32 := BitVec.ofNat 32 (i 2).val
  let c128_i32_716 : BitVec 32 := 128#32
  let v1471 : BitVec 32 := Scalar.muli arg2 c128_i32_716
  let v1472 : BitVec 32 := Scalar.addi c1792_i32_717 v1471
  let c0_i32_718 : BitVec 32 := 0#32
  let v1473 : BitVec 32 := Scalar.addi v1472 c0_i32_718
  let v1474 : BitVec 32 := v1473
  let c128_i32_719 : BitVec 32 := 128#32
  let v1475 : BitVec 32 := Scalar.subi v1474 c128_i32_719
  let c0_i32_720 : BitVec 32 := 0#32
  let v1476 : BitVec 32 := Scalar.maxsi v1475 c0_i32_720
  v1476
def k0_mult81 (i : grid0.Coords) : BitVec 32 :=
  let c2048_i32_723 : BitVec 32 := 2048#32
  let arg2 : BitVec 32 := BitVec.ofNat 32 (i 2).val
  let c128_i32_722 : BitVec 32 := 128#32
  let v1481 : BitVec 32 := Scalar.muli arg2 c128_i32_722
  let v1482 : BitVec 32 := Scalar.addi c2048_i32_723 v1481
  let c0_i32_724 : BitVec 32 := 0#32
  let v1483 : BitVec 32 := Scalar.addi v1482 c0_i32_724
  v1483
def k0_mult82 (i : grid0.Coords) : BitVec 32 :=
  let c2048_i32_723 : BitVec 32 := 2048#32
  let arg2 : BitVec 32 := BitVec.ofNat 32 (i 2).val
  let c128_i32_722 : BitVec 32 := 128#32
  let v1481 : BitVec 32 := Scalar.muli arg2 c128_i32_722
  let v1482 : BitVec 32 := Scalar.addi c2048_i32_723 v1481
  let c0_i32_724 : BitVec 32 := 0#32
  let v1483 : BitVec 32 := Scalar.addi v1482 c0_i32_724
  let v1484 : BitVec 32 := v1483
  let c128_i32_725 : BitVec 32 := 128#32
  let v1485 : BitVec 32 := Scalar.subi v1484 c128_i32_725
  let c0_i32_726 : BitVec 32 := 0#32
  let v1486 : BitVec 32 := Scalar.maxsi v1485 c0_i32_726
  v1486
def k0_mult83 (i : grid0.Coords) : BitVec 32 :=
  let c2304_i32 : BitVec 32 := 2304#32
  let arg2 : BitVec 32 := BitVec.ofNat 32 (i 2).val
  let c128_i32_728 : BitVec 32 := 128#32
  let v1491 : BitVec 32 := Scalar.muli arg2 c128_i32_728
  let v1492 : BitVec 32 := Scalar.addi c2304_i32 v1491
  let c0_i32_729 : BitVec 32 := 0#32
  let v1493 : BitVec 32 := Scalar.addi v1492 c0_i32_729
  v1493
def k0_mult84 (i : grid0.Coords) : BitVec 32 :=
  let c2304_i32 : BitVec 32 := 2304#32
  let arg2 : BitVec 32 := BitVec.ofNat 32 (i 2).val
  let c128_i32_728 : BitVec 32 := 128#32
  let v1491 : BitVec 32 := Scalar.muli arg2 c128_i32_728
  let v1492 : BitVec 32 := Scalar.addi c2304_i32 v1491
  let c0_i32_729 : BitVec 32 := 0#32
  let v1493 : BitVec 32 := Scalar.addi v1492 c0_i32_729
  let v1494 : BitVec 32 := v1493
  let c128_i32_730 : BitVec 32 := 128#32
  let v1495 : BitVec 32 := Scalar.subi v1494 c128_i32_730
  let c0_i32_731 : BitVec 32 := 0#32
  let v1496 : BitVec 32 := Scalar.maxsi v1495 c0_i32_731
  v1496
def k0_mult85 (i : grid0.Coords) : BitVec 32 :=
  let c2560_i32 : BitVec 32 := 2560#32
  let arg2 : BitVec 32 := BitVec.ofNat 32 (i 2).val
  let c128_i32_733 : BitVec 32 := 128#32
  let v1501 : BitVec 32 := Scalar.muli arg2 c128_i32_733
  let v1502 : BitVec 32 := Scalar.addi c2560_i32 v1501
  let c0_i32_734 : BitVec 32 := 0#32
  let v1503 : BitVec 32 := Scalar.addi v1502 c0_i32_734
  v1503
def k0_mult86 (i : grid0.Coords) : BitVec 32 :=
  let c2560_i32 : BitVec 32 := 2560#32
  let arg2 : BitVec 32 := BitVec.ofNat 32 (i 2).val
  let c128_i32_733 : BitVec 32 := 128#32
  let v1501 : BitVec 32 := Scalar.muli arg2 c128_i32_733
  let v1502 : BitVec 32 := Scalar.addi c2560_i32 v1501
  let c0_i32_734 : BitVec 32 := 0#32
  let v1503 : BitVec 32 := Scalar.addi v1502 c0_i32_734
  let v1504 : BitVec 32 := v1503
  let c128_i32_735 : BitVec 32 := 128#32
  let v1505 : BitVec 32 := Scalar.subi v1504 c128_i32_735
  let c0_i32_736 : BitVec 32 := 0#32
  let v1506 : BitVec 32 := Scalar.maxsi v1505 c0_i32_736
  v1506
def k0_mult87 (i : grid0.Coords) : BitVec 32 :=
  let c2816_i32 : BitVec 32 := 2816#32
  let arg2 : BitVec 32 := BitVec.ofNat 32 (i 2).val
  let c128_i32_738 : BitVec 32 := 128#32
  let v1511 : BitVec 32 := Scalar.muli arg2 c128_i32_738
  let v1512 : BitVec 32 := Scalar.addi c2816_i32 v1511
  let c0_i32_739 : BitVec 32 := 0#32
  let v1513 : BitVec 32 := Scalar.addi v1512 c0_i32_739
  v1513
def k0_mult88 (i : grid0.Coords) : BitVec 32 :=
  let c2816_i32 : BitVec 32 := 2816#32
  let arg2 : BitVec 32 := BitVec.ofNat 32 (i 2).val
  let c128_i32_738 : BitVec 32 := 128#32
  let v1511 : BitVec 32 := Scalar.muli arg2 c128_i32_738
  let v1512 : BitVec 32 := Scalar.addi c2816_i32 v1511
  let c0_i32_739 : BitVec 32 := 0#32
  let v1513 : BitVec 32 := Scalar.addi v1512 c0_i32_739
  let v1514 : BitVec 32 := v1513
  let c128_i32_740 : BitVec 32 := 128#32
  let v1515 : BitVec 32 := Scalar.subi v1514 c128_i32_740
  let c0_i32_741 : BitVec 32 := 0#32
  let v1516 : BitVec 32 := Scalar.maxsi v1515 c0_i32_741
  v1516
def k0_mult89 (i : grid0.Coords) : BitVec 32 :=
  let c3072_i32_744 : BitVec 32 := 3072#32
  let arg2 : BitVec 32 := BitVec.ofNat 32 (i 2).val
  let c128_i32_743 : BitVec 32 := 128#32
  let v1521 : BitVec 32 := Scalar.muli arg2 c128_i32_743
  let v1522 : BitVec 32 := Scalar.addi c3072_i32_744 v1521
  let c0_i32_745 : BitVec 32 := 0#32
  let v1523 : BitVec 32 := Scalar.addi v1522 c0_i32_745
  v1523
def k0_mult90 (i : grid0.Coords) : BitVec 32 :=
  let c3072_i32_744 : BitVec 32 := 3072#32
  let arg2 : BitVec 32 := BitVec.ofNat 32 (i 2).val
  let c128_i32_743 : BitVec 32 := 128#32
  let v1521 : BitVec 32 := Scalar.muli arg2 c128_i32_743
  let v1522 : BitVec 32 := Scalar.addi c3072_i32_744 v1521
  let c0_i32_745 : BitVec 32 := 0#32
  let v1523 : BitVec 32 := Scalar.addi v1522 c0_i32_745
  let v1524 : BitVec 32 := v1523
  let c128_i32_746 : BitVec 32 := 128#32
  let v1525 : BitVec 32 := Scalar.subi v1524 c128_i32_746
  let c0_i32_747 : BitVec 32 := 0#32
  let v1526 : BitVec 32 := Scalar.maxsi v1525 c0_i32_747
  v1526
def k0_mult91 (i : grid0.Coords) : BitVec 32 :=
  let c3328_i32 : BitVec 32 := 3328#32
  let arg2 : BitVec 32 := BitVec.ofNat 32 (i 2).val
  let c128_i32_749 : BitVec 32 := 128#32
  let v1531 : BitVec 32 := Scalar.muli arg2 c128_i32_749
  let v1532 : BitVec 32 := Scalar.addi c3328_i32 v1531
  let c0_i32_750 : BitVec 32 := 0#32
  let v1533 : BitVec 32 := Scalar.addi v1532 c0_i32_750
  v1533
def k0_mult92 (i : grid0.Coords) : BitVec 32 :=
  let c3328_i32 : BitVec 32 := 3328#32
  let arg2 : BitVec 32 := BitVec.ofNat 32 (i 2).val
  let c128_i32_749 : BitVec 32 := 128#32
  let v1531 : BitVec 32 := Scalar.muli arg2 c128_i32_749
  let v1532 : BitVec 32 := Scalar.addi c3328_i32 v1531
  let c0_i32_750 : BitVec 32 := 0#32
  let v1533 : BitVec 32 := Scalar.addi v1532 c0_i32_750
  let v1534 : BitVec 32 := v1533
  let c128_i32_751 : BitVec 32 := 128#32
  let v1535 : BitVec 32 := Scalar.subi v1534 c128_i32_751
  let c0_i32_752 : BitVec 32 := 0#32
  let v1536 : BitVec 32 := Scalar.maxsi v1535 c0_i32_752
  v1536
def k0_mult93 (i : grid0.Coords) : BitVec 32 :=
  let c3584_i32 : BitVec 32 := 3584#32
  let arg2 : BitVec 32 := BitVec.ofNat 32 (i 2).val
  let c128_i32_754 : BitVec 32 := 128#32
  let v1541 : BitVec 32 := Scalar.muli arg2 c128_i32_754
  let v1542 : BitVec 32 := Scalar.addi c3584_i32 v1541
  let c0_i32_755 : BitVec 32 := 0#32
  let v1543 : BitVec 32 := Scalar.addi v1542 c0_i32_755
  v1543
def k0_mult94 (i : grid0.Coords) : BitVec 32 :=
  let c3584_i32 : BitVec 32 := 3584#32
  let arg2 : BitVec 32 := BitVec.ofNat 32 (i 2).val
  let c128_i32_754 : BitVec 32 := 128#32
  let v1541 : BitVec 32 := Scalar.muli arg2 c128_i32_754
  let v1542 : BitVec 32 := Scalar.addi c3584_i32 v1541
  let c0_i32_755 : BitVec 32 := 0#32
  let v1543 : BitVec 32 := Scalar.addi v1542 c0_i32_755
  let v1544 : BitVec 32 := v1543
  let c128_i32_756 : BitVec 32 := 128#32
  let v1545 : BitVec 32 := Scalar.subi v1544 c128_i32_756
  let c0_i32_757 : BitVec 32 := 0#32
  let v1546 : BitVec 32 := Scalar.maxsi v1545 c0_i32_757
  v1546
def k0_mult95 (i : grid0.Coords) : BitVec 32 :=
  let c3840_i32 : BitVec 32 := 3840#32
  let arg2 : BitVec 32 := BitVec.ofNat 32 (i 2).val
  let c128_i32_759 : BitVec 32 := 128#32
  let v1551 : BitVec 32 := Scalar.muli arg2 c128_i32_759
  let v1552 : BitVec 32 := Scalar.addi c3840_i32 v1551
  let c0_i32_760 : BitVec 32 := 0#32
  let v1553 : BitVec 32 := Scalar.addi v1552 c0_i32_760
  v1553
def k0_mult96 (i : grid0.Coords) : BitVec 32 :=
  let c3840_i32 : BitVec 32 := 3840#32
  let arg2 : BitVec 32 := BitVec.ofNat 32 (i 2).val
  let c128_i32_759 : BitVec 32 := 128#32
  let v1551 : BitVec 32 := Scalar.muli arg2 c128_i32_759
  let v1552 : BitVec 32 := Scalar.addi c3840_i32 v1551
  let c0_i32_760 : BitVec 32 := 0#32
  let v1553 : BitVec 32 := Scalar.addi v1552 c0_i32_760
  let v1554 : BitVec 32 := v1553
  let c128_i32_761 : BitVec 32 := 128#32
  let v1555 : BitVec 32 := Scalar.subi v1554 c128_i32_761
  let c0_i32_762 : BitVec 32 := 0#32
  let v1556 : BitVec 32 := Scalar.maxsi v1555 c0_i32_762
  v1556
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S3x1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "neg" => some ⊥
  | _ => none
-- ==== ReferenceIdeal.lean ====
abbrev S8x4096x3072 : Shape := ⟨3, ![8, 4096, 3072]⟩
abbrev S3x8x128x256 : Shape := ⟨4, ![3, 8, 128, 256]⟩
abbrev S1x8x128x256 : Shape := ⟨4, ![1, 8, 128, 256]⟩
abbrev S8x128x256 : Shape := ⟨3, ![8, 128, 256]⟩
abbrev S8x4096x3x8x128 : Shape := ⟨5, ![8, 4096, 3, 8, 128]⟩
abbrev S8x4096x1x8x128 : Shape := ⟨5, ![8, 4096, 1, 8, 128]⟩
abbrev S8x4096x8x128 : Shape := ⟨4, ![8, 4096, 8, 128]⟩
abbrev S8x8x4096x128 : Shape := ⟨4, ![8, 8, 4096, 128]⟩
abbrev S8x8x32x128x128 : Shape := ⟨5, ![8, 8, 32, 128, 128]⟩
abbrev S8x8x1x128x128 : Shape := ⟨5, ![8, 8, 1, 128, 128]⟩
abbrev S_ : Shape := ⟨0, ![]⟩
abbrev S8x8x31x128x128 : Shape := ⟨5, ![8, 8, 31, 128, 128]⟩
abbrev S8x8x32x256x128 : Shape := ⟨5, ![8, 8, 32, 256, 128]⟩
abbrev S8x8x32x128x256 : Shape := ⟨5, ![8, 8, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S8x1x128x256 : Shape := ⟨4, ![8, 1, 128, 256]⟩
abbrev S1x8x1x128x256 : Shape := ⟨5, ![1, 8, 1, 128, 256]⟩
abbrev S8x8x32x128 : Shape := ⟨4, ![8, 8, 32, 128]⟩
abbrev S8x8x32x128x1 : Shape := ⟨5, ![8, 8, 32, 128, 1]⟩
abbrev S8x1x8x4096x128 : Shape := ⟨5, ![8, 1, 8, 4096, 128]⟩
abbrev S8x1x8x4096 : Shape := ⟨4, ![8, 1, 8, 4096]⟩
abbrev S8x4096x1x8 : Shape := ⟨4, ![8, 4096, 1, 8]⟩
abbrev S8x4096x8 : Shape := ⟨3, ![8, 4096, 8]⟩
abbrev S32x1024x3x8x128 : Shape := ⟨5, ![32, 1024, 3, 8, 128]⟩
abbrev S32x1024x1x8x128 : Shape := ⟨5, ![32, 1024, 1, 8, 128]⟩
abbrev S32x1024x8x128 : Shape := ⟨4, ![32, 1024, 8, 128]⟩
abbrev S32x8x1024x128 : Shape := ⟨4, ![32, 8, 1024, 128]⟩
abbrev S32x8x8x128x128 : Shape := ⟨5, ![32, 8, 8, 128, 128]⟩
abbrev S32x8x1x128x128 : Shape := ⟨5, ![32, 8, 1, 128, 128]⟩
abbrev S32x8x7x128x128 : Shape := ⟨5, ![32, 8, 7, 128, 128]⟩
abbrev S32x8x8x256x128 : Shape := ⟨5, ![32, 8, 8, 256, 128]⟩
abbrev S32x8x8x128x256 : Shape := ⟨5, ![32, 8, 8, 128, 256]⟩
abbrev S8 : Shape := ⟨1, ![8]⟩
abbrev S8x1x1 : Shape := ⟨3, ![8, 1, 1]⟩
abbrev S8x1x256 : Shape := ⟨3, ![8, 1, 256]⟩
abbrev S32x8x8x128 : Shape := ⟨4, ![32, 8, 8, 128]⟩
abbrev S32x8x8x128x1 : Shape := ⟨5, ![32, 8, 8, 128, 1]⟩
abbrev S8x4x8x1024x128 : Shape := ⟨5, ![8, 4, 8, 1024, 128]⟩
abbrev S8x1024x4x8x128 : Shape := ⟨5, ![8, 1024, 4, 8, 128]⟩
abbrev S8x4x8x1024 : Shape := ⟨4, ![8, 4, 8, 1024]⟩
abbrev S8x1024x4x8 : Shape := ⟨4, ![8, 1024, 4, 8]⟩
abbrev S128x256x3x8x128 : Shape := ⟨5, ![128, 256, 3, 8, 128]⟩
abbrev S128x256x1x8x128 : Shape := ⟨5, ![128, 256, 1, 8, 128]⟩
abbrev S128x256x8x128 : Shape := ⟨4, ![128, 256, 8, 128]⟩
abbrev S128x8x256x128 : Shape := ⟨4, ![128, 8, 256, 128]⟩
abbrev S128x8x2x128x128 : Shape := ⟨5, ![128, 8, 2, 128, 128]⟩
abbrev S128x8x1x128x128 : Shape := ⟨5, ![128, 8, 1, 128, 128]⟩
abbrev S128x8x2x256x128 : Shape := ⟨5, ![128, 8, 2, 256, 128]⟩
abbrev S128x8x2x128x256 : Shape := ⟨5, ![128, 8, 2, 128, 256]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S128x8x2x128 : Shape := ⟨4, ![128, 8, 2, 128]⟩
abbrev S128x8x2x128x1 : Shape := ⟨5, ![128, 8, 2, 128, 1]⟩
abbrev S8x16x8x256x128 : Shape := ⟨5, ![8, 16, 8, 256, 128]⟩
abbrev S8x256x16x8x128 : Shape := ⟨5, ![8, 256, 16, 8, 128]⟩
abbrev S8x16x8x256 : Shape := ⟨4, ![8, 16, 8, 256]⟩
abbrev S8x256x16x8 : Shape := ⟨4, ![8, 256, 16, 8]⟩
abbrev S1x8x4096x8 : Shape := ⟨4, ![1, 8, 4096, 8]⟩
abbrev S3x8x4096x8 : Shape := ⟨4, ![3, 8, 4096, 8]⟩
abbrev S3x8x4096x8x1 : Shape := ⟨5, ![3, 8, 4096, 8, 1]⟩
abbrev S1x8x4096x8x128 : Shape := ⟨5, ![1, 8, 4096, 8, 128]⟩
abbrev S3x8x4096x8x128 : Shape := ⟨5, ![3, 8, 4096, 8, 128]⟩
abbrev S8x4096x1024 : Shape := ⟨3, ![8, 4096, 1024]⟩

abbrev nBuf : Space → Nat
  | .hbm => 318
  | .vmem => 0
  | .smem => 0
  | _ => 0

abbrev hbmTy0_0 (i : Nat) : BufTy := match i % 128 with
  | 0 => ⟨S8x4096x3072, .bf16⟩
  | 1 => ⟨S8x4096x3072, .bf16⟩
  | 2 => ⟨S8x4096x3072, .bf16⟩
  | 3 => ⟨S3x8x128x256, .f32⟩
  | 4 => ⟨S1x8x128x256, .f32⟩
  | 5 => ⟨S8x128x256, .f32⟩
  | 6 => ⟨S8x4096x3072, .f32⟩
  | 7 => ⟨S8x4096x3x8x128, .f32⟩
  | 8 => ⟨S8x4096x1x8x128, .f32⟩
  | 9 => ⟨S8x4096x8x128, .f32⟩
  | 10 => ⟨S8x8x4096x128, .f32⟩
  | 11 => ⟨S8x8x32x128x128, .f32⟩
  | 12 => ⟨S8x4096x1x8x128, .f32⟩
  | 13 => ⟨S8x4096x8x128, .f32⟩
  | 14 => ⟨S8x8x4096x128, .f32⟩
  | 15 => ⟨S8x8x32x128x128, .f32⟩
  | 16 => ⟨S8x8x1x128x128, .f32⟩
  | 17 => ⟨S_, .f32⟩
  | 18 => ⟨S8x8x1x128x128, .f32⟩
  | 19 => ⟨S8x8x31x128x128, .f32⟩
  | 20 => ⟨S8x8x32x128x128, .f32⟩
  | 21 => ⟨S8x8x32x256x128, .f32⟩
  | 22 => ⟨S8x4096x1x8x128, .f32⟩
  | 23 => ⟨S8x4096x8x128, .f32⟩
  | 24 => ⟨S8x8x4096x128, .f32⟩
  | 25 => ⟨S8x8x32x128x128, .f32⟩
  | 26 => ⟨S8x8x1x128x128, .f32⟩
  | 27 => ⟨S_, .f32⟩
  | 28 => ⟨S8x8x1x128x128, .f32⟩
  | 29 => ⟨S8x8x31x128x128, .f32⟩
  | 30 => ⟨S8x8x32x128x128, .f32⟩
  | 31 => ⟨S8x8x32x256x128, .f32⟩
  | 32 => ⟨S8x8x32x128x256, .f32⟩
  | 33 => ⟨S_, .f32⟩
  | 34 => ⟨S8x8x32x128x256, .f32⟩
  | 35 => ⟨S8x8x32x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S32, .i32⟩
  | 47 => ⟨S32x1x1, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S_, .i32⟩
  | 56 => ⟨S32x1x1, .i32⟩
  | 57 => ⟨S32x1x1, .i1⟩
  | 58 => ⟨S_, .i32⟩
  | 59 => ⟨S1x256, .i32⟩
  | 60 => ⟨S1x256, .i1⟩
  | 61 => ⟨S1x1x256, .i1⟩
  | 62 => ⟨S32x1x256, .i1⟩
  | 63 => ⟨S32x1x256, .i1⟩
  | 64 => ⟨S32x1x256, .i1⟩
  | 65 => ⟨S1x128x256, .i1⟩
  | 66 => ⟨S32x128x256, .i1⟩
  | 67 => ⟨S32x128x256, .i1⟩
  | 68 => ⟨S32x128x256, .i1⟩
  | 69 => ⟨S8x1x128x256, .f32⟩
  | 70 => ⟨S1x8x1x128x256, .f32⟩
  | 71 => ⟨S8x8x32x128x256, .f32⟩
  | 72 => ⟨S8x8x32x128x256, .f32⟩
  | 73 => ⟨S_, .f32⟩
  | 74 => ⟨S_, .f32⟩
  | 75 => ⟨S8x8x32x128x256, .i1⟩
  | 76 => ⟨S8x8x32x128x256, .f32⟩
  | 77 => ⟨S8x8x32x128x256, .f32⟩
  | 78 => ⟨S_, .f32⟩
  | 79 => ⟨S8x8x32x128, .f32⟩
  | 80 => ⟨S8x8x32x128x1, .f32⟩
  | 81 => ⟨S8x8x32x128x256, .f32⟩
  | 82 => ⟨S8x8x32x128x256, .f32⟩
  | 83 => ⟨S8x8x32x128x256, .f32⟩
  | 84 => ⟨S_, .f32⟩
  | 85 => ⟨S8x8x32x128, .f32⟩
  | 86 => ⟨S8x8x32x128x1, .f32⟩
  | 87 => ⟨S8x8x32x128x128, .f32⟩
  | 88 => ⟨S8x8x32x128x128, .f32⟩
  | 89 => ⟨S8x8x32x128x128, .f32⟩
  | 90 => ⟨S8x8x32x128x1, .f32⟩
  | 91 => ⟨S8x8x32x128x1, .f32⟩
  | 92 => ⟨S8x8x32x128, .f32⟩
  | 93 => ⟨S8x1x8x4096x128, .f32⟩
  | 94 => ⟨S8x4096x1x8x128, .f32⟩
  | 95 => ⟨S8x4096x8x128, .f32⟩
  | 96 => ⟨S8x1x8x4096, .f32⟩
  | 97 => ⟨S8x4096x1x8, .f32⟩
  | 98 => ⟨S8x4096x8, .f32⟩
  | 99 => ⟨S1x8x128x256, .f32⟩
  | 100 => ⟨S8x128x256, .f32⟩
  | 101 => ⟨S8x4096x3072, .f32⟩
  | 102 => ⟨S32x1024x3x8x128, .f32⟩
  | 103 => ⟨S32x1024x1x8x128, .f32⟩
  | 104 => ⟨S32x1024x8x128, .f32⟩
  | 105 => ⟨S32x8x1024x128, .f32⟩
  | 106 => ⟨S32x8x8x128x128, .f32⟩
  | 107 => ⟨S32x1024x1x8x128, .f32⟩
  | 108 => ⟨S32x1024x8x128, .f32⟩
  | 109 => ⟨S32x8x1024x128, .f32⟩
  | 110 => ⟨S32x8x8x128x128, .f32⟩
  | 111 => ⟨S32x8x1x128x128, .f32⟩
  | 112 => ⟨S_, .f32⟩
  | 113 => ⟨S32x8x1x128x128, .f32⟩
  | 114 => ⟨S32x8x7x128x128, .f32⟩
  | 115 => ⟨S32x8x8x128x128, .f32⟩
  | 116 => ⟨S32x8x8x256x128, .f32⟩
  | 117 => ⟨S32x1024x1x8x128, .f32⟩
  | 118 => ⟨S32x1024x8x128, .f32⟩
  | 119 => ⟨S32x8x1024x128, .f32⟩
  | 120 => ⟨S32x8x8x128x128, .f32⟩
  | 121 => ⟨S32x8x1x128x128, .f32⟩
  | 122 => ⟨S_, .f32⟩
  | 123 => ⟨S32x8x1x128x128, .f32⟩
  | 124 => ⟨S32x8x7x128x128, .f32⟩
  | 125 => ⟨S32x8x8x128x128, .f32⟩
  | 126 => ⟨S32x8x8x256x128, .f32⟩
  | 127 => ⟨S32x8x8x128x256, .f32⟩
  | _ => ⟨S8x4096x3072, .bf16⟩

abbrev hbmTy0_1 (i : Nat) : BufTy := match i % 128 with
  | 0 => ⟨S_, .f32⟩
  | 1 => ⟨S32x8x8x128x256, .f32⟩
  | 2 => ⟨S32x8x8x128x256, .f32⟩
  | 3 => ⟨S128, .i32⟩
  | 4 => ⟨S128x1, .i32⟩
  | 5 => ⟨S256, .i32⟩
  | 6 => ⟨S1x256, .i32⟩
  | 7 => ⟨S_, .i32⟩
  | 8 => ⟨S128x1, .i32⟩
  | 9 => ⟨S128x1, .i32⟩
  | 10 => ⟨S128x256, .i32⟩
  | 11 => ⟨S128x256, .i32⟩
  | 12 => ⟨S128x256, .i32⟩
  | 13 => ⟨S8, .i32⟩
  | 14 => ⟨S8x1x1, .i32⟩
  | 15 => ⟨S_, .i32⟩
  | 16 => ⟨S128x256, .i32⟩
  | 17 => ⟨S128x256, .i1⟩
  | 18 => ⟨S_, .i32⟩
  | 19 => ⟨S128x256, .i32⟩
  | 20 => ⟨S128x256, .i1⟩
  | 21 => ⟨S128x256, .i1⟩
  | 22 => ⟨S_, .i32⟩
  | 23 => ⟨S8x1x1, .i32⟩
  | 24 => ⟨S8x1x1, .i1⟩
  | 25 => ⟨S_, .i32⟩
  | 26 => ⟨S1x256, .i32⟩
  | 27 => ⟨S1x256, .i1⟩
  | 28 => ⟨S1x1x256, .i1⟩
  | 29 => ⟨S8x1x256, .i1⟩
  | 30 => ⟨S8x1x256, .i1⟩
  | 31 => ⟨S8x1x256, .i1⟩
  | 32 => ⟨S1x128x256, .i1⟩
  | 33 => ⟨S8x128x256, .i1⟩
  | 34 => ⟨S8x128x256, .i1⟩
  | 35 => ⟨S8x128x256, .i1⟩
  | 36 => ⟨S8x1x128x256, .f32⟩
  | 37 => ⟨S1x8x1x128x256, .f32⟩
  | 38 => ⟨S32x8x8x128x256, .f32⟩
  | 39 => ⟨S32x8x8x128x256, .f32⟩
  | 40 => ⟨S_, .f32⟩
  | 41 => ⟨S_, .f32⟩
  | 42 => ⟨S32x8x8x128x256, .i1⟩
  | 43 => ⟨S32x8x8x128x256, .f32⟩
  | 44 => ⟨S32x8x8x128x256, .f32⟩
  | 45 => ⟨S_, .f32⟩
  | 46 => ⟨S32x8x8x128, .f32⟩
  | 47 => ⟨S32x8x8x128x1, .f32⟩
  | 48 => ⟨S32x8x8x128x256, .f32⟩
  | 49 => ⟨S32x8x8x128x256, .f32⟩
  | 50 => ⟨S32x8x8x128x256, .f32⟩
  | 51 => ⟨S_, .f32⟩
  | 52 => ⟨S32x8x8x128, .f32⟩
  | 53 => ⟨S32x8x8x128x1, .f32⟩
  | 54 => ⟨S32x8x8x128x128, .f32⟩
  | 55 => ⟨S32x8x8x128x128, .f32⟩
  | 56 => ⟨S32x8x8x128x128, .f32⟩
  | 57 => ⟨S32x8x8x128x1, .f32⟩
  | 58 => ⟨S32x8x8x128x1, .f32⟩
  | 59 => ⟨S32x8x8x128, .f32⟩
  | 60 => ⟨S8x4x8x1024x128, .f32⟩
  | 61 => ⟨S8x1024x4x8x128, .f32⟩
  | 62 => ⟨S8x4096x8x128, .f32⟩
  | 63 => ⟨S8x4x8x1024, .f32⟩
  | 64 => ⟨S8x1024x4x8, .f32⟩
  | 65 => ⟨S8x4096x8, .f32⟩
  | 66 => ⟨S1x8x128x256, .f32⟩
  | 67 => ⟨S8x128x256, .f32⟩
  | 68 => ⟨S8x4096x3072, .f32⟩
  | 69 => ⟨S128x256x3x8x128, .f32⟩
  | 70 => ⟨S128x256x1x8x128, .f32⟩
  | 71 => ⟨S128x256x8x128, .f32⟩
  | 72 => ⟨S128x8x256x128, .f32⟩
  | 73 => ⟨S128x8x2x128x128, .f32⟩
  | 74 => ⟨S128x256x1x8x128, .f32⟩
  | 75 => ⟨S128x256x8x128, .f32⟩
  | 76 => ⟨S128x8x256x128, .f32⟩
  | 77 => ⟨S128x8x2x128x128, .f32⟩
  | 78 => ⟨S128x8x1x128x128, .f32⟩
  | 79 => ⟨S_, .f32⟩
  | 80 => ⟨S128x8x1x128x128, .f32⟩
  | 81 => ⟨S128x8x1x128x128, .f32⟩
  | 82 => ⟨S128x8x2x128x128, .f32⟩
  | 83 => ⟨S128x8x2x256x128, .f32⟩
  | 84 => ⟨S128x256x1x8x128, .f32⟩
  | 85 => ⟨S128x256x8x128, .f32⟩
  | 86 => ⟨S128x8x256x128, .f32⟩
  | 87 => ⟨S128x8x2x128x128, .f32⟩
  | 88 => ⟨S128x8x1x128x128, .f32⟩
  | 89 => ⟨S_, .f32⟩
  | 90 => ⟨S128x8x1x128x128, .f32⟩
  | 91 => ⟨S128x8x1x128x128, .f32⟩
  | 92 => ⟨S128x8x2x128x128, .f32⟩
  | 93 => ⟨S128x8x2x256x128, .f32⟩
  | 94 => ⟨S128x8x2x128x256, .f32⟩
  | 95 => ⟨S_, .f32⟩
  | 96 => ⟨S128x8x2x128x256, .f32⟩
  | 97 => ⟨S128x8x2x128x256, .f32⟩
  | 98 => ⟨S128, .i32⟩
  | 99 => ⟨S128x1, .i32⟩
  | 100 => ⟨S256, .i32⟩
  | 101 => ⟨S1x256, .i32⟩
  | 102 => ⟨S_, .i32⟩
  | 103 => ⟨S128x1, .i32⟩
  | 104 => ⟨S128x1, .i32⟩
  | 105 => ⟨S128x256, .i32⟩
  | 106 => ⟨S128x256, .i32⟩
  | 107 => ⟨S128x256, .i32⟩
  | 108 => ⟨S2, .i32⟩
  | 109 => ⟨S2x1x1, .i32⟩
  | 110 => ⟨S_, .i32⟩
  | 111 => ⟨S128x256, .i32⟩
  | 112 => ⟨S128x256, .i1⟩
  | 113 => ⟨S_, .i32⟩
  | 114 => ⟨S128x256, .i32⟩
  | 115 => ⟨S128x256, .i1⟩
  | 116 => ⟨S128x256, .i1⟩
  | 117 => ⟨S_, .i32⟩
  | 118 => ⟨S2x1x1, .i32⟩
  | 119 => ⟨S2x1x1, .i1⟩
  | 120 => ⟨S_, .i32⟩
  | 121 => ⟨S1x256, .i32⟩
  | 122 => ⟨S1x256, .i1⟩
  | 123 => ⟨S1x1x256, .i1⟩
  | 124 => ⟨S2x1x256, .i1⟩
  | 125 => ⟨S2x1x256, .i1⟩
  | 126 => ⟨S2x1x256, .i1⟩
  | 127 => ⟨S1x128x256, .i1⟩
  | _ => ⟨S8x4096x3072, .bf16⟩

abbrev hbmTy0_2 (i : Nat) : BufTy := match i % 128 with
  | 0 => ⟨S2x128x256, .i1⟩
  | 1 => ⟨S2x128x256, .i1⟩
  | 2 => ⟨S2x128x256, .i1⟩
  | 3 => ⟨S8x1x128x256, .f32⟩
  | 4 => ⟨S1x8x1x128x256, .f32⟩
  | 5 => ⟨S128x8x2x128x256, .f32⟩
  | 6 => ⟨S128x8x2x128x256, .f32⟩
  | 7 => ⟨S_, .f32⟩
  | 8 => ⟨S_, .f32⟩
  | 9 => ⟨S128x8x2x128x256, .i1⟩
  | 10 => ⟨S128x8x2x128x256, .f32⟩
  | 11 => ⟨S128x8x2x128x256, .f32⟩
  | 12 => ⟨S_, .f32⟩
  | 13 => ⟨S128x8x2x128, .f32⟩
  | 14 => ⟨S128x8x2x128x1, .f32⟩
  | 15 => ⟨S128x8x2x128x256, .f32⟩
  | 16 => ⟨S128x8x2x128x256, .f32⟩
  | 17 => ⟨S128x8x2x128x256, .f32⟩
  | 18 => ⟨S_, .f32⟩
  | 19 => ⟨S128x8x2x128, .f32⟩
  | 20 => ⟨S128x8x2x128x1, .f32⟩
  | 21 => ⟨S128x8x2x128x128, .f32⟩
  | 22 => ⟨S128x8x2x128x128, .f32⟩
  | 23 => ⟨S128x8x2x128x128, .f32⟩
  | 24 => ⟨S128x8x2x128x1, .f32⟩
  | 25 => ⟨S128x8x2x128x1, .f32⟩
  | 26 => ⟨S128x8x2x128, .f32⟩
  | 27 => ⟨S8x16x8x256x128, .f32⟩
  | 28 => ⟨S8x256x16x8x128, .f32⟩
  | 29 => ⟨S8x4096x8x128, .f32⟩
  | 30 => ⟨S8x16x8x256, .f32⟩
  | 31 => ⟨S8x256x16x8, .f32⟩
  | 32 => ⟨S8x4096x8, .f32⟩
  | 33 => ⟨S1x8x4096x8, .f32⟩
  | 34 => ⟨S1x8x4096x8, .f32⟩
  | 35 => ⟨S1x8x4096x8, .f32⟩
  | 36 => ⟨S3x8x4096x8, .f32⟩
  | 37 => ⟨S_, .f32⟩
  | 38 => ⟨S8x4096x8, .f32⟩
  | 39 => ⟨S_, .f32⟩
  | 40 => ⟨S8x4096x8, .f32⟩
  | 41 => ⟨S8x4096x8, .f32⟩
  | 42 => ⟨S1x8x4096x8, .f32⟩
  | 43 => ⟨S3x8x4096x8, .f32⟩
  | 44 => ⟨S3x8x4096x8, .f32⟩
  | 45 => ⟨S3x8x4096x8, .f32⟩
  | 46 => ⟨S_, .f32⟩
  | 47 => ⟨S8x4096x8, .f32⟩
  | 48 => ⟨S1x8x4096x8, .f32⟩
  | 49 => ⟨S3x8x4096x8, .f32⟩
  | 50 => ⟨S3x8x4096x8, .f32⟩
  | 51 => ⟨S3x8x4096x8x1, .f32⟩
  | 52 => ⟨S1x8x4096x8x128, .f32⟩
  | 53 => ⟨S1x8x4096x8x128, .f32⟩
  | 54 => ⟨S1x8x4096x8x128, .f32⟩
  | 55 => ⟨S3x8x4096x8x128, .f32⟩
  | 56 => ⟨S3x8x4096x8x128, .f32⟩
  | 57 => ⟨S3x8x4096x8x128, .f32⟩
  | 58 => ⟨S_, .f32⟩
  | 59 => ⟨S8x4096x8x128, .f32⟩
  | 60 => ⟨S8x4096x1024, .f32⟩
  | 61 => ⟨S8x4096x1024, .bf16⟩
  | _ => ⟨S8x4096x3072, .bf16⟩

abbrev hbmTy (i : Nat) : BufTy := match i / 128 with
  | 0 => hbmTy0_0 i
  | 1 => hbmTy0_1 i
  | 2 => hbmTy0_2 i
  | _ => ⟨S8x4096x3072, .bf16⟩

abbrev bufTy : (tb : Table) → Fin (tcTables nBuf tb) → BufTy
  | .hbm, ⟨i, _⟩ => hbmTy i
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_2 : Ref sig .tc := ⟨.hbm, 48, rfl⟩
abbrev main_v40 : Ref sig .tc := ⟨.hbm, 49, rfl⟩
abbrev main_v41 : Ref sig .tc := ⟨.hbm, 50, rfl⟩
abbrev main_c_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_c_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_9 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_10 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_11 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_c_12 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_c_13 : Ref sig .tc := ⟨.hbm, 143, rfl⟩
abbrev main_v121 : Ref sig .tc := ⟨.hbm, 144, rfl⟩
abbrev main_v122 : Ref sig .tc := ⟨.hbm, 145, rfl⟩
abbrev main_c_14 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_c_15 : Ref sig .tc := ⟨.hbm, 150, rfl⟩
abbrev main_v126 : Ref sig .tc := ⟨.hbm, 151, rfl⟩
abbrev main_v127 : Ref sig .tc := ⟨.hbm, 152, rfl⟩
abbrev main_c_16 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_17 : Ref sig .tc := ⟨.hbm, 168, rfl⟩
abbrev main_call1_v0 : Ref sig .tc := ⟨.hbm, 169, rfl⟩
abbrev main_call1_v1 : Ref sig .tc := ⟨.hbm, 170, rfl⟩
abbrev main_call1_v2 : Ref sig .tc := ⟨.hbm, 171, rfl⟩
abbrev main_v142 : Ref sig .tc := ⟨.hbm, 172, rfl⟩
abbrev main_cst_18 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_19 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_cst_20 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_cst_21 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_cst_22 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_c_23 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_c_24 : Ref sig .tc := ⟨.hbm, 238, rfl⟩
abbrev main_v202 : Ref sig .tc := ⟨.hbm, 239, rfl⟩
abbrev main_v203 : Ref sig .tc := ⟨.hbm, 240, rfl⟩
abbrev main_c_25 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_c_26 : Ref sig .tc := ⟨.hbm, 245, rfl⟩
abbrev main_v207 : Ref sig .tc := ⟨.hbm, 246, rfl⟩
abbrev main_v208 : Ref sig .tc := ⟨.hbm, 247, rfl⟩
abbrev main_c_27 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_cst_28 : Ref sig .tc := ⟨.hbm, 263, rfl⟩
abbrev main_call2_v0 : Ref sig .tc := ⟨.hbm, 264, rfl⟩
abbrev main_call2_v1 : Ref sig .tc := ⟨.hbm, 265, rfl⟩
abbrev main_call2_v2 : Ref sig .tc := ⟨.hbm, 266, rfl⟩
abbrev main_v223 : Ref sig .tc := ⟨.hbm, 267, rfl⟩
abbrev main_cst_29 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_cst_30 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_cst_31 : Ref sig .tc := ⟨.hbm, 293, rfl⟩
abbrev main_v247 : Ref sig .tc := ⟨.hbm, 294, rfl⟩
abbrev main_cst_32 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_cst_33 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_cst_34 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩

abbrev nD : Nat := 1
abbrev τ : Topo := Topo.v7x

variable {F : FTy → Type} [FloatOps F]
-- ==== Experts.lean ====
abbrev S73728x1024 : Shape := ⟨2, ![73728, 1024]⟩
abbrev S72 : Shape := ⟨1, ![72]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 5
  | .vmem => 11
  | .smem => 2
  | _ => 0

abbrev bufTy : (tb : Table) → Fin (tcTables nBuf tb) → BufTy
  | .hbm, ⟨0, _⟩ => ⟨S73728x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S73728x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S72, .i32⟩
  | .local _ .smem, ⟨1, _⟩ => ⟨S72, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) (v1 : BitVec 32) : BitVec 1 :=
  let c0_i32 : BitVec 32 := 0#32
  let v2 : BitVec 1 := Scalar.cmpi .sgt v1 c0_i32
  let arg1 : BitVec 32 := BitVec.ofNat 32 (i 1).val
  let c6_i32 : BitVec 32 := 6#32
  let v14 : BitVec 1 := Scalar.cmpi .eq arg1 c6_i32
  let v15 : BitVec 1 := Scalar.andi v2 v14
  let v16 : BitVec 32 := Scalar.extui v15
  let c0_i32_5 : BitVec 32 := 0#32
  let v17 : BitVec 1 := Scalar.cmpi .ne v16 c0_i32_5
  v17

def k0_cond5 (i : grid0.Coords) (v1 : BitVec 32) : BitVec 1 :=
  let c0_i32 : BitVec 32 := 0#32
  let v2 : BitVec 1 := Scalar.cmpi .sgt v1 c0_i32
  let v_true : BitVec 1 := 1#1
  let v18 : BitVec 1 := Scalar.xori v2 v_true
  let arg1 : BitVec 32 := BitVec.ofNat 32 (i 1).val
  let c6_i32_6 : BitVec 32 := 6#32
  let v19 : BitVec 1 := Scalar.cmpi .eq arg1 c6_i32_6
  let v20 : BitVec 1 := Scalar.andi v18 v19
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c7_i32 : BitVec 32 := 7#32
  let v2 : BitVec 32 := Scalar.minsi v1 c7_i32
  let v3 : Index := Scalar.indexCast arg0
  let v4 : BitVec 32 := pf.at 0 (Rect.unit (s := S72) ![v3.toNat] S1.size (k0_off1_inb i)) numel1_S1
  let c8_i32 : BitVec 32 := 8#32
  let v5 : BitVec 1 := Scalar.cmpi .slt v4 c8_i32
  let c6_i32 : BitVec 32 := 6#32
  let v6 : BitVec 32 := Scalar.select v5 arg1 c6_i32
  let c0_i32 : BitVec 32 := 0#32
  let c0_i32_0 : BitVec 32 := 0#32
  ![v2.toNat, c0_i32.toNat, v6.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c7_i32 : BitVec 32 := 7#32
  let v2 : BitVec 32 := Scalar.minsi v1 c7_i32
  let v3 : Index := Scalar.indexCast arg0
  let v4 : BitVec 32 := pf.at 0 (Rect.unit (s := S72) ![v3.toNat] S1.size (k0_off1_inb i)) numel1_S1
  let c8_i32 : BitVec 32 := 8#32
  let v5 : BitVec 1 := Scalar.cmpi .slt v4 c8_i32
  let c6_i32 : BitVec 32 := 6#32
  let v6 : BitVec 32 := Scalar.select v5 arg1 c6_i32
  let c0_i32 : BitVec 32 := 0#32
  let c0_i32_0 : BitVec 32 := 0#32
  ![v2.toNat, c0_i32.toNat, v6.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c7_i32 : BitVec 32 := 7#32
  let v2 : BitVec 32 := Scalar.minsi v1 c7_i32
  let v3 : Index := Scalar.indexCast arg0
  let v4 : BitVec 32 := pf.at 0 (Rect.unit (s := S72) ![v3.toNat] S1.size (k0_off1_inb i)) numel1_S1
  let c8_i32 : BitVec 32 := 8#32
  let v5 : BitVec 1 := Scalar.cmpi .slt v4 c8_i32
  let c6_i32 : BitVec 32 := 6#32
  let v6 : BitVec 32 := Scalar.select v5 arg1 c6_i32
  let c0_i32 : BitVec 32 := 0#32
  let c0_i32_0 : BitVec 32 := 0#32
  ![v2.toNat, v6.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsPlainIdeal.lean ====
abbrev S73728x1024 : Shape := ⟨2, ![73728, 1024]⟩
abbrev S72 : Shape := ⟨1, ![72]⟩
abbrev S8x1024x3584 : Shape := ⟨3, ![8, 1024, 3584]⟩
abbrev S8x3584x1024 : Shape := ⟨3, ![8, 3584, 1024]⟩
abbrev S72x1024 : Shape := ⟨2, ![72, 1024]⟩
abbrev S73728 : Shape := ⟨1, ![73728]⟩
abbrev S73728x1 : Shape := ⟨2, ![73728, 1]⟩
abbrev S1x8 : Shape := ⟨2, ![1, 8]⟩
abbrev S73728x8 : Shape := ⟨2, ![73728, 8]⟩
abbrev S8x3584x73728 : Shape := ⟨3, ![8, 3584, 73728]⟩
abbrev S8x73728x3584 : Shape := ⟨3, ![8, 73728, 3584]⟩
abbrev S_ : Shape := ⟨0, ![]⟩
abbrev S8x73728x1024 : Shape := ⟨3, ![8, 73728, 1024]⟩
abbrev S8x73728 : Shape := ⟨2, ![8, 73728]⟩
abbrev S8x73728x1 : Shape := ⟨3, ![8, 73728, 1]⟩

abbrev nBuf : Space → Nat
  | .hbm => 35
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S72, .i32⟩
  | .hbm, ⟨2, _⟩ => ⟨S72, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S72x1024, .i32⟩
  | .hbm, ⟨7, _⟩ => ⟨S73728, .i32⟩
  | .hbm, ⟨8, _⟩ => ⟨S73728x1, .i32⟩
  | .hbm, ⟨9, _⟩ => ⟨S1x8, .i32⟩
  | .hbm, ⟨10, _⟩ => ⟨S73728x8, .i32⟩
  | .hbm, ⟨11, _⟩ => ⟨S73728x8, .i32⟩
  | .hbm, ⟨12, _⟩ => ⟨S73728x8, .i1⟩
  | .hbm, ⟨13, _⟩ => ⟨S73728x8, .f32⟩
  | .hbm, ⟨14, _⟩ => ⟨S8x3584x73728, .f32⟩
  | .hbm, ⟨15, _⟩ => ⟨S8x73728x3584, .f32⟩
  | .hbm, ⟨16, _⟩ => ⟨S8x73728x3584, .f32⟩
  | .hbm, ⟨17, _⟩ => ⟨S8x73728x3584, .f32⟩
  | .hbm, ⟨18, _⟩ => ⟨S_, .f32⟩
  | .hbm, ⟨19, _⟩ => ⟨S8x73728x3584, .f32⟩
  | .hbm, ⟨20, _⟩ => ⟨S8x73728x3584, .f32⟩
  | .hbm, ⟨21, _⟩ => ⟨S_, .f32⟩
  | .hbm, ⟨22, _⟩ => ⟨S8x73728x3584, .f32⟩
  | .hbm, ⟨23, _⟩ => ⟨S8x73728x3584, .f32⟩
  | .hbm, ⟨24, _⟩ => ⟨S8x73728x3584, .f32⟩
  | .hbm, ⟨25, _⟩ => ⟨S8x3584x73728, .f32⟩
  | .hbm, ⟨26, _⟩ => ⟨S8x73728x3584, .f32⟩
  | .hbm, ⟨27, _⟩ => ⟨S8x73728x3584, .f32⟩
  | .hbm, ⟨28, _⟩ => ⟨S8x73728x1024, .f32⟩
  | .hbm, ⟨29, _⟩ => ⟨S8x73728, .f32⟩
  | .hbm, ⟨30, _⟩ => ⟨S8x73728x1, .f32⟩
  | .hbm, ⟨31, _⟩ => ⟨S8x73728x1024, .f32⟩
  | .hbm, ⟨32, _⟩ => ⟨S8x73728x1024, .f32⟩
  | .hbm, ⟨33, _⟩ => ⟨S_, .f32⟩
  | .hbm, ⟨34, _⟩ => ⟨S73728x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Dense.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S32768x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DensePlainIdeal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Proof.Dilated.Rows.lean ====
/-
  One row of attention over extended reals: the largest logit, the exponentials under it, their sum, the
  weighted mean and the log-sum-exp; the same row with its 256 keys split into two halves; and the merge of
  three such rows by their log-sum-exps.
-/
module

public import Idealize.ShloMosaic.PureOps.Ideal.Laws

@[expose] public section

noncomputable section

namespace Cert.Dilated

open Idealize.ShloMosaic

variable {n : Nat}

/-- The largest logit of a row. -/
def top (L : Fin n → EReal) : EReal := Finset.univ.sup L

/-- The exponential of a logit under the row's largest. -/
def weight (L : Fin n → EReal) (k : Fin n) : EReal := Ideal.exp (L k - top L)

/-- The sum of the row's exponentials. -/
def mass (L : Fin n → EReal) : EReal := ∑ k, weight L k

/-- The mean of the values `V` by the row's exponentials. -/
def mean (L V : Fin n → EReal) : EReal := Ideal.div (∑ k, weight L k * V k) (mass L)

/-- The row's log-sum-exp. -/
def lse (L : Fin n → EReal) : EReal := top L + Ideal.log (mass L)

/-- A key of the preceding half, among 256. -/
def prevKey (k : Fin 128) : Fin 256 := ⟨k.val, by omega⟩

/-- A key of the current half, among 256. -/
def curKey (k : Fin 128) : Fin 256 := ⟨128 + k.val, by omega⟩

theorem sum_halves (f : Fin 256 → EReal) : ∑ k, f k = ∑ k, f (prevKey k) + ∑ k, f (curKey k) :=
  Fin.sum_univ_add (a := 128) (b := 128) f

theorem eq_prevKey_or_curKey (k : Fin 256) : (∃ j, k = prevKey j) ∨ ∃ j, k = curKey j := by
  by_cases h : k.val < 128
  · exact .inl ⟨⟨k.val, h⟩, rfl⟩
  · exact .inr ⟨⟨k.val - 128, by omega⟩, Fin.ext (by show k.val = 128 + (k.val - 128); omega)⟩

/-- The largest of 256 logits is the largest, over 128 places, of the larger of the two halves there. -/
theorem top_halves (L : Fin 256 → EReal) :
    top L = Finset.univ.sup fun k : Fin 128 => max (L (curKey k)) (L (prevKey k)) := by
  refine le_antisymm (Finset.sup_le fun k _ => ?_) (Finset.sup_le fun k _ => ?_)
  · rcases eq_prevKey_or_curKey k with ⟨j, rfl⟩ | ⟨j, rfl⟩
    · exact le_trans (le_max_right _ _) (Finset.le_sup (f := fun k : Fin 128 => max (L (curKey k)) (L (prevKey k))) (Finset.mem_univ j))
    · exact le_trans (le_max_left _ _) (Finset.le_sup (f := fun k : Fin 128 => max (L (curKey k)) (L (prevKey k))) (Finset.mem_univ j))
  · exact max_le (Finset.le_sup (Finset.mem_univ _)) (Finset.le_sup (Finset.mem_univ _))

theorem bot_sub (x : EReal) : (⊥ : EReal) - x = ⊥ := by rw [sub_eq_add_neg, EReal.bot_add]

theorem sub_top (x : EReal) : x - (⊤ : EReal) = ⊥ := by rw [sub_eq_add_neg, EReal.neg_top, EReal.add_bot]

theorem weight_of_bot {L : Fin n → EReal} {k : Fin n} (h : L k = ⊥) : weight L k = 0 := by
  rw [weight, h, bot_sub, Ideal.exp_bot]

/-- The two halves' exponentials, added place by place and then over the places, are the row's sum. -/
theorem mass_halves (L : Fin 256 → EReal) :
    mass L = ∑ k : Fin 128, (weight L (curKey k) + weight L (prevKey k)) := by
  rw [mass, sum_halves, Finset.sum_add_distrib, add_comm]

/-- The mean from the two halves: values that differ only where the logit is `⊥` give the same. -/
theorem mean_halves (L V : Fin 256 → EReal) (vc vp : Fin 128 → EReal) (hc : ∀ k, vc k = V (curKey k))
    (hp : ∀ k, vp k = V (prevKey k) ∨ L (prevKey k) = ⊥) :
    mean L V = Ideal.div (∑ k, weight L (curKey k) * vc k + ∑ k, weight L (prevKey k) * vp k) (mass L) := by
  rw [mean, sum_halves, add_comm]
  congr 2
  · exact Finset.sum_congr rfl fun k _ => by rw [hc]
  · refine Finset.sum_congr rfl fun k _ => ?_
    rcases hp k with h | h
    · rw [h]
    · rw [weight_of_bot h, zero_mul, zero_mul]

/-- The exponentials of a row whose largest logit is a real number sum to a real number, at least one. -/
theorem mass_real {L : Fin n → EReal} (ht : top L ≠ ⊤) (hb : top L ≠ ⊥) : ∃ r : ℝ, 1 ≤ r ∧ mass L = r := by
  obtain ⟨m, hm⟩ : ∃ m : ℝ, top L = m := ⟨(top L).toReal, (EReal.coe_toReal ht hb).symm⟩
  have hw : ∀ k, ∃ w : ℝ, 0 ≤ w ∧ weight L k = w := by
    intro k
    have hk : L k ≤ m := hm ▸ Finset.le_sup (f := L) (Finset.mem_univ k)
    induction h : L k with
    | bot => exact ⟨0, le_rfl, by rw [weight_of_bot h, EReal.coe_zero]⟩
    | top => rw [h] at hk; exact absurd hk (by simp)
    | coe x => exact ⟨Real.exp (x - m), (Real.exp_pos _).le, by rw [weight, h, hm, ← EReal.coe_sub, Ideal.exp_coe]⟩
  choose w hw0 hw using hw
  refine ⟨∑ k, w k, ?_, ?_⟩
  · have hne : (Finset.univ : Finset (Fin n)).Nonempty := by
      by_contra hn
      rw [Finset.not_nonempty_iff_eq_empty] at hn
      exact hb (by rw [top, hn, Finset.sup_empty])
    obtain ⟨k, -, hk⟩ := Finset.exists_mem_eq_sup _ hne L
    have h1 : w k = 1 := by
      have e : weight L k = 1 := by
        rw [weight, ← hk, ← top, hm, ← EReal.coe_sub, sub_self, Ideal.exp_coe, Real.exp_zero, EReal.coe_one]
      exact EReal.coe_injective (by rw [← hw, e, EReal.coe_one])
    calc (1 : ℝ) = w k := h1.symm
      _ ≤ ∑ k, w k := Finset.single_le_sum (fun j _ => hw0 j) (Finset.mem_univ k)
  · rw [mass, Finset.sum_congr rfl fun k _ => hw k]
    exact (map_sum (⟨⟨Real.toEReal, EReal.coe_zero⟩, EReal.coe_add⟩ : ℝ →+ EReal) w _).symm

/-- A log-sum-exp is never `⊤`. -/
theorem lse_ne_top (L : Fin n → EReal) : lse L ≠ ⊤ := by
  by_cases hb : top L = ⊥
  · rw [lse, hb, EReal.bot_add]; exact bot_ne_top
  by_cases ht : top L = ⊤
  · have : mass L = 0 := by
      rw [mass]
      exact Finset.sum_eq_zero fun k _ => by rw [weight, ht, sub_top, Ideal.exp_bot]
    rw [lse, this, ← EReal.coe_zero, Ideal.log_coe, if_pos le_rfl, EReal.add_bot]
    exact bot_ne_top
  · obtain ⟨r, hr, e⟩ := mass_real ht hb
    rw [lse, e, Ideal.log_coe, if_neg (by linarith), ← EReal.coe_toReal ht hb, ← EReal.coe_add]
    exact EReal.coe_ne_top _

/-- The log-sum-exp of a row whose largest logit is a real number is one. -/
theorem lse_ne_bot {L : Fin n → EReal} (ht : top L ≠ ⊤) (hb : top L ≠ ⊥) : lse L ≠ ⊥ := by
  obtain ⟨r, hr, e⟩ := mass_real ht hb
  rw [lse, e, Ideal.log_coe, if_neg (by linarith), ← EReal.coe_toReal ht hb, ← EReal.coe_add]
  exact EReal.coe_ne_bot _

/-- A row without `⊤` has no `⊤` for its largest logit. -/
theorem top_ne_top {L : Fin n → EReal} (h : ∀ k, L k ≠ ⊤) : top L ≠ ⊤ := by
  by_cases hn : (Finset.univ : Finset (Fin n)).Nonempty
  · obtain ⟨k, -, hk⟩ := Finset.exists_mem_eq_sup _ hn L
    rw [top, hk]; exact h k
  · rw [Finset.not_nonempty_iff_eq_empty] at hn
    rw [top, hn, Finset.sup_empty]; exact bot_ne_top

/-- A row with a logit above `⊥` has its largest logit above `⊥`. -/
theorem top_ne_bot {L : Fin n → EReal} (k : Fin n) (h : L k ≠ ⊥) : top L ≠ ⊥ := fun e =>
  h (le_bot_iff.mp (e ▸ Finset.le_sup (f := L) (Finset.mem_univ k)))

/-- The merge of three rows by their log-sum-exps: dividing the weighted sum, or each weight, by the
    weights' sum is the same where one log-sum-exp is a real number and none is `⊤`. -/
theorem merge_eq (l o : Fin 3 → EReal) (hb : l 0 ≠ ⊥) (ht : ∀ g, l g ≠ ⊤) :
    mean l o = ∑ g, Ideal.div (weight l g) (mass l) * o g := by
  obtain ⟨r, hr, e⟩ := mass_real (top_ne_top ht) (top_ne_bot 0 hb)
  have hr0 : r ≠ 0 := by linarith
  have h0 : (0 : EReal) ≤ ((1 / r : ℝ) : EReal) := by
    rw [← EReal.coe_zero, EReal.coe_le_coe_iff]; positivity
  rw [mean, e]
  simp only [Ideal.div_coe hr0, Fin.sum_univ_three]
  rw [mul_comm, EReal.left_distrib_of_nonneg_of_ne_top h0 (EReal.coe_ne_top _),
    EReal.left_distrib_of_nonneg_of_ne_top h0 (EReal.coe_ne_top _)]
  simp only [mul_assoc, mul_comm, mul_left_comm]

end Cert.Dilated

end
-- ==== Proof.Dilated.Spec.lean ====
/-
  The dilated attention stated once: a sequence of 4096 positions is cut by a group's dilation into
  subsequences, stored one after another; a position attends to its own block of 128 keys up to itself and to
  the block before it from its own place on; the three groups' outputs are averaged by their log-sum-exps.
-/
module

public import proofs.«01_k».proof.Proof.Dilated.Rows

@[expose] public section

noncomputable section

namespace Cert.Dilated

open Idealize.ShloMosaic

/-- The scale of a product of a query and a key. -/
def scale : EReal := Ideal.ofBits .f32 0x3DB504F3#32

/-- A group's dilation. -/
def dil : Fin 3 → Nat
  | 0 => 1
  | 1 => 4
  | 2 => 16

/-- The stored row at which the block of position `s` begins. -/
def start (g : Fin 3) (s : Nat) : Nat := s % dil g * (4096 / dil g) + s / dil g / 128 * 128

/-- The place of position `s` in its block. -/
def place (g : Fin 3) (s : Nat) : Fin 128 := ⟨s / dil g % 128, Nat.mod_lt _ (by decide)⟩

/-- Position `s` is in the first block of its subsequence. -/
def isFirst (g : Fin 3) (s : Nat) : Prop := s / dil g < 128

instance (g : Fin 3) (s : Nat) : Decidable (isFirst g s) := inferInstanceAs (Decidable (_ < _))

/-- A stored row. -/
def row (n : Nat) : Fin 4096 := ⟨min n 4095, by omega⟩

theorem row_of_lt {n : Nat} (h : n < 4096) : row n = ⟨n, h⟩ := Fin.ext (by show min n 4095 = n; omega)

/-- The logit of key `j` for the query at place `p` of the block that begins at row `st`. -/
def logit (Q K : Fin 4096 → Fin 128 → EReal) (B : Fin 128 → Fin 256 → EReal) (st : Nat) (p : Fin 128) (first : Prop) [Decidable first]
    (j : Fin 256) : EReal :=
  if p.val ≤ j.val ∧ j.val ≤ p.val + 128 ∧ (128 ≤ j.val ∨ ¬ first) then
    (∑ e : Fin 128, Q (row (st + p.val)) e * K (row (st + j.val - 128)) e) * scale + B p j
  else ⊥

/-- The value of key `j`: zero where no block precedes. -/
def keyValue (V : Fin 4096 → Fin 128 → EReal) (st : Nat) (first : Prop) [Decidable first] (d : Fin 128) (j : Fin 256) : EReal :=
  if j.val < 128 ∧ first then 0 else V (row (st + j.val - 128)) d

/-- The three groups' queries, keys and values at one batch entry and head, and their bias. -/
structure Heads where
  Q : Fin 3 → Fin 4096 → Fin 128 → EReal
  K : Fin 3 → Fin 4096 → Fin 128 → EReal
  V : Fin 3 → Fin 4096 → Fin 128 → EReal
  B : Fin 3 → Fin 128 → Fin 256 → EReal

/-- The logits of position `s` in group `g`. -/
def Heads.logits (H : Heads) (s : Nat) (g : Fin 3) : Fin 256 → EReal :=
  logit (H.Q g) (H.K g) (H.B g) (start g s) (place g s) (isFirst g s)

/-- The log-sum-exp of position `s` in group `g`. -/
def Heads.lse (H : Heads) (s : Nat) (g : Fin 3) : EReal := Dilated.lse (H.logits s g)

/-- The output of position `s` in group `g`. -/
def Heads.out (H : Heads) (s : Nat) (d : Fin 128) (g : Fin 3) : EReal :=
  mean (H.logits s g) (keyValue (H.V g) (start g s) (isFirst g s) d)

/-- The merged output of position `s`. -/
def Heads.merged (H : Heads) (s : Nat) (d : Fin 128) : EReal := mean (H.lse s) (H.out s d)

/-- A position's own key is seen, so with finite products and bias the first group's log-sum-exp is a number. -/
theorem Heads.lse_zero_ne_bot (H : Heads) (s : Nat) (hQ : ∀ r e, ∃ x : ℝ, H.Q 0 r e = x) (hK : ∀ r e, ∃ x : ℝ, H.K 0 r e = x)
    (hB : ∀ p j, ∃ x : ℝ, H.B 0 p j = x) (hscale : ∃ x : ℝ, scale = x) : H.lse s 0 ≠ ⊥ := by
  have hreal : ∀ (a b : Fin 128 → EReal) (c : EReal), (∀ e, ∃ x : ℝ, a e = x) → (∀ e, ∃ x : ℝ, b e = x) → (∃ x : ℝ, c = x) →
      ∃ x : ℝ, (∑ e, a e * b e) * scale + c = x := by
    intro a b c ha hb hc
    choose a' ha using ha
    choose b' hb using hb
    obtain ⟨c', rfl⟩ := hc
    obtain ⟨z, hz⟩ := hscale
    refine ⟨(∑ e, a' e * b' e) * z + c', ?_⟩
    have e1 : ∑ e, a e * b e = ((∑ e, a' e * b' e : ℝ) : EReal) := by
      rw [Finset.sum_congr rfl fun e _ => by rw [ha, hb, ← EReal.coe_mul]]
      exact (map_sum (⟨⟨Real.toEReal, EReal.coe_zero⟩, EReal.coe_add⟩ : ℝ →+ EReal) (fun e => a' e * b' e) _).symm
    rw [e1, hz, ← EReal.coe_mul, ← EReal.coe_add]
  refine lse_ne_bot (top_ne_top fun k => ?_) (top_ne_bot (curKey (place 0 s)) ?_)
  · unfold Heads.logits logit
    split
    · obtain ⟨x, hx⟩ := hreal _ _ _ (hQ (row (start 0 s + (place 0 s).val))) (hK (row (start 0 s + k.val - 128))) (hB (place 0 s) k)
      rw [hx]; exact EReal.coe_ne_top _
    · exact bot_ne_top
  · unfold Heads.logits logit
    have hp := (place 0 s).isLt
    rw [if_pos ⟨by show (place 0 s).val ≤ 128 + (place 0 s).val; omega, by show 128 + (place 0 s).val ≤ _; omega, .inl (by show 128 ≤ 128 + _; omega)⟩]
    obtain ⟨x, hx⟩ := hreal _ _ _ (hQ (row (start 0 s + (place 0 s).val))) (hK (row (start 0 s + (curKey (place 0 s)).val - 128)))
      (hB (place 0 s) (curKey (place 0 s)))
    rw [hx]; exact EReal.coe_ne_bot _

/-- Where the first group's log-sum-exp is a number, dividing each weight or the whole sum is the same. -/
theorem Heads.merged_eq (H : Heads) (s : Nat) (d : Fin 128) (h : H.lse s 0 ≠ ⊥) :
    H.merged s d = ∑ g, Ideal.div (weight (H.lse s) g) (mass (H.lse s)) * H.out s d g :=
  merge_eq _ _ h fun _ => lse_ne_top _

end Cert.Dilated

end
-- ==== Proof.Dilated.Waves.lean ====
/-
  The attention's block body over tiles: sixteen 128x128 tiles stacked, the masked and biased scores of the
  current and the preceding keys, their softmax, and the three groups' results as functions of the block's
  arrays. The run's named values are these.
-/
module

public import proofs.«01_k».proof.Proof.Gen.KernelIdeal.Value

@[expose] public section

set_option maxRecDepth 65536

noncomputable section

namespace Cert.Dilated

open Cert.KernelIdeal Cert.KernelIdeal.Gen Idealize.ShloMosaic Idealize.ShloMosaic.TcCoe Idealize.SL.Sem

variable {F : FTy → Type} [FloatOps F] [Named F]

/-- A tile with a unit axis in front. -/
def sq {α : Type} (x : S128x128.Idx → α) : S1x128x128.Idx → α := shapeCast S1x128x128 x shapeCasts_S128x128_S1x128x128

/-- Sixteen tiles stacked. -/
def stack {α : Type} (f : Fin 16 → S128x128.Idx → α) : S16x128x128.Idx → α :=
  concatenate S16x128x128 0 [⟨S1x128x128, sq (f 0)⟩, ⟨S1x128x128, sq (f 1)⟩, ⟨S1x128x128, sq (f 2)⟩, ⟨S1x128x128, sq (f 3)⟩, ⟨S1x128x128, sq (f 4)⟩, ⟨S1x128x128, sq (f 5)⟩, ⟨S1x128x128, sq (f 6)⟩, ⟨S1x128x128, sq (f 7)⟩, ⟨S1x128x128, sq (f 8)⟩, ⟨S1x128x128, sq (f 9)⟩, ⟨S1x128x128, sq (f 10)⟩, ⟨S1x128x128, sq (f 11)⟩, ⟨S1x128x128, sq (f 12)⟩, ⟨S1x128x128, sq (f 13)⟩, ⟨S1x128x128, sq (f 14)⟩, ⟨S1x128x128, sq (f 15)⟩] concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0

/-- The number of a group's tile among the 48. -/
def slot (g : Fin 3) (w : Fin 16) : Fin 48 := ⟨16 * g.val + w.val, by omega⟩

/-- A block array of 4096 rows of one head. -/
abbrev Rows (F : FTy → Type) : Type := S1x4096x128.Idx → Elt F .bf16

variable (i : grid0.Coords) (arg : Memref sig .tc .vmem S1x4096x128 .bf16) (harg : arg.IsWhole) (x : Rows F)

/-- The 128 rows of a tile. -/
def curTile (r : Fin 48) : FVec F S128x128 .bf16 :=
  shapeCast S128x128 (View.readAt (Elt F) arg.view (Rect.unit (s := S1x4096x128)
    (k0_off1 i (k0_off1_at r).1 (k0_off1_at r).2.1 (k0_off1_at r).2.2) S1x128x128.size (k0_off1_inb i r)).toLoadRect (harg.unread x))
    shapeCasts_S1x128x128_S128x128

/-- The 128 rows before a tile's (those of the tile at row zero: its own). -/
def prevTile (r : Fin 48) : FVec F S128x128 .bf16 :=
  shapeCast S128x128 (View.readAt (Elt F) arg.view (Rect.unit (s := S1x4096x128)
    (k0_off2 i (k0_off2_at r).1 (k0_off2_at r).2.1 (k0_off2_at r).2.2) S1x128x128.size (k0_off2_inb i r)).toLoadRect (harg.unread x))
    shapeCasts_S1x128x128_S128x128

/-- A key at or before its query, in the current tile. -/
def maskCur : IVec S128x128 1 := cmpi .sge (iota .tc S128x128 32 [0] iota_S128x128_d0_w32) (iota .tc S128x128 32 [1] iota_S128x128_d1_w32)

/-- A key of the preceding tile at or after its query's place. -/
def maskPrev : IVec S128x128 1 := cmpi .sge (iota .tc S128x128 32 [1] iota_S128x128_d1_w32) (iota .tc S128x128 32 [0] iota_S128x128_d0_w32)

/-- The same for a tile that begins a half of its sequence: nothing precedes the first half. -/
def maskFirst : IVec S128x128 1 :=
  andi maskPrev (broadcast S128x128 (Scalar.cmpi .sgt (BitVec.ofNat 32 (i 2).val) 0#32))

/-- The tiles of group `g` that begin a half of their sequence. -/
def begins (g : Fin 3) (w : Fin 16) : Prop := w.val % (match g with | 0 => 16 | 1 => 4 | 2 => 1) = 0

instance (g : Fin 3) (w : Fin 16) : Decidable (begins g w) := inferInstanceAs (Decidable (_ = _))

/-- The masks of a group's tiles over their preceding keys. -/
def masksPrev (g : Fin 3) : IVec S16x128x128 1 := stack fun w => if begins g w then maskFirst i else maskPrev

/-- The masks of the tiles over their own keys. -/
def masksCur : IVec S16x128x128 1 := broadcastTo S16x128x128 (shapeCast S1x128x128 maskCur shapeCasts_S128x128_S1x128x128) broadcasts_S1x128x128_S16x128x128

/-- Products of queries and keys, scaled, biased and masked. -/
def scores (mask : IVec S16x128x128 1) (b : FVec F S128x128 .f32) (q k : Fin 16 → FVec F S128x128 .bf16) : FVec F S16x128x128 .f32 :=
  select mask
    (addf (mulf (matmul dot_S16x128x128_S16x128x128_S16x128x128_2_2_1_1_0_0 none (stack q) (stack k) (constant S16x128x128 .f32 0x00000000#32))
        (broadcast S16x128x128 (Scalar.ofBits .f32 0x3DB504F3#32)))
      (broadcastTo S16x128x128 (shapeCast S1x128x128 b shapeCasts_S128x128_S1x128x128) broadcasts_S1x128x128_S16x128x128))
    (broadcast S16x128x128 (Named.named κ "neg" 0xF149F2CA#32))

/-- The largest score of each query. -/
def waveTop (sc sp : FVec F S16x128x128 .f32) : FVec F S16x128x1 .f32 :=
  shapeCast S16x128x1 (multiReduction .maximumf [2] S16x128 (maximumf sc sp) 0xFF800000#32 reduces_S16x128x128_S16x128 (.inl rfl) rfl)
    shapeCasts_S16x128_S16x128x1

/-- The exponentials of scores under their query's largest. -/
def waveExp (s : FVec F S16x128x128 .f32) (m : FVec F S16x128x1 .f32) : FVec F S16x128x128 .f32 :=
  exp (subf s (broadcastTo S16x128x128 m broadcasts_S16x128x1_S16x128x128))

/-- The sum of a query's exponentials. -/
def waveSum (ec ep : FVec F S16x128x128 .f32) : FVec F S16x128x1 .f32 :=
  shapeCast S16x128x1 (multiReduction .add [2] S16x128 (addf ec ep) 0x00000000#32 reduces_S16x128x128_S16x128 (.inl rfl) rfl)
    shapeCasts_S16x128_S16x128x1

/-- The values of the two tiles, weighted and divided by the sum. -/
def waveMean (ec ep : FVec F S16x128x128 .f32) (s : FVec F S16x128x1 .f32) (vc vp : Fin 16 → FVec F S128x128 .bf16) : FVec F S16x128x128 .f32 :=
  divf (addf
      (matmul dot_S16x128x128_S16x128x128_S16x128x128_2_1_1_2_0_0 none (truncf .bf16 ec bitsLt_bf16_f32) (stack vc) (constant S16x128x128 .f32 0x00000000#32))
      (matmul dot_S16x128x128_S16x128x128_S16x128x128_2_1_1_2_0_0 none (truncf .bf16 ep bitsLt_bf16_f32) (stack vp) (constant S16x128x128 .f32 0x00000000#32)))
    (broadcastTo S16x128x128 s broadcasts_S16x128x1_S16x128x128)

/-- The log-sum-exp of a query's scores. -/
def waveLse (m s : FVec F S16x128x1 .f32) : FVec F S16x128x1 .f32 := addf m (log s)

/-- A block's bias. -/
abbrev Bias (F : FTy → Type) : Type := S3x1x128x256.Idx → Elt F .f32

variable (argb : Memref sig .tc .vmem S3x1x128x256 .f32) (hargb : argb.IsWhole) (xb : Bias F)

/-- A group's bias over its current keys. -/
def biasCur (g : Fin 3) : FVec F S128x128 .f32 :=
  shapeCast S128x128 (View.readAt (Elt F) argb.view (Rect.unit (s := S3x1x128x256) ![g.val, 0, 0, 128] S1x1x128x128.size
    (by revert g; decide)).toLoadRect (hargb.unread xb)) shapeCasts_S1x1x128x128_S128x128

/-- A group's bias over its preceding keys. -/
def biasPrev (g : Fin 3) : FVec F S128x128 .f32 :=
  shapeCast S128x128 (View.readAt (Elt F) argb.view (Rect.unit (s := S3x1x128x256) ![g.val, 0, 0, 0] S1x1x128x128.size
    (by revert g; decide)).toLoadRect (hargb.unread xb)) shapeCasts_S1x1x128x128_S128x128

variable (g : Fin 3) (aq ak av : Memref sig .tc .vmem S1x4096x128 .bf16) (hq : aq.IsWhole) (hk : ak.IsWhole) (hv : av.IsWhole)
  (xq xk xv : Rows F)

/-- A group's scores over the current keys. -/
def groupCur : FVec F S16x128x128 .f32 :=
  scores masksCur (biasCur argb hargb xb g) (fun w => curTile i aq hq xq (slot g w)) (fun w => curTile i ak hk xk (slot g w))

/-- A group's scores over the preceding keys. -/
def groupPrev : FVec F S16x128x128 .f32 :=
  scores (masksPrev i g) (biasPrev argb hargb xb g) (fun w => curTile i aq hq xq (slot g w)) (fun w => prevTile i ak hk xk (slot g w))

/-- A group's largest scores. -/
def groupTop : FVec F S16x128x1 .f32 :=
  waveTop (groupCur i argb hargb xb g aq ak hq hk xq xk) (groupPrev i argb hargb xb g aq ak hq hk xq xk)

/-- A group's exponentials over the current keys. -/
def groupExpCur : FVec F S16x128x128 .f32 :=
  waveExp (groupCur i argb hargb xb g aq ak hq hk xq xk) (groupTop i argb hargb xb g aq ak hq hk xq xk)

/-- A group's exponentials over the preceding keys. -/
def groupExpPrev : FVec F S16x128x128 .f32 :=
  waveExp (groupPrev i argb hargb xb g aq ak hq hk xq xk) (groupTop i argb hargb xb g aq ak hq hk xq xk)

/-- A group's sums of exponentials. -/
def groupSum : FVec F S16x128x1 .f32 :=
  waveSum (groupExpCur i argb hargb xb g aq ak hq hk xq xk) (groupExpPrev i argb hargb xb g aq ak hq hk xq xk)

/-- A group's outputs, tile by tile. -/
def groupOut : FVec F S16x128x128 .f32 :=
  waveMean (groupExpCur i argb hargb xb g aq ak hq hk xq xk) (groupExpPrev i argb hargb xb g aq ak hq hk xq xk)
    (groupSum i argb hargb xb g aq ak hq hk xq xk) (fun w => curTile i av hv xv (slot g w)) (fun w => prevTile i av hv xv (slot g w))

/-- A group's log-sum-exps, tile by tile. -/
def groupLse : FVec F S16x128x1 .f32 :=
  waveLse (groupTop i argb hargb xb g aq ak hq hk xq xk) (groupSum i argb hargb xb g aq ak hq hk xq xk)

variable (c : Dev nD)

/-- The run's outputs of the first group. -/
theorem out0_eq : kernelRun0_A.sl.v501 c i aq hq ak hk av hv argb hargb xq xk xv xb = groupOut i argb hargb xb 0 aq ak av hq hk hv xq xk xv := rfl

/-- The run's log-sum-exps of the first group. -/
theorem lse0_eq : kernelRun0_A.sl.v503 c i aq hq ak hk argb hargb xq xk xb = groupLse i argb hargb xb 0 aq ak hq hk xq xk := rfl

/-- The run's outputs of the second group. -/
theorem out1_eq : kernelRun0_A.sl.v1202 c i aq hq ak hk av hv argb hargb xq xk xv xb = groupOut i argb hargb xb 1 aq ak av hq hk hv xq xk xv := rfl

/-- The run's log-sum-exps of the second group. -/
theorem lse1_eq : kernelRun0_A.sl.v1204 c i aq hq ak hk argb hargb xq xk xb = groupLse i argb hargb xb 1 aq ak hq hk xq xk := rfl

/-- The run's outputs of the third group. -/
theorem out2_eq : kernelRun0_A.sl.v1939 c i aq hq ak hk av hv argb hargb xq xk xv xb = groupOut i argb hargb xb 2 aq ak av hq hk hv xq xk xv := rfl

/-- The run's log-sum-exps of the third group. -/
theorem lse2_eq : kernelRun0_A.sl.v1941 c i aq hq ak hk argb hargb xq xk xb = groupLse i argb hargb xb 2 aq ak hq hk xq xk := rfl

end Cert.Dilated

end
-- ==== Proof.Dilated.Block.lean ====
/-
  The block body's arrays at an index, over extended reals.
-/
module

public import proofs.«01_k».proof.Proof.Dilated.Spec
public import proofs.«01_k».proof.Proof.Dilated.Waves
public import Idealize.ShloMosaic.Lib.Pointwise
public import Idealize.ShloMosaic.Lib.WordCmp

@[expose] public section

set_option maxRecDepth 65536

noncomputable section

namespace Cert.Dilated

open Cert.KernelIdeal Cert.KernelIdeal.Gen Idealize.ShloMosaic Idealize.ShloMosaic.TcCoe Idealize.SL.Sem

/-- The stack of tiles at an index is the tile's. -/
theorem stack_apply {α : Type} (f : Fin 16 → S128x128.Idx → α) (t : Fin 16) (r c : Fin 128) :
    stack f (ix3 t r c) = f t (ix2 r c) := by
  have h := concatenate_ofFn_unit_apply (s₁ := S1x128x128) (t := S16x128x128) 0 (fun n : Fin 16 => sq (f n)) (by exact concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0)
    rfl rfl (ix3 t r c) t rfl (ix3 0 r c) (fun b hb => by match b with | ⟨0, _⟩ => exact absurd rfl hb | ⟨1, _⟩ => rfl | ⟨2, _⟩ => rfl)
  refine Eq.trans (b := _) ?_ (h.trans ?_)
  · rfl
  · show sq (f t) (ix3 0 r c) = _
    unfold sq
    pointwise

theorem neg_eq : (Named.named κ "neg" 0xF149F2CA#32 : Ideal .f32) = (⊥ : EReal) := rfl

theorem ofBits_neg_inf : Ideal.ofBits .f32 0xFF800000#32 = ⊥ := by simp [Ideal.ofBits, Ideal.ieee]

theorem scores_apply (mask : IVec S16x128x128 1) (b : FVec Ideal S128x128 .f32) (q k : Fin 16 → FVec Ideal S128x128 .bf16) (t : Fin 16) (r c : Fin 128) :
    scores mask b q k (ix3 t r c)
      = if mask (ix3 t r c) = 1#1 then (∑ e : Fin 128, q t (ix2 r e) * k t (ix2 c e)) * scale + b (ix2 r c) else (⊥ : EReal) := by
  pointwise [scores, neg_eq, stack_apply]
  rfl

theorem waveTop_apply (sc sp : FVec Ideal S16x128x128 .f32) (t : Fin 16) (r : Fin 128) :
    waveTop sc sp (ix3 t r 0) = Finset.univ.sup fun k : Fin 128 => max (sc (ix3 t r k)) (sp (ix3 t r k)) := by
  pointwise [waveTop]
  rw [ofBits_neg_inf]
  rfl

theorem waveExp_apply (s : FVec Ideal S16x128x128 .f32) (m : FVec Ideal S16x128x1 .f32) (t : Fin 16) (r k : Fin 128) :
    waveExp s m (ix3 t r k) = Ideal.exp (s (ix3 t r k) - m (ix3 t r 0)) := by
  pointwise [waveExp]

theorem waveSum_apply (ec ep : FVec Ideal S16x128x128 .f32) (t : Fin 16) (r : Fin 128) :
    waveSum ec ep (ix3 t r 0) = ∑ k : Fin 128, (ec (ix3 t r k) + ep (ix3 t r k)) := by
  pointwise [waveSum]

theorem waveMean_apply (ec ep : FVec Ideal S16x128x128 .f32) (s : FVec Ideal S16x128x1 .f32) (vc vp : Fin 16 → FVec Ideal S128x128 .bf16)
    (t : Fin 16) (r d : Fin 128) :
    waveMean ec ep s vc vp (ix3 t r d)
      = Ideal.div (∑ k : Fin 128, ec (ix3 t r k) * vc t (ix2 k d) + ∑ k : Fin 128, ep (ix3 t r k) * vp t (ix2 k d)) (s (ix3 t r 0)) := by
  pointwise [waveMean, stack_apply]

theorem waveLse_apply (m s : FVec Ideal S16x128x1 .f32) (t : Fin 16) (r : Fin 128) :
    waveLse m s (ix3 t r 0) = m (ix3 t r 0) + Ideal.log (s (ix3 t r 0)) := by
  pointwise [waveLse]

theorem masksCur_apply (t : Fin 16) (r k : Fin 128) : masksCur (ix3 t r k) = 1#1 ↔ k.val ≤ r.val := by
  pointwise [masksCur, maskCur]
  exact WordCmp.cmpi_sge_ofNat_eq_one_iff (by omega) (by omega)

theorem maskPrev_apply (r k : Fin 128) : maskPrev (ix2 r k) = 1#1 ↔ r.val ≤ k.val := by
  pointwise [maskPrev]
  exact WordCmp.cmpi_sge_ofNat_eq_one_iff (by omega) (by omega)

theorem maskFirst_apply (i : grid0.Coords) (r k : Fin 128) : maskFirst i (ix2 r k) = 1#1 ↔ (i 2).val ≠ 0 ∧ r.val ≤ k.val := by
  pointwise [maskFirst]
  have h := maskPrev_apply r k
  have h2 : (i 2).val < 2 := (i 2).isLt
  have h3 : Scalar.cmpi .sgt (BitVec.ofNat 32 (i 2).val) 0#32 = 1#1 ↔ 0 < (i 2).val :=
    WordCmp.cmpi_sgt_ofNat_eq_one_iff (w := 32) (a := (i 2).val) (b := 0) (by omega) (by omega)
  rw [IntOp.andi_eq_one, h, h3]
  omega

end Cert.Dilated

end
-- ==== Proof.Dilated.Groups.lean ====
/-
  A group's tiles at an index: the rows a tile reads, and its scores, sums, outputs and log-sum-exps as the
  attention's rows.
-/
module

public import proofs.«01_k».proof.Proof.Dilated.Block
public import Idealize.ShloMosaic.Lib.WholeRead

@[expose] public section

set_option maxRecDepth 65536

noncomputable section

namespace Cert.Dilated

open Cert.KernelIdeal Cert.KernelIdeal.Gen Idealize.ShloMosaic Idealize.ShloMosaic.TcCoe Idealize.SL.Sem

/-- The row at which tile `w` of group `g` begins, in half `c` of the sequence. -/
def tileStart (g : Fin 3) (w : Fin 16) (c : Nat) : Nat :=
  match g with
  | 0 => 2048 * c + 128 * w.val
  | 1 => 1024 * (w.val / 4) + 512 * c + 128 * (w.val % 4)
  | 2 => 256 * w.val + 128 * c

theorem off1_eq (g : Fin 3) (w : Fin 16) (i : grid0.Coords) :
    k0_off1 i (k0_off1_at (slot g w)).1 (k0_off1_at (slot g w)).2.1 (k0_off1_at (slot g w)).2.2 = ![0, tileStart g w (i 2).val, 0] := by
  unfold k0_off1
  generalize (i 2 : Fin 2) = c
  revert g w c
  decide +kernel

theorem off2_eq (g : Fin 3) (w : Fin 16) (i : grid0.Coords) :
    k0_off2 i (k0_off2_at (slot g w)).1 (k0_off2_at (slot g w)).2.1 (k0_off2_at (slot g w)).2.2 = ![0, tileStart g w (i 2).val - 128, 0] := by
  unfold k0_off2
  generalize (i 2 : Fin 2) = c
  revert g w c
  decide +kernel

theorem tileStart_le (g : Fin 3) (w : Fin 16) (c : Fin 2) : tileStart g w c.val + 128 ≤ 4096 := by
  revert g w c; decide

theorem le_tileStart (g : Fin 3) (w : Fin 16) (c : Fin 2) (h : ¬ (begins g w ∧ c.val = 0)) : 128 ≤ tileStart g w c.val := by
  revert g w c; decide

variable (i : grid0.Coords) (arg : Memref sig .tc .vmem S1x4096x128 .bf16) (harg : arg.IsWhole) (x : Rows Ideal)

theorem dropUnit_apply {α : Type} (y : S1x128x128.Idx → α) (p e : Fin 128) :
    shapeCast S128x128 y shapeCasts_S1x128x128_S128x128 (ix2 p e) = y (ix3 0 p e) := by
  pointwise

theorem dropUnits_apply {α : Type} (y : S1x1x128x128.Idx → α) (p e : Fin 128) :
    shapeCast S128x128 y shapeCasts_S1x1x128x128_S128x128 (ix2 p e) = y (ix4 0 0 p e) := by
  pointwise

/-- A tile of 128 rows from offset `n`, at an index. -/
theorem rows_apply (off : Fin 3 → Nat) (n : Nat) (ho : off = ![0, n, 0]) (h : ∀ a, off a + S1x128x128.size a ≤ S1x4096x128.size a)
    (p e : Fin 128) :
    shapeCast S128x128 (View.readAt (Elt Ideal) arg.view (Rect.unit (s := S1x4096x128) off S1x128x128.size h).toLoadRect (harg.unread x))
      shapeCasts_S1x128x128_S128x128 (ix2 p e) = x (ix3 0 (row (n + p.val)) e) := by
  subst ho
  have hn : n + 128 ≤ 4096 := h 1
  rw [row_of_lt (by omega)]
  refine (dropUnit_apply _ p e).trans ((Memref.IsWhole.readAt_unread harg x _ _).trans ?_)
  refine congrArg x (funext fun a => Fin.ext ?_)
  match a with
  | ⟨0, _⟩ => rfl
  | ⟨1, _⟩ => show n + 1 * p.val = n + p.val; omega
  | ⟨2, _⟩ => show 0 + 1 * e.val = e.val; omega

theorem curTile_apply (g : Fin 3) (w : Fin 16) (p e : Fin 128) :
    curTile i arg harg x (slot g w) (ix2 p e) = x (ix3 0 (row (tileStart g w (i 2).val + p.val)) e) :=
  rows_apply arg harg x _ _ (off1_eq g w i) _ p e

theorem prevTile_apply (g : Fin 3) (w : Fin 16) (p e : Fin 128) :
    prevTile i arg harg x (slot g w) (ix2 p e) = x (ix3 0 (row (tileStart g w (i 2).val - 128 + p.val)) e) :=
  rows_apply arg harg x _ _ (off2_eq g w i) _ p e

variable (argb : Memref sig .tc .vmem S3x1x128x256 .f32) (hargb : argb.IsWhole) (xb : Bias Ideal)

theorem biasCur_apply (g : Fin 3) (p k : Fin 128) : biasCur argb hargb xb g (ix2 p k) = xb (ix4 g 0 p (curKey k)) := by
  unfold biasCur
  refine (dropUnits_apply _ p k).trans ((Memref.IsWhole.readAt_unread hargb xb _ _).trans ?_)
  refine congrArg xb (funext fun a => Fin.ext ?_)
  match a with
  | ⟨0, _⟩ => show g.val + 1 * 0 = g.val; omega
  | ⟨1, _⟩ => rfl
  | ⟨2, _⟩ => show 0 + 1 * p.val = p.val; omega
  | ⟨3, _⟩ => show 128 + 1 * k.val = 128 + k.val; omega

theorem biasPrev_apply (g : Fin 3) (p k : Fin 128) : biasPrev argb hargb xb g (ix2 p k) = xb (ix4 g 0 p (prevKey k)) := by
  unfold biasPrev
  refine (dropUnits_apply _ p k).trans ((Memref.IsWhole.readAt_unread hargb xb _ _).trans ?_)
  refine congrArg xb (funext fun a => Fin.ext ?_)
  match a with
  | ⟨0, _⟩ => show g.val + 1 * 0 = g.val; omega
  | ⟨1, _⟩ => rfl
  | ⟨2, _⟩ => show 0 + 1 * p.val = p.val; omega
  | ⟨3, _⟩ => show 0 + 1 * k.val = k.val; omega

theorem masksPrev_apply (g : Fin 3) (w : Fin 16) (p k : Fin 128) :
    masksPrev i g (ix3 w p k) = 1#1 ↔ ¬ (begins g w ∧ (i 2).val = 0) ∧ p.val ≤ k.val := by
  unfold masksPrev
  rw [stack_apply]
  split
  · next h => rw [maskFirst_apply]; simp only [h, true_and]
  · next h => rw [maskPrev_apply]; simp only [h, false_and, not_false_eq_true, true_and]

/-- A block's rows by row and column. -/
def byRow (x : Rows Ideal) (r : Fin 4096) (e : Fin 128) : EReal := x (ix3 0 r e)

/-- A block's bias of group `g` by query and key. -/
def byKey (xb : Bias Ideal) (g : Fin 3) (p : Fin 128) (j : Fin 256) : EReal := xb (ix4 g 0 p j)

variable (g : Fin 3) (aq ak av : Memref sig .tc .vmem S1x4096x128 .bf16) (hq : aq.IsWhole) (hk : ak.IsWhole) (hv : av.IsWhole)
  (xq xk xv : Rows Ideal)

/-- The logits of the query at place `p` of tile `w`. -/
def tileLogits (w : Fin 16) (p : Fin 128) : Fin 256 → EReal :=
  logit (byRow xq) (byRow xk) (byKey xb g) (tileStart g w (i 2).val) p (begins g w ∧ (i 2).val = 0)

theorem groupCur_apply (w : Fin 16) (p k : Fin 128) :
    groupCur i argb hargb xb g aq ak hq hk xq xk (ix3 w p k) = tileLogits i xb g xq xk w p (curKey k) := by
  unfold groupCur tileLogits logit
  rw [scores_apply, biasCur_apply]
  have hj : (curKey k).val = 128 + k.val := rfl
  have e2 : ∀ n : Nat, n + (curKey k).val - 128 = n + k.val := fun n => by rw [hj]; omega
  simp only [curTile_apply, e2, masksCur_apply]
  refine if_congr ⟨fun h => ⟨by omega, by omega, .inl (by omega)⟩, fun h => by omega⟩ rfl rfl

theorem groupPrev_apply (w : Fin 16) (p k : Fin 128) :
    groupPrev i argb hargb xb g aq ak hq hk xq xk (ix3 w p k) = tileLogits i xb g xq xk w p (prevKey k) := by
  unfold groupPrev tileLogits logit
  rw [scores_apply, biasPrev_apply]
  have hj : (prevKey k).val = k.val := rfl
  simp only [curTile_apply, prevTile_apply, masksPrev_apply]
  by_cases h : ¬ (begins g w ∧ (i 2).val = 0) ∧ p.val ≤ k.val
  · have hs := le_tileStart g w (i 2) h.1
    rw [if_pos h, if_pos ⟨by omega, by omega, .inr h.1⟩]
    have e2 : tileStart g w (i 2).val - 128 + k.val = tileStart g w (i 2).val + (prevKey k).val - 128 := by
      rw [hj]; exact (Nat.sub_add_comm hs).symm
    rw [e2]; rfl
  · rw [if_neg h, if_neg]
    rintro ⟨h1, h2, h3⟩
    rcases h3 with h3 | h3
    · omega
    · exact h ⟨h3, by omega⟩

theorem groupTop_apply (w : Fin 16) (p : Fin 128) :
    groupTop i argb hargb xb g aq ak hq hk xq xk (ix3 w p 0) = top (tileLogits i xb g xq xk w p) := by
  unfold groupTop
  rw [waveTop_apply, top_halves]
  simp only [groupCur_apply, groupPrev_apply]

theorem groupExpCur_apply (w : Fin 16) (p k : Fin 128) :
    groupExpCur i argb hargb xb g aq ak hq hk xq xk (ix3 w p k) = weight (tileLogits i xb g xq xk w p) (curKey k) := by
  unfold groupExpCur
  rw [waveExp_apply, groupCur_apply, groupTop_apply]; rfl

theorem groupExpPrev_apply (w : Fin 16) (p k : Fin 128) :
    groupExpPrev i argb hargb xb g aq ak hq hk xq xk (ix3 w p k) = weight (tileLogits i xb g xq xk w p) (prevKey k) := by
  unfold groupExpPrev
  rw [waveExp_apply, groupPrev_apply, groupTop_apply]; rfl

theorem groupSum_apply (w : Fin 16) (p : Fin 128) :
    groupSum i argb hargb xb g aq ak hq hk xq xk (ix3 w p 0) = mass (tileLogits i xb g xq xk w p) := by
  unfold groupSum
  rw [waveSum_apply, mass_halves]
  simp only [groupExpCur_apply, groupExpPrev_apply]

/-- A group's log-sum-exps at tile `w`, place `p`. -/
theorem groupLse_apply (w : Fin 16) (p : Fin 128) :
    groupLse i argb hargb xb g aq ak hq hk xq xk (ix3 w p 0) = lse (tileLogits i xb g xq xk w p) := by
  unfold groupLse
  rw [waveLse_apply, groupTop_apply, groupSum_apply]; rfl

/-- A group's outputs at tile `w`, place `p`. -/
theorem groupOut_apply (w : Fin 16) (p d : Fin 128) :
    groupOut i argb hargb xb g aq ak av hq hk hv xq xk xv (ix3 w p d)
      = mean (tileLogits i xb g xq xk w p) (keyValue (byRow xv) (tileStart g w (i 2).val) (begins g w ∧ (i 2).val = 0) d) := by
  unfold groupOut
  rw [waveMean_apply, groupSum_apply]
  simp only [groupExpCur_apply, groupExpPrev_apply, curTile_apply, prevTile_apply]
  refine (mean_halves _ _ _ _ (fun k => ?_) (fun k => ?_)).symm
  · unfold keyValue
    rw [if_neg (fun h => absurd h.1 (by show ¬ 128 + k.val < 128; omega))]
    have e2 : tileStart g w (i 2).val + (curKey k).val - 128 = tileStart g w (i 2).val + k.val := by
      show _ + (128 + k.val) - 128 = _; omega
    rw [e2]; rfl
  · by_cases h : begins g w ∧ (i 2).val = 0
    · right
      unfold tileLogits logit
      rw [if_neg]
      rintro ⟨-, -, h3⟩
      rcases h3 with h3 | h3
      · exact absurd h3 (by show ¬ 128 ≤ k.val; omega)
      · exact h3 h
    · left
      have hs := le_tileStart g w (i 2) h
      unfold keyValue
      rw [if_neg (fun h' => h h'.2)]
      have e2 : tileStart g w (i 2).val - 128 + k.val = tileStart g w (i 2).val + (prevKey k).val - 128 :=
        (Nat.sub_add_comm hs).symm
      rw [e2]; rfl

end Cert.Dilated

end
-- ==== Proof.Dilated.Pieces.lean ====
/-
  What the block body leaves in its two scratch arrays: each group's sixteen tiles, laid out with the group's
  dilation as the stride, so that a row of the scratch is a position of the half sequence.
-/
module

public import proofs.«01_k».proof.Proof.Dilated.Groups

@[expose] public section

set_option maxRecDepth 65536

noncomputable section

namespace Cert.Dilated

open Cert.KernelIdeal Cert.KernelIdeal.Gen Idealize.ShloMosaic Idealize.ShloMosaic.TcCoe Idealize.SL.Sem

/-- The tile in which group `g` has position `R` of a half sequence. -/
def tileOf (g : Fin 3) (R : Nat) (h : R < 2048) : Fin 16 :=
  ⟨R % dil g * (16 / dil g) + R / dil g / 128, by
    match g with
    | 0 => show R % 1 * 16 + R / 1 / 128 < 16; omega
    | 1 => show R % 4 * 4 + R / 4 / 128 < 16; omega
    | 2 => show R % 16 * 1 + R / 16 / 128 < 16; omega⟩

/-- Where the place `p` of tile `w` lies in the half sequence. -/
def rowOf (g : Fin 3) (w : Fin 16) (p : Fin 128) : Nat :=
  match g with
  | 0 => 128 * w.val + p.val
  | 1 => w.val / 4 + 512 * (w.val % 4) + 4 * p.val
  | 2 => w.val + 16 * p.val

theorem rowOf_lt (g : Fin 3) (w : Fin 16) (p : Fin 128) : rowOf g w p < 2048 := by
  match g with
  | 0 => show 128 * w.val + p.val < 2048; omega
  | 1 => show w.val / 4 + 512 * (w.val % 4) + 4 * p.val < 2048; omega
  | 2 => show w.val + 16 * p.val < 2048; omega

theorem rowOf_tileOf (g : Fin 3) (R : Nat) (h : R < 2048) : rowOf g (tileOf g R h) (place g R) = R := by
  match g with
  | 0 => show 128 * (R % 1 * 16 + R / 1 / 128) + R / 1 % 128 = R; omega
  | 1 => show (R % 4 * 4 + R / 4 / 128) / 4 + 512 * ((R % 4 * 4 + R / 4 / 128) % 4) + 4 * (R / 4 % 128) = R; omega
  | 2 => show R % 16 * 1 + R / 16 / 128 + 16 * (R / 16 % 128) = R; omega

theorem tileOf_rowOf (g : Fin 3) (w : Fin 16) (p : Fin 128) : tileOf g (rowOf g w p) (rowOf_lt g w p) = w := by
  refine Fin.ext ?_
  match g with
  | 0 => show (128 * w.val + p.val) % 1 * 16 + (128 * w.val + p.val) / 1 / 128 = w.val; omega
  | 1 => show (w.val / 4 + 512 * (w.val % 4) + 4 * p.val) % 4 * 4 + (w.val / 4 + 512 * (w.val % 4) + 4 * p.val) / 4 / 128 = w.val
         have e : (w.val / 4 + 512 * (w.val % 4) + 4 * p.val) / 4 = 128 * (w.val % 4) + p.val := by omega
         have e' : (w.val / 4 + 512 * (w.val % 4) + 4 * p.val) % 4 = w.val / 4 := by omega
         rw [e, e']; omega
  | 2 => show (w.val + 16 * p.val) % 16 * 1 + (w.val + 16 * p.val) / 16 / 128 = w.val; omega

theorem place_rowOf (g : Fin 3) (w : Fin 16) (p : Fin 128) : place g (rowOf g w p) = p := by
  refine Fin.ext ?_
  match g with
  | 0 => show (128 * w.val + p.val) / 1 % 128 = p.val; omega
  | 1 => show (w.val / 4 + 512 * (w.val % 4) + 4 * p.val) / 4 % 128 = p.val
         have e : (w.val / 4 + 512 * (w.val % 4) + 4 * p.val) / 4 = 128 * (w.val % 4) + p.val := by omega
         rw [e]; omega
  | 2 => show (w.val + 16 * p.val) / 16 % 128 = p.val; omega

section
variable {F : FTy → Type} [FloatOps F] [Named F]

/-- The store of a tile at its rows. -/
def tilePiece (g : Fin 3) (w : Fin 16) (x : S1x128x128.Idx → Elt F .f32) : View.Piece (Elt F) S3x2048x128 .f32 :=
  match g with
  | 0 => ⟨Rect.unit (s := S3x2048x128) ![0, 128 * w.val, 0] S1x128x128.size (by revert w; decide), x⟩
  | 1 => ⟨{ off := ![1, w.val / 4 + 512 * (w.val % 4), 0], size := S1x128x128.size, stride := ![1, 4, 1], inb := by revert w; decide,
            stride_pos := by decide }, x⟩
  | 2 => ⟨{ off := ![2, w.val, 0], size := S1x128x128.size, stride := ![1, 16, 1], inb := by revert w; decide, stride_pos := by decide }, x⟩

/-- Sixteen stores, the last one first. -/
def latest {α : Type} (f : Fin 16 → α) : List α :=
  [f 15, f 14, f 13, f 12, f 11, f 10, f 9, f 8, f 7, f 6, f 5, f 4, f 3, f 2, f 1, f 0]

theorem mem_latest {α : Type} (f : Fin 16 → α) (p : α) : p ∈ latest f ↔ ∃ w, p = f w := by
  constructor
  · intro h
    simp only [latest, List.mem_cons, List.not_mem_nil, or_false] at h
    rcases h with h | h | h | h | h | h | h | h | h | h | h | h | h | h | h | h <;> exact ⟨_, h⟩
  · rintro ⟨w, rfl⟩
    have : ∀ w : Fin 16, w ∈ [(15 : Fin 16), 14, 13, 12, 11, 10, 9, 8, 7, 6, 5, 4, 3, 2, 1, 0] := by decide
    exact List.mem_map_of_mem (f := f) (this w)

/-- All the stores of a scratch array, from what each tile stores. -/
def stores (x : Fin 3 → Fin 16 → S1x128x128.Idx → Elt F .f32) : List (View.Piece (Elt F) S3x2048x128 .f32) :=
  latest (fun w => tilePiece 2 w (x 2 w)) ++ (latest (fun w => tilePiece 1 w (x 1 w)) ++ latest fun w => tilePiece 0 w (x 0 w))

theorem mem_stores (x : Fin 3 → Fin 16 → S1x128x128.Idx → Elt F .f32) (p : View.Piece (Elt F) S3x2048x128 .f32) :
    p ∈ stores x ↔ ∃ g w, p = tilePiece g w (x g w) := by
  simp only [stores, List.mem_append, mem_latest, Fin.exists_fin_succ, Fin.exists_fin_zero]
  constructor
  · rintro (h | h | h)
    · exact .inr (.inr (.inl h))
    · exact .inr (.inl h)
    · exact .inl h
  · rintro (h | h | h | h)
    · exact .inr (.inr h)
    · exact .inr (.inl h)
    · exact .inl h
    · exact h.elim

/-- What the tiles store, by group, position and lane. -/
def laid {α : Type} (x : Fin 3 → Fin 16 → S1x128x128.Idx → α) (y : S3x2048x128.Idx) : α :=
  x (y 0) (tileOf (y 0) (y 1).val (y 1).isLt) (ix3 0 (place (y 0) (y 1).val) (y 2))

theorem laid_rowOf {α : Type} (x : Fin 3 → Fin 16 → S1x128x128.Idx → α) (g : Fin 3) (w : Fin 16) (p d : Fin 128) (y : S3x2048x128.Idx)
    (h0 : (y 0).val = g.val) (h1 : (y 1).val = rowOf g w p) (h2 : (y 2).val = d.val) : laid x y = x g w (ix3 0 p d) := by
  have e : y = ix3 g ⟨rowOf g w p, rowOf_lt g w p⟩ d := funext fun a => Fin.ext (match a with | ⟨0, _⟩ => h0 | ⟨1, _⟩ => h1 | ⟨2, _⟩ => h2)
  subst e
  show x g (tileOf g (rowOf g w p) _) (ix3 0 (place g (rowOf g w p)) d) = _
  rw [tileOf_rowOf, place_rowOf]

theorem tilePiece_laid (x : Fin 3 → Fin 16 → S1x128x128.Idx → Elt F .f32) (g : Fin 3) (w : Fin 16) :
    ∀ z : (tilePiece g w (x g w)).1.shape.Idx, (tilePiece g w (x g w)).2 z = laid x ((tilePiece g w (x g w)).1.emb z) := by
  match g with
  | 0 =>
    intro (z : S1x128x128.Idx)
    rw [laid_rowOf x 0 w (z 1) (z 2) _ (by show 0 + 1 * (z 0).val = 0; have : (z 0).val < 1 := (z 0).isLt; omega)
      (by show 128 * w.val + 1 * (z 1).val = 128 * w.val + (z 1).val; omega) (by show 0 + 1 * (z 2).val = (z 2).val; omega)]
    exact congrArg (x 0 w) (funext fun a => match a with | ⟨0, _⟩ => Subsingleton.elim (α := Fin 1) _ _ | ⟨1, _⟩ => rfl | ⟨2, _⟩ => rfl)
  | 1 =>
    intro (z : S1x128x128.Idx)
    rw [laid_rowOf x 1 w (z 1) (z 2) _ (by show 1 + 1 * (z 0).val = 1; have : (z 0).val < 1 := (z 0).isLt; omega)
      (by show w.val / 4 + 512 * (w.val % 4) + 4 * (z 1).val = w.val / 4 + 512 * (w.val % 4) + 4 * (z 1).val; rfl)
      (by show 0 + 1 * (z 2).val = (z 2).val; omega)]
    exact congrArg (x 1 w) (funext fun a => match a with | ⟨0, _⟩ => Subsingleton.elim (α := Fin 1) _ _ | ⟨1, _⟩ => rfl | ⟨2, _⟩ => rfl)
  | 2 =>
    intro (z : S1x128x128.Idx)
    rw [laid_rowOf x 2 w (z 1) (z 2) _ (by show 2 + 1 * (z 0).val = 2; have : (z 0).val < 1 := (z 0).isLt; omega)
      (by show w.val + 16 * (z 1).val = w.val + 16 * (z 1).val; rfl)
      (by show 0 + 1 * (z 2).val = (z 2).val; omega)]
    exact congrArg (x 2 w) (funext fun a => match a with | ⟨0, _⟩ => Subsingleton.elim (α := Fin 1) _ _ | ⟨1, _⟩ => rfl | ⟨2, _⟩ => rfl)

theorem mem_tilePiece (g : Fin 3) (w : Fin 16) (p d : Fin 128) (x : S1x128x128.Idx → Elt F .f32) (y : S3x2048x128.Idx)
    (h0 : (y 0).val = g.val) (h1 : (y 1).val = rowOf g w p) (h2 : (y 2).val = d.val) : y ∈ (tilePiece g w x).1.set := by
  refine (LoadRect.mem_set _).mpr ?_
  match g with
  | 0 =>
    intro a
    match a with
    | ⟨0, _⟩ => exact ⟨0, Nat.one_pos, h0⟩
    | ⟨1, _⟩ => exact ⟨p.val, p.isLt, h1.trans (by show 128 * w.val + p.val = 128 * w.val + 1 * p.val; omega)⟩
    | ⟨2, _⟩ => exact ⟨d.val, d.isLt, h2.trans (by show d.val = 0 + 1 * d.val; omega)⟩
  | 1 =>
    intro a
    match a with
    | ⟨0, _⟩ => exact ⟨0, Nat.one_pos, h0⟩
    | ⟨1, _⟩ => exact ⟨p.val, p.isLt, h1⟩
    | ⟨2, _⟩ => exact ⟨d.val, d.isLt, h2.trans (by show d.val = 0 + 1 * d.val; omega)⟩
  | 2 =>
    intro a
    match a with
    | ⟨0, _⟩ => exact ⟨0, Nat.one_pos, h0⟩
    | ⟨1, _⟩ => exact ⟨p.val, p.isLt, h1⟩
    | ⟨2, _⟩ => exact ⟨d.val, d.isLt, h2.trans (by show d.val = 0 + 1 * d.val; omega)⟩

/-- A load of the scratch after all the stores reads what the tiles stored. -/
theorem readCov_stores [∀ e, Nonempty (Elt F e)] {sp : Space} (v : View sig .tc sp S3x2048x128 .f32) (x : Fin 3 → Fin 16 → S1x128x128.Idx → Elt F .f32)
    (B : LoadRect S3x2048x128) (z : B.shape.Idx) : v.readCov (stores x) B z = laid x (B.idx z) := by
  refine View.read_writes_apply_of_pieces v _ (laid x) (stores x) (fun p hp => ?_) (B.idx z) ?_
  · obtain ⟨g, w, rfl⟩ := (mem_stores x p).mp hp
    exact tilePiece_laid x g w
  · generalize B.idx z = y
    refine ⟨tilePiece (y 0) (tileOf (y 0) (y 1).val (y 1).isLt) (x _ _), (mem_stores x _).mpr ⟨_, _, rfl⟩, ?_⟩
    exact mem_tilePiece (y 0) _ (place (y 0) (y 1).val) (y 2) _ y rfl (rowOf_tileOf _ _ _).symm rfl

/-- A tile of a group's outputs, as it is stored. -/
def outTile (o : FVec F S16x128x128 .f32) (w : Fin 16) : S1x128x128.Idx → Elt F .f32 :=
  shapeCast S1x128x128 (shapeCast S128x128 (extractStridedSlice S1x128x128 ![w.val, 0, 0] o (by revert w; decide))
    shapeCasts_S1x128x128_S128x128) shapeCasts_S128x128_S1x128x128

/-- A tile of a group's log-sum-exps, along all lanes, as it is stored. -/
def lseTile (l : FVec F S16x128x1 .f32) (w : Fin 16) : S1x128x128.Idx → Elt F .f32 :=
  shapeCast S1x128x128 (broadcastTo S128x128 (shapeCast S128x1 (shapeCast S128x1 (extractStridedSlice S1x128x1 ![w.val, 0, 0] l (by revert w; decide))
    (by decide)) (by decide)) (by decide)) shapeCasts_S128x128_S1x128x128

end

theorem outTile_apply (o : FVec Ideal S16x128x128 .f32) (w : Fin 16) (p d : Fin 128) : outTile o w (ix3 0 p d) = o (ix3 w p d) := by
  unfold outTile
  pointwise

theorem lseTile_apply (l : FVec Ideal S16x128x1 .f32) (w : Fin 16) (p d : Fin 128) : lseTile l w (ix3 0 p d) = l (ix3 w p 0) := by
  unfold lseTile
  pointwise

end Cert.Dilated

end
-- ==== Proof.Dilated.Merge.lean ====
/-
  The block the body writes: at every position the three groups' outputs, averaged by their log-sum-exps.
-/
module

public import proofs.«01_k».proof.Proof.Dilated.Pieces

@[expose] public section

set_option maxRecDepth 65536

noncomputable section

namespace Cert.Dilated

open Cert.KernelIdeal Cert.KernelIdeal.Gen Idealize.ShloMosaic Idealize.ShloMosaic.TcCoe Idealize.SL.Sem

section
variable {F : FTy → Type} [FloatOps F] [Named F]

/-- A load of 256 rows of a group's scratch. -/
def loaded (arg : Memref sig .tc .vmem S3x2048x128 .f32) (L : List (View.Piece (Elt F) S3x2048x128 .f32)) (g : Fin 3) (rc : Fin 8) :
    FVec F S256x128 .f32 :=
  shapeCast S256x128 (arg.view.readCov L (Rect.unit (s := S3x2048x128) ![g.val, 256 * rc.val, 0] S1x256x128.size
    (by revert g rc; decide)).toLoadRect) shapeCasts_S1x256x128_S256x128

/-- The largest of the three. -/
def top3 (l : Fin 3 → FVec F S256x128 .f32) : FVec F S256x128 .f32 := maximumf (maximumf (l 0) (l 1)) (l 2)

/-- The exponential of the difference from the largest. -/
def weight3 (l : Fin 3 → FVec F S256x128 .f32) (g : Fin 3) : FVec F S256x128 .f32 := exp (subf (l g) (top3 l))

/-- The weighted mean of the three. -/
def mean3 (l o : Fin 3 → FVec F S256x128 .f32) : FVec F S1x256x128 .bf16 :=
  shapeCast S1x256x128 (truncf .bf16 (divf (addf (addf (mulf (weight3 l 0) (o 0)) (mulf (weight3 l 1) (o 1))) (mulf (weight3 l 2) (o 2)))
    (addf (addf (weight3 l 0) (weight3 l 1)) (weight3 l 2))) bitsLt_bf16_f32) shapeCasts_S256x128_S1x256x128

/-- The store of 256 positions of the block. -/
def rowsPiece (rc : Fin 8) (x : S1x256x128.Idx → Elt F .bf16) : View.Piece (Elt F) S1x2048x128 .bf16 :=
  ⟨Rect.unit (s := S1x2048x128) ![0, 256 * rc.val, 0] S1x256x128.size (by revert rc; decide), x⟩

/-- The eight stores of the block, the last one first. -/
def blockStores (x : Fin 8 → S1x256x128.Idx → Elt F .bf16) : List (View.Piece (Elt F) S1x2048x128 .bf16) :=
  [rowsPiece 7 (x 7), rowsPiece 6 (x 6), rowsPiece 5 (x 5), rowsPiece 4 (x 4), rowsPiece 3 (x 3), rowsPiece 2 (x 2), rowsPiece 1 (x 1), rowsPiece 0 (x 0)]

variable (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S3x1x128x256 .f32) (harg12 : arg12.IsWhole) (arg13 : Memref sig .tc .vmem S1x2048x128 .bf16) (harg13 : arg13.IsWhole) (arg14 : Memref sig .tc .vmem S3x2048x128 .f32) (harg14 : arg14.IsWhole) (arg15 : Memref sig .tc .vmem S3x2048x128 .f32) (harg15 : arg15.IsWhole)
  (x0 : Rows F) (x1 : Rows F) (x2 : Rows F) (x3 : Rows F) (x4 : Rows F) (x5 : Rows F) (x6 : Rows F) (x7 : Rows F) (x8 : Rows F) (x9 : Bias F)

/-- The three groups' outputs in a block. -/
def outs (g : Fin 3) : FVec F S16x128x128 .f32 :=
  match g with
  | 0 => groupOut i arg12 harg12 x9 0 arg3 arg4 arg5 harg3 harg4 harg5 x0 x1 x2
  | 1 => groupOut i arg12 harg12 x9 1 arg6 arg7 arg8 harg6 harg7 harg8 x3 x4 x5
  | 2 => groupOut i arg12 harg12 x9 2 arg9 arg10 arg11 harg9 harg10 harg11 x6 x7 x8

/-- The three groups' log-sum-exps in a block. -/
def lses (g : Fin 3) : FVec F S16x128x1 .f32 :=
  match g with
  | 0 => groupLse i arg12 harg12 x9 0 arg3 arg4 harg3 harg4 x0 x1
  | 1 => groupLse i arg12 harg12 x9 1 arg6 arg7 harg6 harg7 x3 x4
  | 2 => groupLse i arg12 harg12 x9 2 arg9 arg10 harg9 harg10 x6 x7

/-- The stores into the scratch of the outputs. -/
theorem outStores_eq :
    kernelRun0_A.sl.HS0_48 c i arg3 harg3 arg4 harg4 arg5 harg5 arg6 harg6 arg7 harg7 arg8 harg8 arg9 harg9 arg10 harg10 arg11 harg11 arg12 harg12 x0 x1 x2 x3 x4 x5 x6 x7 x8 x9
      = stores fun g => outTile (outs i arg3 harg3 arg4 harg4 arg5 harg5 arg6 harg6 arg7 harg7 arg8 harg8 arg9 harg9 arg10 harg10 arg11 harg11 arg12 harg12 x0 x1 x2 x3 x4 x5 x6 x7 x8 x9 g) := rfl

/-- The stores into the scratch of the log-sum-exps. -/
theorem lseStores_eq :
    kernelRun0_A.sl.HS1_48 c i arg3 harg3 arg4 harg4 arg6 harg6 arg7 harg7 arg9 harg9 arg10 harg10 arg12 harg12 x0 x1 x3 x4 x6 x7 x9
      = stores fun g => lseTile (lses i arg3 harg3 arg4 harg4 arg6 harg6 arg7 harg7 arg9 harg9 arg10 harg10 arg12 harg12 x0 x1 x3 x4 x6 x7 x9 g) := rfl

/-- What one store of the block writes. -/
def merged3 (rc : Fin 8) : FVec F S1x256x128 .bf16 :=
  mean3 (fun g => loaded arg15 (kernelRun0_A.sl.HS1_48 c i arg3 harg3 arg4 harg4 arg6 harg6 arg7 harg7 arg9 harg9 arg10 harg10 arg12 harg12 x0 x1 x3 x4 x6 x7 x9) g rc)
    fun g => loaded arg14 (kernelRun0_A.sl.HS0_48 c i arg3 harg3 arg4 harg4 arg5 harg5 arg6 harg6 arg7 harg7 arg8 harg8 arg9 harg9 arg10 harg10 arg11 harg11 arg12 harg12 x0 x1 x2 x3 x4 x5 x6 x7 x8 x9) g rc

/-- The run's stores into the block. -/
theorem blockStores_eq :
    (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1
      = blockStores (merged3 c i arg3 harg3 arg4 harg4 arg5 harg5 arg6 harg6 arg7 harg7 arg8 harg8 arg9 harg9 arg10 harg10 arg11 harg11 arg12 harg12 arg14 arg15 x0 x1 x2 x3 x4 x5 x6 x7 x8 x9) := by
  unfold kernelRun0_A; dsimp only; rfl

end

end Cert.Dilated

end
-- ==== Proof.Dilated.Output.lean ====
/-
  The block the body writes, at an index: the merged output of the heads its input blocks hold.
-/
module

public import proofs.«01_k».proof.Proof.Dilated.Merge

@[expose] public section

set_option maxRecDepth 65536

noncomputable section

namespace Cert.Dilated

open Cert.KernelIdeal Cert.KernelIdeal.Gen Idealize.ShloMosaic Idealize.ShloMosaic.TcCoe Idealize.SL.Sem

theorem logit_congr (Q K : Fin 4096 → Fin 128 → EReal) (B : Fin 128 → Fin 256 → EReal) {st st' : Nat} {p p' : Fin 128} {f f' : Prop}
    [Decidable f] [Decidable f'] (h1 : st = st') (h2 : p = p') (h3 : f ↔ f') : logit Q K B st p f = logit Q K B st' p' f' := by
  subst h1 h2
  funext j
  unfold logit
  simp only [h3]

theorem keyValue_congr (V : Fin 4096 → Fin 128 → EReal) {st st' : Nat} {f f' : Prop} [Decidable f] [Decidable f'] (d : Fin 128)
    (h1 : st = st') (h3 : f ↔ f') : keyValue V st f d = keyValue V st' f' d := by
  subst h1
  funext j
  unfold keyValue
  simp only [h3]

theorem tileStart_tileOf (g : Fin 3) (R : Nat) (h : R < 2048) (c : Nat) (hc : c < 2) : tileStart g (tileOf g R h) c = start g (2048 * c + R) := by
  match g with
  | 0 => show 2048 * c + 128 * (R % 1 * 16 + R / 1 / 128) = (2048 * c + R) % 1 * 4096 + (2048 * c + R) / 1 / 128 * 128; omega
  | 1 =>
    show 1024 * ((R % 4 * 4 + R / 4 / 128) / 4) + 512 * c + 128 * ((R % 4 * 4 + R / 4 / 128) % 4) = (2048 * c + R) % 4 * 1024 + (2048 * c + R) / 4 / 128 * 128
    have e : (2048 * c + R) / 4 = 512 * c + R / 4 := by omega
    have e' : (2048 * c + R) % 4 = R % 4 := by omega
    have hb : R / 4 < 512 := by omega
    rw [e, e']
    generalize R % 4 = a
    generalize R / 4 = b at hb
    have e1 : (a * 4 + b / 128) / 4 = a := by omega
    have e2 : (a * 4 + b / 128) % 4 = b / 128 := by omega
    have e3 : (512 * c + b) / 128 = 4 * c + b / 128 := by omega
    rw [e1, e2, e3]; omega
  | 2 =>
    show 256 * (R % 16 * 1 + R / 16 / 128) + 128 * c = (2048 * c + R) % 16 * 256 + (2048 * c + R) / 16 / 128 * 128
    omega

theorem place_half (g : Fin 3) (R c : Nat) : place g R = place g (2048 * c + R) := by
  refine Fin.ext ?_
  match g with
  | 0 => show R / 1 % 128 = (2048 * c + R) / 1 % 128; omega
  | 1 => show R / 4 % 128 = (2048 * c + R) / 4 % 128; omega
  | 2 => show R / 16 % 128 = (2048 * c + R) / 16 % 128; omega

theorem begins_tileOf (g : Fin 3) (R : Nat) (h : R < 2048) (c : Nat) : (begins g (tileOf g R h) ∧ c = 0) ↔ isFirst g (2048 * c + R) := by
  match g with
  | 0 => show ((R % 1 * 16 + R / 1 / 128) % 16 = 0 ∧ c = 0) ↔ (2048 * c + R) / 1 < 128; omega
  | 1 =>
    show ((R % 4 * 4 + R / 4 / 128) % 4 = 0 ∧ c = 0) ↔ (2048 * c + R) / 4 < 128
    have e : (2048 * c + R) / 4 = 512 * c + R / 4 := by omega
    have hb : R / 4 < 512 := by omega
    rw [e]
    generalize R % 4 = a
    generalize R / 4 = b at hb
    have e2 : (a * 4 + b / 128) % 4 = b / 128 := by omega
    rw [e2]; omega
  | 2 => show ((R % 16 * 1 + R / 16 / 128) % 1 = 0 ∧ c = 0) ↔ (2048 * c + R) / 16 < 128; omega

theorem loaded_apply (arg : Memref sig .tc .vmem S3x2048x128 .f32) (x : Fin 3 → Fin 16 → S1x128x128.Idx → Elt Ideal .f32) (g : Fin 3)
    (rc : Fin 8) (r : Fin 256) (d : Fin 128) :
    loaded arg (stores x) g rc (ix2 r d) = laid x (ix3 g ⟨256 * rc.val + r.val, by omega⟩ d) := by
  have e : ∀ y : S1x256x128.Idx → EReal, shapeCast S256x128 y shapeCasts_S1x256x128_S256x128 (ix2 r d) = y (ix3 0 r d) := fun y => by pointwise
  unfold loaded
  refine (e _).trans ((readCov_stores _ _ _ _).trans (congrArg (laid x) (funext fun a => Fin.ext ?_)))
  match a with
  | ⟨0, _⟩ => show g.val + 1 * 0 = g.val; omega
  | ⟨1, _⟩ => show 256 * rc.val + 1 * r.val = 256 * rc.val + r.val; omega
  | ⟨2, _⟩ => show 0 + 1 * d.val = d.val; omega

theorem top_three (l : Fin 3 → EReal) : top l = max (max (l 0) (l 1)) (l 2) := by
  refine le_antisymm (Finset.sup_le fun k _ => ?_) (max_le (max_le ?_ ?_) ?_)
  · match k with
    | 0 => exact le_max_of_le_left (le_max_left _ _)
    | 1 => exact le_max_of_le_left (le_max_right _ _)
    | 2 => exact le_max_right _ _
  all_goals exact Finset.le_sup (Finset.mem_univ _)

theorem mean3_apply (l o : Fin 3 → FVec Ideal S256x128 .f32) (r : Fin 256) (d : Fin 128) :
    mean3 l o (ix3 0 r d) = mean (fun g => l g (ix2 r d)) fun g => o g (ix2 r d) := by
  unfold mean mass weight
  rw [Fin.sum_univ_three, Fin.sum_univ_three, top_three]
  pointwise [mean3, weight3, top3]

/-- The heads that a block's arrays hold. -/
def blockHeads (x0 x1 x2 x3 x4 x5 x6 x7 x8 : Rows Ideal) (x9 : Bias Ideal) : Heads where
  Q g := match g with | 0 => byRow x0 | 1 => byRow x3 | 2 => byRow x6
  K g := match g with | 0 => byRow x1 | 1 => byRow x4 | 2 => byRow x7
  V g := match g with | 0 => byRow x2 | 1 => byRow x5 | 2 => byRow x8
  B := byKey x9

variable (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x4096x128 .bf16) (harg10 : arg10.IsWhole) (arg11 : Memref sig .tc .vmem S1x4096x128 .bf16) (harg11 : arg11.IsWhole) (arg12 : Memref sig .tc .vmem S3x1x128x256 .f32) (harg12 : arg12.IsWhole) (arg13 : Memref sig .tc .vmem S1x2048x128 .bf16) (harg13 : arg13.IsWhole) (arg14 : Memref sig .tc .vmem S3x2048x128 .f32) (harg14 : arg14.IsWhole) (arg15 : Memref sig .tc .vmem S3x2048x128 .f32) (harg15 : arg15.IsWhole)
  (x0 x1 x2 x3 x4 x5 x6 x7 x8 : Rows Ideal) (x9 : Bias Ideal)

/-- The log-sum-exps of the tile that holds position `R` of the half sequence. -/
theorem lses_apply (g : Fin 3) (R : Nat) (h : R < 2048) :
    lses i arg3 harg3 arg4 harg4 arg6 harg6 arg7 harg7 arg9 harg9 arg10 harg10 arg12 harg12 x0 x1 x3 x4 x6 x7 x9 g (ix3 (tileOf g R h) (place g R) 0)
      = (blockHeads x0 x1 x2 x3 x4 x5 x6 x7 x8 x9).lse (2048 * (i 2).val + R) g := by
  unfold Heads.lse Heads.logits
  match g with
  | 0 =>
    refine (groupLse_apply i arg12 harg12 x9 0 arg3 arg4 harg3 harg4 x0 x1 _ _).trans (congrArg lse ?_)
    exact logit_congr _ _ _ (tileStart_tileOf 0 R h _ (i 2).isLt) (place_half 0 R _) (begins_tileOf 0 R h _)
  | 1 =>
    refine (groupLse_apply i arg12 harg12 x9 1 arg6 arg7 harg6 harg7 x3 x4 _ _).trans (congrArg lse ?_)
    exact logit_congr _ _ _ (tileStart_tileOf 1 R h _ (i 2).isLt) (place_half 1 R _) (begins_tileOf 1 R h _)
  | 2 =>
    refine (groupLse_apply i arg12 harg12 x9 2 arg9 arg10 harg9 harg10 x6 x7 _ _).trans (congrArg lse ?_)
    exact logit_congr _ _ _ (tileStart_tileOf 2 R h _ (i 2).isLt) (place_half 2 R _) (begins_tileOf 2 R h _)

/-- The outputs of the tile that holds position `R` of the half sequence. -/
theorem outs_apply (g : Fin 3) (R : Nat) (h : R < 2048) (d : Fin 128) :
    outs i arg3 harg3 arg4 harg4 arg5 harg5 arg6 harg6 arg7 harg7 arg8 harg8 arg9 harg9 arg10 harg10 arg11 harg11 arg12 harg12 x0 x1 x2 x3 x4 x5 x6 x7 x8 x9 g (ix3 (tileOf g R h) (place g R) d)
      = (blockHeads x0 x1 x2 x3 x4 x5 x6 x7 x8 x9).out (2048 * (i 2).val + R) d g := by
  unfold Heads.out Heads.logits
  match g with
  | 0 =>
    refine (groupOut_apply i arg12 harg12 x9 0 arg3 arg4 arg5 harg3 harg4 harg5 x0 x1 x2 _ _ d).trans (congrArg₂ mean ?_ ?_)
    · exact logit_congr _ _ _ (tileStart_tileOf 0 R h _ (i 2).isLt) (place_half 0 R _) (begins_tileOf 0 R h _)
    · exact keyValue_congr _ d (tileStart_tileOf 0 R h _ (i 2).isLt) (begins_tileOf 0 R h _)
  | 1 =>
    refine (groupOut_apply i arg12 harg12 x9 1 arg6 arg7 arg8 harg6 harg7 harg8 x3 x4 x5 _ _ d).trans (congrArg₂ mean ?_ ?_)
    · exact logit_congr _ _ _ (tileStart_tileOf 1 R h _ (i 2).isLt) (place_half 1 R _) (begins_tileOf 1 R h _)
    · exact keyValue_congr _ d (tileStart_tileOf 1 R h _ (i 2).isLt) (begins_tileOf 1 R h _)
  | 2 =>
    refine (groupOut_apply i arg12 harg12 x9 2 arg9 arg10 arg11 harg9 harg10 harg11 x6 x7 x8 _ _ d).trans (congrArg₂ mean ?_ ?_)
    · exact logit_congr _ _ _ (tileStart_tileOf 2 R h _ (i 2).isLt) (place_half 2 R _) (begins_tileOf 2 R h _)
    · exact keyValue_congr _ d (tileStart_tileOf 2 R h _ (i 2).isLt) (begins_tileOf 2 R h _)

/-- What one store of the block writes at an index. -/
theorem merged3_apply (rc : Fin 8) (r : Fin 256) (d : Fin 128) :
    merged3 c i arg3 harg3 arg4 harg4 arg5 harg5 arg6 harg6 arg7 harg7 arg8 harg8 arg9 harg9 arg10 harg10 arg11 harg11 arg12 harg12 arg14 arg15 x0 x1 x2 x3 x4 x5 x6 x7 x8 x9 rc (ix3 0 r d)
      = (blockHeads x0 x1 x2 x3 x4 x5 x6 x7 x8 x9).merged (2048 * (i 2).val + (256 * rc.val + r.val)) d := by
  unfold merged3 Heads.merged
  rw [mean3_apply, outStores_eq, lseStores_eq]
  refine congrArg₂ mean (funext fun g => ?_) (funext fun g => ?_)
  · refine (loaded_apply arg15 _ g rc r d).trans ?_
    unfold laid
    refine (lseTile_apply _ _ _ _).trans ?_
    exact lses_apply i arg3 harg3 arg4 harg4 arg6 harg6 arg7 harg7 arg9 harg9 arg10 harg10 arg12 harg12 x0 x1 x2 x3 x4 x5 x6 x7 x8 x9 g (256 * rc.val + r.val) (by omega)
  · refine (loaded_apply arg14 _ g rc r d).trans ?_
    unfold laid
    refine (outTile_apply _ _ _ _).trans ?_
    exact outs_apply i arg3 harg3 arg4 harg4 arg5 harg5 arg6 harg6 arg7 harg7 arg8 harg8 arg9 harg9 arg10 harg10 arg11 harg11 arg12 harg12 x0 x1 x2 x3 x4 x5 x6 x7 x8 x9 g (256 * rc.val + r.val) (by omega) d

/-- The block the body leaves, at position `R` of the half sequence. -/
theorem out_apply (R : Fin 2048) (d : Fin 128) :
    out0_A_10 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 0 R d)
      = (blockHeads x0 x1 x2 x3 x4 x5 x6 x7 x8 x9).merged (2048 * (i 2).val + R.val) d := by
  unfold out0_A_10
  rw [blockStores_eq]
  have hG : ∀ (rc : Fin 8) (z : (rowsPiece rc (merged3 c i arg3 harg3 arg4 harg4 arg5 harg5 arg6 harg6 arg7 harg7 arg8 harg8 arg9 harg9 arg10 harg10 arg11 harg11 arg12 harg12 arg14 arg15 x0 x1 x2 x3 x4 x5 x6 x7 x8 x9 rc)).1.shape.Idx),
      (rowsPiece rc (merged3 c i arg3 harg3 arg4 harg4 arg5 harg5 arg6 harg6 arg7 harg7 arg8 harg8 arg9 harg9 arg10 harg10 arg11 harg11 arg12 harg12 arg14 arg15 x0 x1 x2 x3 x4 x5 x6 x7 x8 x9 rc)).2 z
        = (fun y : S1x2048x128.Idx => (blockHeads x0 x1 x2 x3 x4 x5 x6 x7 x8 x9).merged (2048 * (i 2).val + (y 1).val) (y 2))
            ((rowsPiece rc (merged3 c i arg3 harg3 arg4 harg4 arg5 harg5 arg6 harg6 arg7 harg7 arg8 harg8 arg9 harg9 arg10 harg10 arg11 harg11 arg12 harg12 arg14 arg15 x0 x1 x2 x3 x4 x5 x6 x7 x8 x9 rc)).1.emb z) := by
    intro rc (z : S1x256x128.Idx)
    have ez : z = ix3 0 (z 1) (z 2) := funext fun a => match a with | ⟨0, _⟩ => Subsingleton.elim (α := Fin 1) _ _ | ⟨1, _⟩ => rfl | ⟨2, _⟩ => rfl
    refine (congrArg _ ez).trans ((merged3_apply c i arg3 harg3 arg4 harg4 arg5 harg5 arg6 harg6 arg7 harg7 arg8 harg8 arg9 harg9 arg10 harg10 arg11 harg11 arg12 harg12 arg14 arg15 x0 x1 x2 x3 x4 x5 x6 x7 x8 x9 rc (z 1) (z 2)).trans ?_)
    refine congrArg₂ (blockHeads x0 x1 x2 x3 x4 x5 x6 x7 x8 x9).merged ?_ (Fin.ext ?_)
    · show _ = 2048 * (i 2).val + (256 * rc.val + 1 * (z 1).val); omega
    · show (z 2).val = 0 + 1 * (z 2).val; omega
  refine View.read_writes_apply_of_pieces (Val := Elt Ideal) VO0_10 _ (fun y : S1x2048x128.Idx => (blockHeads x0 x1 x2 x3 x4 x5 x6 x7 x8 x9).merged (2048 * (i 2).val + (y 1).val) (y 2)) _
    (fun p hp => ?_) (ix3 0 R d) ?_
  · simp only [blockStores, List.mem_cons, List.not_mem_nil, or_false] at hp
    rcases hp with rfl | rfl | rfl | rfl | rfl | rfl | rfl | rfl <;> exact hG _
  · have hm : ∀ rc : Fin 8, rowsPiece rc (merged3 c i arg3 harg3 arg4 harg4 arg5 harg5 arg6 harg6 arg7 harg7 arg8 harg8 arg9 harg9 arg10 harg10 arg11 harg11 arg12 harg12 arg14 arg15 x0 x1 x2 x3 x4 x5 x6 x7 x8 x9 rc)
        ∈ blockStores (merged3 c i arg3 harg3 arg4 harg4 arg5 harg5 arg6 harg6 arg7 harg7 arg8 harg8 arg9 harg9 arg10 harg10 arg11 harg11 arg12 harg12 arg14 arg15 x0 x1 x2 x3 x4 x5 x6 x7 x8 x9) := by
      intro rc
      have : rc ∈ [(7 : Fin 8), 6, 5, 4, 3, 2, 1, 0] := by revert rc; decide
      exact List.mem_map_of_mem (f := fun rc => rowsPiece rc (merged3 c i arg3 harg3 arg4 harg4 arg5 harg5 arg6 harg6 arg7 harg7 arg8 harg8 arg9 harg9 arg10 harg10 arg11 harg11 arg12 harg12 arg14 arg15 x0 x1 x2 x3 x4 x5 x6 x7 x8 x9 rc)) this
    refine ⟨_, hm ⟨R.val / 256, by omega⟩, (LoadRect.mem_set _).mpr fun a => ?_⟩
    match a with
    | ⟨0, _⟩ => exact ⟨0, Nat.one_pos, rfl⟩
    | ⟨1, _⟩ => exact ⟨R.val % 256, by show R.val % 256 < 256; omega, by show R.val = 256 * (R.val / 256) + 1 * (R.val % 256); omega⟩
    | ⟨2, _⟩ => exact ⟨d.val, d.isLt, by show d.val = 0 + 1 * d.val; omega⟩

end Cert.Dilated

end
-- ==== Proof.Dilated.Array.lean ====
/-
  The kernel's result: the whole array of merged outputs, as a function of its arguments.
-/
module

public import proofs.«01_k».proof.Proof.Dilated.Output
public import Idealize.ShloMosaic.Lib.Pipeline.ValueKit.Geometry

@[expose] public section

set_option maxRecDepth 65536

noncomputable section

namespace Cert.Dilated

open Cert.KernelIdeal Cert.KernelIdeal.Gen Idealize.ShloMosaic Idealize.ShloMosaic.TcCoe Idealize.SL.Sem

/-- The column, among 3072, of a head's lane in the queries (part 0), the keys (part 1) or the values (part 2). -/
def col (part : Fin 3) (hd : Fin 8) (e : Fin 128) : Fin 3072 := ⟨part.val * 1024 + hd.val * 128 + e.val, by omega⟩

/-- The heads of batch entry `b` at head `hd`. -/
def heads (h0 h1 h2 : S8x4096x3072.Idx → EReal) (bias : S3x8x128x256.Idx → EReal) (b hd : Fin 8) : Heads where
  Q g := match g with
    | 0 => fun r e => h0 (ix3 b r (col 0 hd e)) | 1 => fun r e => h1 (ix3 b r (col 0 hd e)) | 2 => fun r e => h2 (ix3 b r (col 0 hd e))
  K g := match g with
    | 0 => fun r e => h0 (ix3 b r (col 1 hd e)) | 1 => fun r e => h1 (ix3 b r (col 1 hd e)) | 2 => fun r e => h2 (ix3 b r (col 1 hd e))
  V g := match g with
    | 0 => fun r e => h0 (ix3 b r (col 2 hd e)) | 1 => fun r e => h1 (ix3 b r (col 2 hd e)) | 2 => fun r e => h2 (ix3 b r (col 2 hd e))
  B := fun g p j => bias (ix4 g hd p j)

/-- The head of a result's column. -/
def headOf (n : Fin 1024) : Fin 8 := ⟨n.val / 128, by omega⟩

/-- The lane of a result's column. -/
def laneOf (n : Fin 1024) : Fin 128 := ⟨n.val % 128, by omega⟩

/-- The merged attention at every batch entry, position and column. -/
def attention (h0 h1 h2 : S8x4096x3072.Idx → EReal) (bias : S3x8x128x256.Idx → EReal) : S8x4096x1024.Idx → EReal :=
  fun y => (heads h0 h1 h2 bias (y 0) (headOf (y 2))).merged (y 1).val (laneOf (y 2))

theorem Heads.ext' {H H' : Heads} (hQ : ∀ g r e, H.Q g r e = H'.Q g r e) (hK : ∀ g r e, H.K g r e = H'.K g r e)
    (hV : ∀ g r e, H.V g r e = H'.V g r e) (hB : ∀ g p j, H.B g p j = H'.B g p j) : H = H' := by
  obtain ⟨Q, K, V, B⟩ := H
  obtain ⟨Q', K', V', B'⟩ := H'
  have e1 : Q = Q' := funext fun g => funext fun r => funext fun e => hQ g r e
  have e2 : K = K' := funext fun g => funext fun r => funext fun e => hK g r e
  have e3 : V = V' := funext fun g => funext fun r => funext fun e => hV g r e
  have e4 : B = B' := funext fun g => funext fun p => funext fun j => hB g p j
  subst e1 e2 e3 e4
  rfl

variable (m : (ℓ : Loc nD τ sig) → Buf (Elt Ideal) ℓ) (c : Dev nD) (t : Fin cfg0.N)

theorem index0 : ∀ t : Fin cfg0.N, win0_0.index t = ![(grid0.coords t 0).val, 0, (grid0.coords t 1).val] := (by decide +kernel : ∀ t : Fin grid0.N, _)
theorem index1 : ∀ t : Fin cfg0.N, win0_1.index t = ![(grid0.coords t 0).val, 0, 8 + (grid0.coords t 1).val] := (by decide +kernel : ∀ t : Fin grid0.N, _)
theorem index2 : ∀ t : Fin cfg0.N, win0_2.index t = ![(grid0.coords t 0).val, 0, 16 + (grid0.coords t 1).val] := (by decide +kernel : ∀ t : Fin grid0.N, _)
theorem index9 : ∀ t : Fin cfg0.N, win0_9.index t = ![0, (grid0.coords t 1).val, 0, 0] := (by decide +kernel : ∀ t : Fin grid0.N, _)
theorem index10 : ∀ t : Fin cfg0.N, win0_10.index t = ![(grid0.coords t 0).val, (grid0.coords t 2).val, (grid0.coords t 1).val] := (by decide +kernel : ∀ t : Fin grid0.N, _)

theorem emb0 (r : Fin 4096) (e : Fin 128) :
    (win0_0.blk t).view.emb (ix3 0 r e : S1x4096x128.Idx) = ix3 (grid0.coords t 0) r (col 0 (grid0.coords t 1) e) := by
  refine funext fun a => Fin.ext ?_
  have h := win0_0.rect_emb_val t (ix3 0 r e : S1x4096x128.Idx) a
  rw [index0] at h
  refine Eq.trans h ?_
  match a with
  | ⟨0, _⟩ => show (grid0.coords t 0).val * 1 + 0 = (grid0.coords t 0).val; omega
  | ⟨1, _⟩ => show 0 * 4096 + r.val = r.val; omega
  | ⟨2, _⟩ => show (grid0.coords t 1).val * 128 + e.val = 0 * 1024 + (grid0.coords t 1).val * 128 + e.val; omega

theorem emb1 (r : Fin 4096) (e : Fin 128) :
    (win0_1.blk t).view.emb (ix3 0 r e : S1x4096x128.Idx) = ix3 (grid0.coords t 0) r (col 1 (grid0.coords t 1) e) := by
  refine funext fun a => Fin.ext ?_
  have h := win0_1.rect_emb_val t (ix3 0 r e : S1x4096x128.Idx) a
  rw [index1] at h
  refine Eq.trans h ?_
  match a with
  | ⟨0, _⟩ => show (grid0.coords t 0).val * 1 + 0 = (grid0.coords t 0).val; omega
  | ⟨1, _⟩ => show 0 * 4096 + r.val = r.val; omega
  | ⟨2, _⟩ => show (8 + (grid0.coords t 1).val) * 128 + e.val = 1 * 1024 + (grid0.coords t 1).val * 128 + e.val; omega

theorem emb2 (r : Fin 4096) (e : Fin 128) :
    (win0_2.blk t).view.emb (ix3 0 r e : S1x4096x128.Idx) = ix3 (grid0.coords t 0) r (col 2 (grid0.coords t 1) e) := by
  refine funext fun a => Fin.ext ?_
  have h := win0_2.rect_emb_val t (ix3 0 r e : S1x4096x128.Idx) a
  rw [index2] at h
  refine Eq.trans h ?_
  match a with
  | ⟨0, _⟩ => show (grid0.coords t 0).val * 1 + 0 = (grid0.coords t 0).val; omega
  | ⟨1, _⟩ => show 0 * 4096 + r.val = r.val; omega
  | ⟨2, _⟩ => show (16 + (grid0.coords t 1).val) * 128 + e.val = 2 * 1024 + (grid0.coords t 1).val * 128 + e.val; omega

theorem emb9 (g : Fin 3) (p : Fin 128) (j : Fin 256) :
    (win0_9.blk t).view.emb (ix4 g 0 p j : S3x1x128x256.Idx) = ix4 g (grid0.coords t 1) p j := by
  refine funext fun a => Fin.ext ?_
  have h := win0_9.rect_emb_val t (ix4 g 0 p j : S3x1x128x256.Idx) a
  rw [index9] at h
  refine Eq.trans h ?_
  match a with
  | ⟨0, _⟩ => show 0 * 3 + g.val = g.val; omega
  | ⟨1, _⟩ => show (grid0.coords t 1).val * 1 + 0 = (grid0.coords t 1).val; omega
  | ⟨2, _⟩ => show 0 * 128 + p.val = p.val; omega
  | ⟨3, _⟩ => show 0 * 256 + j.val = j.val; omega

theorem emb10 (R : Fin 2048) (d : Fin 128) :
    (win0_10.blk t).view.emb (ix3 0 R d : S1x2048x128.Idx)
      = ix3 (grid0.coords t 0) ⟨2048 * (grid0.coords t 2).val + R.val, by have : (grid0.coords t 2).val < 2 := (grid0.coords t 2).isLt; omega⟩
          ⟨128 * (grid0.coords t 1).val + d.val, by have : (grid0.coords t 1).val < 8 := (grid0.coords t 1).isLt; omega⟩ := by
  refine funext fun a => Fin.ext ?_
  have h := win0_10.rect_emb_val t (ix3 0 R d : S1x2048x128.Idx) a
  rw [index10] at h
  refine Eq.trans h ?_
  match a with
  | ⟨0, _⟩ => show (grid0.coords t 0).val * 1 + 0 = (grid0.coords t 0).val; omega
  | ⟨1, _⟩ => show (grid0.coords t 2).val * 2048 + R.val = 2048 * (grid0.coords t 2).val + R.val; omega
  | ⟨2, _⟩ => show (grid0.coords t 1).val * 128 + d.val = 128 * (grid0.coords t 1).val + d.val; omega

/-- The heads in the blocks of a grid point are those of its batch entry and head. -/
theorem blockHeads_eq :
    blockHeads (iblk m c 0 t) (iblk m c 1 t) (iblk m c 2 t) (iblk m c 3 t) (iblk m c 4 t) (iblk m c 5 t) (iblk m c 6 t) (iblk m c 7 t) (iblk m c 8 t) (iblk m c 9 t)
      = heads (m ((c : Thread nD τ).loc main_arg0)) (m ((c : Thread nD τ).loc main_arg1)) (m ((c : Thread nD τ).loc main_arg2))
          (m ((c : Thread nD τ).loc main_arg3)) (grid0.coords t 0) (grid0.coords t 1) := by
  refine Heads.ext' (fun g r e => ?_) (fun g r e => ?_) (fun g r e => ?_) (fun g p j => ?_)
  · match g with
    | 0 => exact congrArg (m ((c : Thread nD τ).loc main_arg0)) (emb0 t r e)
    | 1 => exact congrArg (m ((c : Thread nD τ).loc main_arg1)) (emb0 t r e)
    | 2 => exact congrArg (m ((c : Thread nD τ).loc main_arg2)) (emb0 t r e)
  · match g with
    | 0 => exact congrArg (m ((c : Thread nD τ).loc main_arg0)) (emb1 t r e)
    | 1 => exact congrArg (m ((c : Thread nD τ).loc main_arg1)) (emb1 t r e)
    | 2 => exact congrArg (m ((c : Thread nD τ).loc main_arg2)) (emb1 t r e)
  · match g with
    | 0 => exact congrArg (m ((c : Thread nD τ).loc main_arg0)) (emb2 t r e)
    | 1 => exact congrArg (m ((c : Thread nD τ).loc main_arg1)) (emb2 t r e)
    | 2 => exact congrArg (m ((c : Thread nD τ).loc main_arg2)) (emb2 t r e)
  · exact congrArg (m ((c : Thread nD τ).loc main_arg3)) (emb9 t g p j)

/-- What a grid point leaves in its output block. -/
theorem outsAt0_apply (R : Fin 2048) (d : Fin 128) :
    outsAt0 m c t (ix3 0 R d)
      = (heads (m ((c : Thread nD τ).loc main_arg0)) (m ((c : Thread nD τ).loc main_arg1)) (m ((c : Thread nD τ).loc main_arg2))
          (m ((c : Thread nD τ).loc main_arg3)) (grid0.coords t 0) (grid0.coords t 1)).merged (2048 * (grid0.coords t 2).val + R.val) d := by
  unfold outsAt0
  rw [out_apply, blockHeads_eq]

end Cert.Dilated

end
-- ==== Proof.Dilated.Result.lean ====
/-
  The kernel's result is the merged attention of its arguments.
-/
module

public import proofs.«01_k».proof.Proof.Dilated.Array

@[expose] public section

set_option maxRecDepth 65536

noncomputable section

namespace Cert.Dilated

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

theorem attention_block (h0 h1 h2 : S8x4096x3072.Idx → EReal) (bias : S3x8x128x256.Idx → EReal) (b hd : Fin 8) (s : Fin 4096) (d : Fin 128)
    (n : Fin 1024) (hn : n.val = 128 * hd.val + d.val) :
    attention h0 h1 h2 bias (ix3 b s n) = (heads h0 h1 h2 bias b hd).merged s.val d := by
  have e1 : headOf n = hd := Fin.ext (by show n.val / 128 = _; omega)
  have e2 : laneOf n = d := Fin.ext (by show n.val % 128 = _; omega)
  exact (show attention h0 h1 h2 bias (ix3 b s n) = (heads h0 h1 h2 bias b (headOf n)).merged s.val (laneOf n) from rfl).trans (by rw [e1, e2])

/-- The place of a block's index in the result array. -/
def placed (y : S1x2048x128.Idx) : S8x4096x1024.Idx := (win0_10.blk t).view.emb y

theorem outsAt0_eq (R : Fin 2048) (d : Fin 128) : outsAt0 m c t (ix3 0 R d)
    = attention (m ((c : Thread nD τ).loc main_arg0)) (m ((c : Thread nD τ).loc main_arg1)) (m ((c : Thread nD τ).loc main_arg2))
        (m ((c : Thread nD τ).loc main_arg3)) (placed t (ix3 0 R d)) := by
  have e : placed t (ix3 0 R d) = _ := emb10 t R d
  rw [outsAt0_apply, e]
  have h1 : (grid0.coords t 1).val < 8 := (grid0.coords t 1).isLt
  have h2 : (grid0.coords t 2).val < 2 := (grid0.coords t 2).isLt
  exact (attention_block (m ((c : Thread nD τ).loc main_arg0)) (m ((c : Thread nD τ).loc main_arg1)) (m ((c : Thread nD τ).loc main_arg2))
    (m ((c : Thread nD τ).loc main_arg3)) (grid0.coords t 0) (grid0.coords t 1) ⟨2048 * (grid0.coords t 2).val + R.val, by omega⟩ d
    ⟨128 * (grid0.coords t 1).val + d.val, by omega⟩ rfl).symm

/-- The kernel's result array. -/
theorem result_eq : (dats m 0 c).arrAt 10 cfg0.N
    = attention (m ((c : Thread nD τ).loc main_arg0)) (m ((c : Thread nD τ).loc main_arg1)) (m ((c : Thread nD τ).loc main_arg2))
        (m ((c : Thread nD τ).loc main_arg3)) := by
  refine (dats m 0 c).arrAt_eq_of_covers 10 _ (by decide +kernel) fun t hf y => ?_
  blk_simp
  rw [after0_10]
  obtain ⟨R, d, rfl⟩ : ∃ R d, y = (ix3 0 R d : S1x2048x128.Idx) :=
    ⟨y 1, y 2, funext fun a => match a with | ⟨0, _⟩ => Subsingleton.elim (α := Fin 1) _ _ | ⟨1, _⟩ => rfl | ⟨2, _⟩ => rfl⟩
  exact outsAt0_eq m c t R d

end Cert.Dilated

end
-- ==== Proof.Dilated.Seen.lean ====
/-
  The reference's mask on words: the key at `j` of the query at `i` of block `b`, whose distance is `128 + i − j`,
  is seen where the distance is from 0 to 128 and the key is the block's own or a block precedes.
-/
module

public import proofs.«01_k».proof.Proof.Dilated.Spec
public import Idealize.ShloMosaic.Lib.Pointwise
public import Idealize.ShloMosaic.Lib.WordCmp

@[expose] public section

noncomputable section

namespace Cert.Dilated

open Idealize.ShloMosaic Idealize.ShloMosaic.TcCoe Idealize.SL.Sem

/-- The distance of a key, read as a signed number. -/
theorem toInt_distance (i : Fin 128) (j : Fin 256) :
    (IntOp.subi (IntOp.addi 128#32 (BitVec.ofNat 32 i.val)) (BitVec.ofNat 32 j.val)).toInt = 128 + (i.val : Int) - j.val := by
  have e : IntOp.subi (IntOp.addi 128#32 (BitVec.ofNat 32 i.val)) (BitVec.ofNat 32 j.val)
      = BitVec.ofInt 32 (128 + (i.val : Int) - j.val) := by
    rw [Int.sub_eq_add_neg, BitVec.ofInt_add, BitVec.ofInt_add, BitVec.ofInt_neg, BitVec.ofInt_natCast, BitVec.ofInt_natCast,
      ← BitVec.sub_eq_add_neg]
    rfl
  rw [e, BitVec.toInt_ofInt_eq_self (by decide) (by omega) (by omega)]

/-- The reference's mask, as a condition on the places. -/
theorem seen_iff (b : Nat) (hb : b < 128) (i : Fin 128) (j : Fin 256) :
    IntOp.andi
        (IntOp.andi (IntOp.cmpi .sge (IntOp.subi (IntOp.addi 128#32 (BitVec.ofNat 32 i.val)) (BitVec.ofNat 32 j.val)) 0#32)
          (IntOp.cmpi .sle (IntOp.subi (IntOp.addi 128#32 (BitVec.ofNat 32 i.val)) (BitVec.ofNat 32 j.val)) 128#32))
        (IntOp.ori (IntOp.cmpi .sgt (BitVec.ofNat 32 b) 0#32) (IntOp.cmpi .sge (BitVec.ofNat 32 j.val) 128#32)) = 1#1
      ↔ i.val ≤ j.val ∧ j.val ≤ i.val + 128 ∧ (128 ≤ j.val ∨ ¬ b < 1) := by
  have e0 : (0#32 : BitVec 32).toInt = 0 := rfl
  have e1 : (128#32 : BitVec 32).toInt = 128 := rfl
  have eb : (BitVec.ofNat 32 b).toInt = b := WordCmp.toInt_ofNat_of_lt (by omega)
  have ej : (BitVec.ofNat 32 j.val).toInt = j.val := WordCmp.toInt_ofNat_of_lt (by omega)
  rw [WordCmp.cmpi_sge_eq, WordCmp.cmpi_sle_eq, WordCmp.cmpi_sgt_eq, WordCmp.cmpi_sge_eq, toInt_distance, e0, e1, eb, ej,
    WordCmp.andi_ofBool, WordCmp.ori_ofBool, WordCmp.andi_ofBool, WordCmp.ofBool_eq_one_iff]
  simp only [Bool.and_eq_true, Bool.or_eq_true, decide_eq_true_eq]
  omega

/-- The masked sum of a query's and a key's products: the row of keys with zeros where no block precedes gives the logit. -/
theorem logit_of_seen (Q K : Fin 4096 → Fin 128 → EReal) (B : Fin 128 → Fin 256 → EReal) (st b : Nat) (hb : b < 128) (i : Fin 128) (j : Fin 256)
    (c : BitVec 1) (hc : c = 1#1 ↔ i.val ≤ j.val ∧ j.val ≤ i.val + 128 ∧ (128 ≤ j.val ∨ ¬ b < 1)) (k : Fin 128 → EReal)
    (hk : ∀ e, k e = if j.val < 128 ∧ b < 1 then 0 else K (row (st + j.val - 128)) e) :
    Scalar.select c ((∑ e : Fin 128, Q (row (st + i.val)) e * k e) * scale + B i j) (⊥ : EReal) = logit Q K B st i (b < 1) j := by
  unfold logit Scalar.select
  by_cases h : i.val ≤ j.val ∧ j.val ≤ i.val + 128 ∧ (128 ≤ j.val ∨ ¬ b < 1)
  · rw [if_pos h, if_pos (show c = 1 from hc.mpr h)]
    have h' : ¬ (j.val < 128 ∧ b < 1) := by omega
    simp only [hk, if_neg h']
  · rw [if_neg h, if_neg (show ¬ c = 1 from mt hc.mp h)]

end Cert.Dilated

end
-- ==== Proof.Dilated.Part.lean ====
/-
  A head's queries (part 0), keys (part 1) or values (part 2) in a group's projections.
-/
module

public import proofs.«01_k».proof.Proof.Dilated.Array

@[expose] public section

noncomputable section

namespace Cert.Dilated

open Cert.KernelIdeal Idealize.ShloMosaic

/-- Part `p` of head `h` of batch entry `b`, at a stored row and lane. -/
def part (x : S8x4096x3072.Idx → EReal) (b h : Fin 8) (p : Fin 3) (r : Fin 4096) (e : Fin 128) : EReal := x (ix3 b r (col p h e))

theorem part_eq (x : S8x4096x3072.Idx → EReal) (b h : Fin 8) (p : Fin 3) (r : Nat) (e : Fin 128) (b' : Fin 8) (r' : Fin 4096) (c' : Fin 3072)
    (hb : b'.val = b.val) (hr : r'.val = r) (hc : c'.val = p.val * 1024 + h.val * 128 + e.val) :
    x (ix3 b' r' c') = part x b h p (row r) e := by
  obtain rfl : b' = b := Fin.ext hb
  obtain rfl : c' = col p h e := Fin.ext hc
  subst hr
  rw [row_of_lt r'.isLt]
  rfl

/-- A row with the block before: a key of the preceding half is read from the block before, zero where there is none. -/
theorem withPrev (f : Nat → EReal) (base b : Nat) (j : Fin 256) :
    (if j.val < 128 then if b < 1 then 0 else f (base + (b - 1) * 128 + j.val) else f (base + b * 128 + (j.val - 128)))
      = if j.val < 128 ∧ b < 1 then 0 else f (base + b * 128 + j.val - 128) := by
  by_cases hj : j.val < 128
  · by_cases hb : b < 1
    · rw [if_pos hj, if_pos hb, if_pos ⟨hj, hb⟩]
    · rw [if_pos hj, if_neg hb, if_neg fun h => hb h.2]
      congr 1
      omega
  · rw [if_neg hj, if_neg fun h => hj h.1]
    congr 1
    omega

end Cert.Dilated

end
-- ==== Proof.Dilated.Group0.lean ====
/-
  The reference's first group at an index: keys and values with the block before, logits, and the mean and the
  log-sum-exp of a position's row.
-/
module

public import proofs.«01_k».proof.Proof.Gen.ReferenceIdeal.Read
public import proofs.«01_k».proof.Proof.Dilated.Seen
public import proofs.«01_k».proof.Proof.Dilated.Part

@[expose] public section

set_option maxRecDepth 65536

noncomputable section

namespace Cert.Dilated.Group0

open Cert.ReferenceIdeal Cert.ReferenceIdeal.Gen Cert.ReferenceIdeal.Read Idealize.ShloMosaic Idealize.ShloMosaic.TcCoe Idealize.SL.Sem

variable (x : (⟨S8x4096x3072, .bf16⟩ : BufTy).Contents (Elt Ideal)) (bias : (⟨S3x8x128x256, .f32⟩ : BufTy).Contents (Elt Ideal))
variable (n : Fin 8) (h : Fin 8) (b : Fin 32) (i : Fin 128)

/-- The batch entry of a subsequence. -/
def entry : Fin 8 := ⟨n.val / 1, by omega⟩

/-- The stored row at which a subsequence begins. -/
def base : Nat := n.val % 1 * 4096

/-- The queries. -/
theorem q_apply (e : Fin 128) : val_main_v7 (F := Ideal) x (ix5 n h b i e) = part x (entry n) h 0 (row (base n + b.val * 128 + i.val)) e := by
  pointwise [val_main_v7, val_main_v6, val_main_v5, val_main_v4, val_main_v3, val_main_v2]
  exact part_eq x _ _ _ _ _ _ _ _ (by unfold entry; simp) (by simp only [base]; omega) (by simp)

/-- The keys. -/
theorem k_apply (e : Fin 128) : val_main_v11 (F := Ideal) x (ix5 n h b i e) = part x (entry n) h 1 (row (base n + b.val * 128 + i.val)) e := by
  pointwise [val_main_v11, val_main_v10, val_main_v9, val_main_v8, val_main_v3, val_main_v2]
  exact part_eq x _ _ _ _ _ _ _ _ (by unfold entry; simp) (by simp only [base]; omega) (by simp)

/-- The values. -/
theorem v_apply (e : Fin 128) : val_main_v20 (F := Ideal) x (ix5 n h b i e) = part x (entry n) h 2 (row (base n + b.val * 128 + i.val)) e := by
  pointwise [val_main_v20, val_main_v19, val_main_v18, val_main_v17, val_main_v3, val_main_v2]
  exact part_eq x _ _ _ _ _ _ _ _ (by unfold entry; simp) (by simp only [base]; omega) (by simp)

/-- The keys with the block before. -/
theorem kk_apply (j : Fin 256) (e : Fin 128) : val_main_v16 (F := Ideal) x (ix5 n h b j e)
    = if j.val < 128 ∧ b.val < 1 then 0 else part x (entry n) h 1 (row (base n + b.val * 128 + j.val - 128)) e := by
  pointwise [val_main_v16, val_main_v15, val_main_v14, val_main_v13, val_main_cst]
  simp only [k_apply, dite_eq_ite]
  exact withPrev (fun r => part x (entry n) h 1 (row r) e) _ _ _

/-- The values with the block before. -/
theorem vv_apply (j : Fin 256) (d : Fin 128) : val_main_v25 (F := Ideal) x (ix5 n h b j d)
    = keyValue (part x (entry n) h 2) (base n + b.val * 128) (b.val < 1) d j := by
  pointwise [val_main_v25, val_main_v24, val_main_v23, val_main_v22, val_main_cst_0]
  simp only [v_apply, dite_eq_ite]
  exact withPrev (fun r => part x (entry n) h 2 (row r) d) _ _ _

/-- The logits. -/
theorem logits_apply (j : Fin 256) : val_main_v61 (F := Ideal) x bias (ix5 n h b i j)
    = logit (part x (entry n) h 0) (part x (entry n) h 1) (fun i j => bias (ix4 0 h i j)) (base n + b.val * 128) i (b.val < 1) j := by
  pointwise [val_main_v61, val_main_v60, val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30, val_main_v29, val_main_v28, val_main_v27, val_main_v26, val_main_v1, val_main_v0, val_main_call0_v0, val_main_call0_v1,
    val_main_call0_v2, val_main_cst_1, val_main_c, val_main_c_2, val_main_c_3, val_main_c_4, val_main_c_5, val_main_cst_6]
  simp only [q_apply]
  exact (congrArg (Scalar.select _ _) ofBits_neg_inf).trans
    (logit_of_seen (part x (entry n) h 0) (part x (entry n) h 1) (fun i j => bias (ix4 0 h i j)) (base n + b.val * 128) b.val (by omega) i j _ (seen_iff b.val (by omega) i j) _ fun e => kk_apply x n h b j e)

/-- The largest logit. -/
theorem top_apply : val_main_v62 (F := Ideal) x bias (ix4 n h b i) = top fun j => val_main_v61 (F := Ideal) x bias (ix5 n h b i j) := by
  pointwise [val_main_v62, val_main_cst_7]
  rw [ofBits_neg_inf]
  rfl

/-- The sum of the exponentials. -/
theorem mass_apply : val_main_v67 (F := Ideal) x bias (ix4 n h b i) = mass fun j => val_main_v61 (F := Ideal) x bias (ix5 n h b i j) := by
  pointwise [val_main_v67, val_main_v66, val_main_v65, val_main_v64, val_main_v63, val_main_cst_8]
  rw [top_apply]
  rfl

/-- The mean of the values. -/
theorem mean_apply (d : Fin 128) : val_main_v71 (F := Ideal) x bias (ix5 n h b i d)
    = mean (fun j => val_main_v61 (F := Ideal) x bias (ix5 n h b i j)) (fun j => val_main_v25 (F := Ideal) x (ix5 n h b j d)) := by
  pointwise [val_main_v71, val_main_v70, val_main_v69, val_main_v68, val_main_v66, val_main_v65, val_main_v64, val_main_v63]
  rw [top_apply, mass_apply]
  rfl

/-- The log-sum-exp. -/
theorem lse_apply : val_main_v74 (F := Ideal) x bias (ix4 n h b i) = lse fun j => val_main_v61 (F := Ideal) x bias (ix5 n h b i j) := by
  have e0 : idx_main_v74 (ix4 n h b i) = ix5 n h b i 0 := funext fun a => Fin.ext (by
    match a with
    | ⟨0, _⟩ => show (((n.val * 8 + h.val) * 32 + b.val) * 128 + i.val) / 32768 = n.val; omega
    | ⟨1, _⟩ => show (((n.val * 8 + h.val) * 32 + b.val) * 128 + i.val) / 4096 % 8 = h.val; omega
    | ⟨2, _⟩ => show (((n.val * 8 + h.val) * 32 + b.val) * 128 + i.val) / 128 % 32 = b.val; omega
    | ⟨3, _⟩ => show (((n.val * 8 + h.val) * 32 + b.val) * 128 + i.val) / 1 % 128 = i.val; omega
    | ⟨4, _⟩ => rfl)
  have e1 : idx_main_v63 (ix5 n h b i 0) = ix4 n h b i := funext fun a => match a with
    | ⟨0, _⟩ => rfl | ⟨1, _⟩ => rfl | ⟨2, _⟩ => rfl | ⟨3, _⟩ => rfl
  have e2 : idx_main_v68 (ix5 n h b i 0) = ix4 n h b i := funext fun a => match a with
    | ⟨0, _⟩ => rfl | ⟨1, _⟩ => rfl | ⟨2, _⟩ => rfl | ⟨3, _⟩ => rfl
  rw [val_main_v74_apply, e0, val_main_v73_apply, val_main_v72_apply, val_main_v68_apply, val_main_v63_apply, e1, e2, top_apply, mass_apply]
  rfl

/-- The subsequence of a position. -/
def sub (B : Fin 8) (s : Fin 4096) : Fin 8 := ⟨B.val * 1 + s.val % 1, by omega⟩

/-- The block of a position. -/
def blk (s : Fin 4096) : Fin 32 := ⟨s.val / 1 / 128, by omega⟩

variable (x0 x1 x2 : (⟨S8x4096x3072, .bf16⟩ : BufTy).Contents (Elt Ideal)) (B : Fin 8) (s : Fin 4096)

theorem sub_eq : sub B s = B := Fin.ext (by show B.val * 1 + s.val % 1 = B.val; omega)

theorem place_eq : place 0 s.val = ⟨s.val % 128, by omega⟩ := Fin.ext (by show s.val / 1 % 128 = s.val % 128; omega)

theorem blk_eq : blk s = ⟨s.val / 128, by omega⟩ := Fin.ext (by show s.val / 1 / 128 = s.val / 128; omega)

theorem entry_sub : entry (sub B s) = B := Fin.ext (by show (B.val * 1 + s.val % 1) / 1 = B.val; omega)

theorem start_eq : base (sub B s) + (blk s).val * 128 = start 0 s.val := by
  show (B.val * 1 + s.val % 1) % 1 * 4096 + s.val / 1 / 128 * 128 = s.val % 1 * 4096 + s.val / 1 / 128 * 128
  omega

theorem first_iff : (blk s).val < 1 ↔ isFirst 0 s.val := by
  show s.val / 1 / 128 < 1 ↔ s.val / 1 < 128
  omega

/-- A position's logits. -/
theorem row_logits : (fun j => val_main_v61 (F := Ideal) x0 bias (ix5 (sub B s) h (blk s) (place 0 s.val) j))
    = (heads x0 x1 x2 bias B h).logits s.val 0 := by
  funext j
  rw [logits_apply, entry_sub]
  exact congrFun (logit_congr _ _ _ (start_eq B s) rfl (first_iff s)) j

/-- A position's output. -/
theorem out_apply (d : Fin 128) : val_main_v77 (F := Ideal) x0 bias (ix4 B s h d) = (heads x0 x1 x2 bias B h).out s.val d 0 := by
  pointwise [val_main_v77, val_main_v76, val_main_v75]
  have e := mean_apply x0 bias (sub B s) h (blk s) (place 0 s.val) d
  conv at e => lhs; rw [sub_eq, place_eq, blk_eq]
  refine e.trans (congrArg₂ mean (row_logits bias h x0 x1 x2 B s) ?_)
  funext j
  rw [vv_apply, entry_sub]
  exact congrFun (keyValue_congr _ d (start_eq B s) (first_iff s)) j

/-- A position's log-sum-exp. -/
theorem lseOut_apply : val_main_v80 (F := Ideal) x0 bias (ix3 B s h) = (heads x0 x1 x2 bias B h).lse s.val 0 := by
  pointwise [val_main_v80, val_main_v79, val_main_v78]
  have e := lse_apply x0 bias (sub B s) h (blk s) (place 0 s.val)
  conv at e => lhs; rw [sub_eq, place_eq, blk_eq]
  exact e.trans (congrArg lse (row_logits bias h x0 x1 x2 B s))

end Cert.Dilated.Group0

end
-- ==== Proof.Dilated.Group1.lean ====
/-
  The reference's second group at an index: keys and values with the block before, logits, and the mean and the
  log-sum-exp of a position's row.
-/
module

public import proofs.«01_k».proof.Proof.Gen.ReferenceIdeal.Read
public import proofs.«01_k».proof.Proof.Dilated.Seen
public import proofs.«01_k».proof.Proof.Dilated.Part

@[expose] public section

set_option maxRecDepth 65536

noncomputable section

namespace Cert.Dilated.Group1

open Cert.ReferenceIdeal Cert.ReferenceIdeal.Gen Cert.ReferenceIdeal.Read Idealize.ShloMosaic Idealize.ShloMosaic.TcCoe Idealize.SL.Sem

variable (x : (⟨S8x4096x3072, .bf16⟩ : BufTy).Contents (Elt Ideal)) (bias : (⟨S3x8x128x256, .f32⟩ : BufTy).Contents (Elt Ideal))
variable (n : Fin 32) (h : Fin 8) (b : Fin 8) (i : Fin 128)

/-- The batch entry of a subsequence. -/
def entry : Fin 8 := ⟨n.val / 4, by omega⟩

/-- The stored row at which a subsequence begins. -/
def base : Nat := n.val % 4 * 1024

/-- The queries. -/
theorem q_apply (e : Fin 128) : val_main_v88 (F := Ideal) x (ix5 n h b i e) = part x (entry n) h 0 (row (base n + b.val * 128 + i.val)) e := by
  pointwise [val_main_v88, val_main_v87, val_main_v86, val_main_v85, val_main_v84, val_main_v83]
  exact part_eq x _ _ _ _ _ _ _ _ (by unfold entry; simp) (by simp only [base]; omega) (by simp)

/-- The keys. -/
theorem k_apply (e : Fin 128) : val_main_v92 (F := Ideal) x (ix5 n h b i e) = part x (entry n) h 1 (row (base n + b.val * 128 + i.val)) e := by
  pointwise [val_main_v92, val_main_v91, val_main_v90, val_main_v89, val_main_v84, val_main_v83]
  exact part_eq x _ _ _ _ _ _ _ _ (by unfold entry; simp) (by simp only [base]; omega) (by simp)

/-- The values. -/
theorem v_apply (e : Fin 128) : val_main_v101 (F := Ideal) x (ix5 n h b i e) = part x (entry n) h 2 (row (base n + b.val * 128 + i.val)) e := by
  pointwise [val_main_v101, val_main_v100, val_main_v99, val_main_v98, val_main_v84, val_main_v83]
  exact part_eq x _ _ _ _ _ _ _ _ (by unfold entry; simp) (by simp only [base]; omega) (by simp)

/-- The keys with the block before. -/
theorem kk_apply (j : Fin 256) (e : Fin 128) : val_main_v97 (F := Ideal) x (ix5 n h b j e)
    = if j.val < 128 ∧ b.val < 1 then 0 else part x (entry n) h 1 (row (base n + b.val * 128 + j.val - 128)) e := by
  pointwise [val_main_v97, val_main_v96, val_main_v95, val_main_v94, val_main_cst_9]
  simp only [k_apply, dite_eq_ite]
  exact withPrev (fun r => part x (entry n) h 1 (row r) e) _ _ _

/-- The values with the block before. -/
theorem vv_apply (j : Fin 256) (d : Fin 128) : val_main_v106 (F := Ideal) x (ix5 n h b j d)
    = keyValue (part x (entry n) h 2) (base n + b.val * 128) (b.val < 1) d j := by
  pointwise [val_main_v106, val_main_v105, val_main_v104, val_main_v103, val_main_cst_10]
  simp only [v_apply, dite_eq_ite]
  exact withPrev (fun r => part x (entry n) h 2 (row r) d) _ _ _

/-- The logits. -/
theorem logits_apply (j : Fin 256) : val_main_v142 (F := Ideal) x bias (ix5 n h b i j)
    = logit (part x (entry n) h 0) (part x (entry n) h 1) (fun i j => bias (ix4 1 h i j)) (base n + b.val * 128) i (b.val < 1) j := by
  pointwise [val_main_v142, val_main_v141, val_main_v140, val_main_v139, val_main_v138, val_main_v137, val_main_v136, val_main_v135, val_main_v134, val_main_v133, val_main_v132, val_main_v131,
    val_main_v130, val_main_v129, val_main_v128, val_main_v127, val_main_v126, val_main_v125, val_main_v124, val_main_v123, val_main_v122, val_main_v121, val_main_v120,
    val_main_v119, val_main_v118, val_main_v117, val_main_v116, val_main_v115, val_main_v114, val_main_v113, val_main_v112, val_main_v111, val_main_v110, val_main_v109, val_main_v108, val_main_v107, val_main_v82, val_main_v81, val_main_call1_v0, val_main_call1_v1,
    val_main_call1_v2, val_main_cst_11, val_main_c_12, val_main_c_13, val_main_c_14, val_main_c_15, val_main_c_16, val_main_cst_17]
  simp only [q_apply]
  exact (congrArg (Scalar.select _ _) ofBits_neg_inf).trans
    (logit_of_seen (part x (entry n) h 0) (part x (entry n) h 1) (fun i j => bias (ix4 1 h i j)) (base n + b.val * 128) b.val (by omega) i j _ (seen_iff b.val (by omega) i j) _ fun e => kk_apply x n h b j e)

/-- The largest logit. -/
theorem top_apply : val_main_v143 (F := Ideal) x bias (ix4 n h b i) = top fun j => val_main_v142 (F := Ideal) x bias (ix5 n h b i j) := by
  pointwise [val_main_v143, val_main_cst_18]
  rw [ofBits_neg_inf]
  rfl

/-- The sum of the exponentials. -/
theorem mass_apply : val_main_v148 (F := Ideal) x bias (ix4 n h b i) = mass fun j => val_main_v142 (F := Ideal) x bias (ix5 n h b i j) := by
  pointwise [val_main_v148, val_main_v147, val_main_v146, val_main_v145, val_main_v144, val_main_cst_19]
  rw [top_apply]
  rfl

/-- The mean of the values. -/
theorem mean_apply (d : Fin 128) : val_main_v152 (F := Ideal) x bias (ix5 n h b i d)
    = mean (fun j => val_main_v142 (F := Ideal) x bias (ix5 n h b i j)) (fun j => val_main_v106 (F := Ideal) x (ix5 n h b j d)) := by
  pointwise [val_main_v152, val_main_v151, val_main_v150, val_main_v149, val_main_v147, val_main_v146, val_main_v145, val_main_v144]
  rw [top_apply, mass_apply]
  rfl

/-- The log-sum-exp. -/
theorem lse_apply : val_main_v155 (F := Ideal) x bias (ix4 n h b i) = lse fun j => val_main_v142 (F := Ideal) x bias (ix5 n h b i j) := by
  have e0 : idx_main_v155 (ix4 n h b i) = ix5 n h b i 0 := funext fun a => Fin.ext (by
    match a with
    | ⟨0, _⟩ => show (((n.val * 8 + h.val) * 8 + b.val) * 128 + i.val) / 8192 = n.val; omega
    | ⟨1, _⟩ => show (((n.val * 8 + h.val) * 8 + b.val) * 128 + i.val) / 1024 % 8 = h.val; omega
    | ⟨2, _⟩ => show (((n.val * 8 + h.val) * 8 + b.val) * 128 + i.val) / 128 % 8 = b.val; omega
    | ⟨3, _⟩ => show (((n.val * 8 + h.val) * 8 + b.val) * 128 + i.val) / 1 % 128 = i.val; omega
    | ⟨4, _⟩ => rfl)
  have e1 : idx_main_v144 (ix5 n h b i 0) = ix4 n h b i := funext fun a => match a with
    | ⟨0, _⟩ => rfl | ⟨1, _⟩ => rfl | ⟨2, _⟩ => rfl | ⟨3, _⟩ => rfl
  have e2 : idx_main_v149 (ix5 n h b i 0) = ix4 n h b i := funext fun a => match a with
    | ⟨0, _⟩ => rfl | ⟨1, _⟩ => rfl | ⟨2, _⟩ => rfl | ⟨3, _⟩ => rfl
  rw [val_main_v155_apply, e0, val_main_v154_apply, val_main_v153_apply, val_main_v149_apply, val_main_v144_apply, e1, e2, top_apply, mass_apply]
  rfl

/-- The subsequence of a position. -/
def sub (B : Fin 8) (s : Fin 4096) : Fin 32 := ⟨B.val * 4 + s.val % 4, by omega⟩

/-- The block of a position. -/
def blk (s : Fin 4096) : Fin 8 := ⟨s.val / 4 / 128, by omega⟩

variable (x0 x1 x2 : (⟨S8x4096x3072, .bf16⟩ : BufTy).Contents (Elt Ideal)) (B : Fin 8) (s : Fin 4096)

theorem entry_sub : entry (sub B s) = B := Fin.ext (by show (B.val * 4 + s.val % 4) / 4 = B.val; omega)

theorem start_eq : base (sub B s) + (blk s).val * 128 = start 1 s.val := by
  show (B.val * 4 + s.val % 4) % 4 * 1024 + s.val / 4 / 128 * 128 = s.val % 4 * 1024 + s.val / 4 / 128 * 128
  omega

theorem first_iff : (blk s).val < 1 ↔ isFirst 1 s.val := by
  show s.val / 4 / 128 < 1 ↔ s.val / 4 < 128
  omega

/-- A position's logits. -/
theorem row_logits : (fun j => val_main_v142 (F := Ideal) x1 bias (ix5 (sub B s) h (blk s) (place 1 s.val) j))
    = (heads x0 x1 x2 bias B h).logits s.val 1 := by
  funext j
  rw [logits_apply, entry_sub]
  exact congrFun (logit_congr _ _ _ (start_eq B s) rfl (first_iff s)) j

/-- A position's output. -/
theorem out_apply (d : Fin 128) : val_main_v158 (F := Ideal) x1 bias (ix4 B s h d) = (heads x0 x1 x2 bias B h).out s.val d 1 := by
  pointwise [val_main_v158, val_main_v157, val_main_v156]
  refine (mean_apply x1 bias (sub B s) h (blk s) (place 1 s.val) d).trans (congrArg₂ mean (row_logits bias h x0 x1 x2 B s) ?_)
  funext j
  rw [vv_apply, entry_sub]
  exact congrFun (keyValue_congr _ d (start_eq B s) (first_iff s)) j

/-- A position's log-sum-exp. -/
theorem lseOut_apply : val_main_v161 (F := Ideal) x1 bias (ix3 B s h) = (heads x0 x1 x2 bias B h).lse s.val 1 := by
  pointwise [val_main_v161, val_main_v160, val_main_v159]
  exact (lse_apply x1 bias (sub B s) h (blk s) (place 1 s.val)).trans (congrArg lse (row_logits bias h x0 x1 x2 B s))

end Cert.Dilated.Group1

end
-- ==== Proof.Dilated.Group2.lean ====
/-
  The reference's third group at an index: keys and values with the block before, logits, and the mean and the
  log-sum-exp of a position's row.
-/
module

public import proofs.«01_k».proof.Proof.Gen.ReferenceIdeal.Read
public import proofs.«01_k».proof.Proof.Dilated.Seen
public import proofs.«01_k».proof.Proof.Dilated.Part

@[expose] public section

set_option maxRecDepth 65536

noncomputable section

namespace Cert.Dilated.Group2

open Cert.ReferenceIdeal Cert.ReferenceIdeal.Gen Cert.ReferenceIdeal.Read Idealize.ShloMosaic Idealize.ShloMosaic.TcCoe Idealize.SL.Sem

variable (x : (⟨S8x4096x3072, .bf16⟩ : BufTy).Contents (Elt Ideal)) (bias : (⟨S3x8x128x256, .f32⟩ : BufTy).Contents (Elt Ideal))
variable (n : Fin 128) (h : Fin 8) (b : Fin 2) (i : Fin 128)

/-- The batch entry of a subsequence. -/
def entry : Fin 8 := ⟨n.val / 16, by omega⟩

/-- The stored row at which a subsequence begins. -/
def base : Nat := n.val % 16 * 256

/-- The queries. -/
theorem q_apply (e : Fin 128) : val_main_v169 (F := Ideal) x (ix5 n h b i e) = part x (entry n) h 0 (row (base n + b.val * 128 + i.val)) e := by
  pointwise [val_main_v169, val_main_v168, val_main_v167, val_main_v166, val_main_v165, val_main_v164]
  exact part_eq x _ _ _ _ _ _ _ _ (by unfold entry; simp) (by simp only [base]; omega) (by simp)

/-- The keys. -/
theorem k_apply (e : Fin 128) : val_main_v173 (F := Ideal) x (ix5 n h b i e) = part x (entry n) h 1 (row (base n + b.val * 128 + i.val)) e := by
  pointwise [val_main_v173, val_main_v172, val_main_v171, val_main_v170, val_main_v165, val_main_v164]
  exact part_eq x _ _ _ _ _ _ _ _ (by unfold entry; simp) (by simp only [base]; omega) (by simp)

/-- The values. -/
theorem v_apply (e : Fin 128) : val_main_v182 (F := Ideal) x (ix5 n h b i e) = part x (entry n) h 2 (row (base n + b.val * 128 + i.val)) e := by
  pointwise [val_main_v182, val_main_v181, val_main_v180, val_main_v179, val_main_v165, val_main_v164]
  exact part_eq x _ _ _ _ _ _ _ _ (by unfold entry; simp) (by simp only [base]; omega) (by simp)

/-- The keys with the block before. -/
theorem kk_apply (j : Fin 256) (e : Fin 128) : val_main_v178 (F := Ideal) x (ix5 n h b j e)
    = if j.val < 128 ∧ b.val < 1 then 0 else part x (entry n) h 1 (row (base n + b.val * 128 + j.val - 128)) e := by
  pointwise [val_main_v178, val_main_v177, val_main_v176, val_main_v175, val_main_cst_20]
  simp only [k_apply, dite_eq_ite]
  exact withPrev (fun r => part x (entry n) h 1 (row r) e) _ _ _

/-- The values with the block before. -/
theorem vv_apply (j : Fin 256) (d : Fin 128) : val_main_v187 (F := Ideal) x (ix5 n h b j d)
    = keyValue (part x (entry n) h 2) (base n + b.val * 128) (b.val < 1) d j := by
  pointwise [val_main_v187, val_main_v186, val_main_v185, val_main_v184, val_main_cst_21]
  simp only [v_apply, dite_eq_ite]
  exact withPrev (fun r => part x (entry n) h 2 (row r) d) _ _ _

/-- The logits. -/
theorem logits_apply (j : Fin 256) : val_main_v223 (F := Ideal) x bias (ix5 n h b i j)
    = logit (part x (entry n) h 0) (part x (entry n) h 1) (fun i j => bias (ix4 2 h i j)) (base n + b.val * 128) i (b.val < 1) j := by
  pointwise [val_main_v223, val_main_v222, val_main_v221, val_main_v220, val_main_v219, val_main_v218, val_main_v217, val_main_v216, val_main_v215, val_main_v214, val_main_v213, val_main_v212,
    val_main_v211, val_main_v210, val_main_v209, val_main_v208, val_main_v207, val_main_v206, val_main_v205, val_main_v204, val_main_v203, val_main_v202, val_main_v201,
    val_main_v200, val_main_v199, val_main_v198, val_main_v197, val_main_v196, val_main_v195, val_main_v194, val_main_v193, val_main_v192, val_main_v191, val_main_v190, val_main_v189, val_main_v188, val_main_v163, val_main_v162, val_main_call2_v0, val_main_call2_v1,
    val_main_call2_v2, val_main_cst_22, val_main_c_23, val_main_c_24, val_main_c_25, val_main_c_26, val_main_c_27, val_main_cst_28]
  simp only [q_apply]
  exact (congrArg (Scalar.select _ _) ofBits_neg_inf).trans
    (logit_of_seen (part x (entry n) h 0) (part x (entry n) h 1) (fun i j => bias (ix4 2 h i j)) (base n + b.val * 128) b.val (by omega) i j _ (seen_iff b.val (by omega) i j) _ fun e => kk_apply x n h b j e)

/-- The largest logit. -/
theorem top_apply : val_main_v224 (F := Ideal) x bias (ix4 n h b i) = top fun j => val_main_v223 (F := Ideal) x bias (ix5 n h b i j) := by
  pointwise [val_main_v224, val_main_cst_29]
  rw [ofBits_neg_inf]
  rfl

/-- The sum of the exponentials. -/
theorem mass_apply : val_main_v229 (F := Ideal) x bias (ix4 n h b i) = mass fun j => val_main_v223 (F := Ideal) x bias (ix5 n h b i j) := by
  pointwise [val_main_v229, val_main_v228, val_main_v227, val_main_v226, val_main_v225, val_main_cst_30]
  rw [top_apply]
  rfl

/-- The mean of the values. -/
theorem mean_apply (d : Fin 128) : val_main_v233 (F := Ideal) x bias (ix5 n h b i d)
    = mean (fun j => val_main_v223 (F := Ideal) x bias (ix5 n h b i j)) (fun j => val_main_v187 (F := Ideal) x (ix5 n h b j d)) := by
  pointwise [val_main_v233, val_main_v232, val_main_v231, val_main_v230, val_main_v228, val_main_v227, val_main_v226, val_main_v225]
  rw [top_apply, mass_apply]
  rfl

/-- The log-sum-exp. -/
theorem lse_apply : val_main_v236 (F := Ideal) x bias (ix4 n h b i) = lse fun j => val_main_v223 (F := Ideal) x bias (ix5 n h b i j) := by
  have e0 : idx_main_v236 (ix4 n h b i) = ix5 n h b i 0 := funext fun a => Fin.ext (by
    match a with
    | ⟨0, _⟩ => show (((n.val * 8 + h.val) * 2 + b.val) * 128 + i.val) / 2048 = n.val; omega
    | ⟨1, _⟩ => show (((n.val * 8 + h.val) * 2 + b.val) * 128 + i.val) / 256 % 8 = h.val; omega
    | ⟨2, _⟩ => show (((n.val * 8 + h.val) * 2 + b.val) * 128 + i.val) / 128 % 2 = b.val; omega
    | ⟨3, _⟩ => show (((n.val * 8 + h.val) * 2 + b.val) * 128 + i.val) / 1 % 128 = i.val; omega
    | ⟨4, _⟩ => rfl)
  have e1 : idx_main_v225 (ix5 n h b i 0) = ix4 n h b i := funext fun a => match a with
    | ⟨0, _⟩ => rfl | ⟨1, _⟩ => rfl | ⟨2, _⟩ => rfl | ⟨3, _⟩ => rfl
  have e2 : idx_main_v230 (ix5 n h b i 0) = ix4 n h b i := funext fun a => match a with
    | ⟨0, _⟩ => rfl | ⟨1, _⟩ => rfl | ⟨2, _⟩ => rfl | ⟨3, _⟩ => rfl
  rw [val_main_v236_apply, e0, val_main_v235_apply, val_main_v234_apply, val_main_v230_apply, val_main_v225_apply, e1, e2, top_apply, mass_apply]
  rfl

/-- The subsequence of a position. -/
def sub (B : Fin 8) (s : Fin 4096) : Fin 128 := ⟨B.val * 16 + s.val % 16, by omega⟩

/-- The block of a position. -/
def blk (s : Fin 4096) : Fin 2 := ⟨s.val / 16 / 128, by omega⟩

variable (x0 x1 x2 : (⟨S8x4096x3072, .bf16⟩ : BufTy).Contents (Elt Ideal)) (B : Fin 8) (s : Fin 4096)

theorem entry_sub : entry (sub B s) = B := Fin.ext (by show (B.val * 16 + s.val % 16) / 16 = B.val; omega)

theorem start_eq : base (sub B s) + (blk s).val * 128 = start 2 s.val := by
  show (B.val * 16 + s.val % 16) % 16 * 256 + s.val / 16 / 128 * 128 = s.val % 16 * 256 + s.val / 16 / 128 * 128
  omega

theorem first_iff : (blk s).val < 1 ↔ isFirst 2 s.val := by
  show s.val / 16 / 128 < 1 ↔ s.val / 16 < 128
  omega

/-- A position's logits. -/
theorem row_logits : (fun j => val_main_v223 (F := Ideal) x2 bias (ix5 (sub B s) h (blk s) (place 2 s.val) j))
    = (heads x0 x1 x2 bias B h).logits s.val 2 := by
  funext j
  rw [logits_apply, entry_sub]
  exact congrFun (logit_congr _ _ _ (start_eq B s) rfl (first_iff s)) j

/-- A position's output. -/
theorem out_apply (d : Fin 128) : val_main_v239 (F := Ideal) x2 bias (ix4 B s h d) = (heads x0 x1 x2 bias B h).out s.val d 2 := by
  pointwise [val_main_v239, val_main_v238, val_main_v237]
  refine (mean_apply x2 bias (sub B s) h (blk s) (place 2 s.val) d).trans (congrArg₂ mean (row_logits bias h x0 x1 x2 B s) ?_)
  funext j
  rw [vv_apply, entry_sub]
  exact congrFun (keyValue_congr _ d (start_eq B s) (first_iff s)) j

/-- A position's log-sum-exp. -/
theorem lseOut_apply : val_main_v242 (F := Ideal) x2 bias (ix3 B s h) = (heads x0 x1 x2 bias B h).lse s.val 2 := by
  pointwise [val_main_v242, val_main_v241, val_main_v240]
  exact (lse_apply x2 bias (sub B s) h (blk s) (place 2 s.val)).trans (congrArg lse (row_logits bias h x0 x1 x2 B s))

end Cert.Dilated.Group2

end
-- ==== Proof.Dilated.Reference.lean ====
/-
  The reference's result at an index: the three groups' outputs, each by its weight over the weights' sum.
-/
module

public import proofs.«01_k».proof.Proof.Dilated.Group0
public import proofs.«01_k».proof.Proof.Dilated.Group1
public import proofs.«01_k».proof.Proof.Dilated.Group2

@[expose] public section

set_option maxRecDepth 65536

noncomputable section

namespace Cert.Dilated

open Cert.ReferenceIdeal Cert.ReferenceIdeal.Gen Cert.ReferenceIdeal.Read Idealize.ShloMosaic Idealize.ShloMosaic.TcCoe Idealize.SL.Sem

variable (x0 x1 x2 : (⟨S8x4096x3072, .bf16⟩ : BufTy).Contents (Elt Ideal)) (bias : (⟨S3x8x128x256, .f32⟩ : BufTy).Contents (Elt Ideal))
variable (b : Fin 8) (s : Fin 4096) (h : Fin 8)

/-- The stacked log-sum-exps. -/
theorem lses_stack (g : Fin 3) : val_main_v246 (F := Ideal) x0 x1 x2 bias (ix4 g b s h) = (heads x0 x1 x2 bias b h).lse s.val g := by
  match g with
  | 0 => pointwise [val_main_v246, val_main_v243]; exact Group0.lseOut_apply bias h x0 x1 x2 b s
  | 1 => pointwise [val_main_v246, val_main_v244]; exact Group1.lseOut_apply bias h x0 x1 x2 b s
  | 2 => pointwise [val_main_v246, val_main_v245]; exact Group2.lseOut_apply bias h x0 x1 x2 b s

/-- The stacked outputs. -/
theorem outs_stack (g : Fin 3) (d : Fin 128) :
    val_main_v262 (F := Ideal) x0 x1 x2 bias (ix5 g b s h d) = (heads x0 x1 x2 bias b h).out s.val d g := by
  match g with
  | 0 => pointwise [val_main_v262, val_main_v259]; exact Group0.out_apply bias h x0 x1 x2 b s d
  | 1 => pointwise [val_main_v262, val_main_v260]; exact Group1.out_apply bias h x0 x1 x2 b s d
  | 2 => pointwise [val_main_v262, val_main_v261]; exact Group2.out_apply bias h x0 x1 x2 b s d

/-- The largest log-sum-exp. -/
theorem largest_apply : val_main_v249 (F := Ideal) x0 x1 x2 bias (ix3 b s h) = top ((heads x0 x1 x2 bias b h).lse s.val) := by
  pointwise [val_main_v249, val_main_v248, val_main_v247, val_main_cst_31, val_main_cst_32]
  simp only [lses_stack]
  rw [ofBits_neg_inf]
  exact max_bot_left _

/-- A group's exponential. -/
theorem weights_apply (g : Fin 3) : val_main_v253 (F := Ideal) x0 x1 x2 bias (ix4 g b s h) = weight ((heads x0 x1 x2 bias b h).lse s.val) g := by
  pointwise [val_main_v253, val_main_v252, val_main_v251, val_main_v250]
  rw [largest_apply, lses_stack]
  rfl

/-- The exponentials' sum. -/
theorem massAll_apply : val_main_v254 (F := Ideal) x0 x1 x2 bias (ix3 b s h) = mass ((heads x0 x1 x2 bias b h).lse s.val) := by
  pointwise [val_main_v254, val_main_cst_33]
  simp only [weights_apply]
  rfl

/-- The result at an index. -/
theorem reference_apply (n : Fin 1024) : val_main_v267 (F := Ideal) x0 x1 x2 bias (ix3 b s n)
    = ∑ g, Ideal.div (weight ((heads x0 x1 x2 bias b (headOf n)).lse s.val) g) (mass ((heads x0 x1 x2 bias b (headOf n)).lse s.val))
        * (heads x0 x1 x2 bias b (headOf n)).out s.val (laneOf n) g := by
  pointwise [val_main_v267, val_main_v266, val_main_v265, val_main_v264, val_main_v263, val_main_v258, val_main_v257, val_main_v256, val_main_v255,
    val_main_cst_34]
  simp only [weights_apply, massAll_apply, outs_stack]
  rfl

end Cert.Dilated

end
-- ==== Proof.Dilated.Finite.lean ====
/-
  The precondition read back: the first group's projections and the bias are real numbers. Then a position's own key
  is seen in the first group, its log-sum-exp is a number, and the reference's result is the attention.
-/
module

public import proofs.«01_k».proof.Defs
public import proofs.«01_k».proof.Proof.Dilated.Reference
public import Idealize.ShloMosaic.Lib.ReduceAll

@[expose] public section

set_option maxRecDepth 65536

noncomputable section

namespace Cert.Dilated

open Idealize.ShloMosaic Idealize.ShloMosaic.TcCoe Idealize.SL.Sem

/-- The shape relations the precondition takes. -/
theorem preFacts : Cert.Pre_finite.Facts where
  bitsLt_bf16_f32 := by decide
  bcast_S_S8x4096x3072 := by decide
  reducesTo_S8x4096x3072_S_d0_1_2 := by decide
  h_S_ := by decide
  bcast_S_S3x8x128x256 := by decide
  reducesTo_S3x8x128x256_S_d0_1_2_3 := by decide

theorem ofBits_inf : Ideal.ofBits .f32 0x7F800000#32 = ⊤ := by simp [Ideal.ofBits, Ideal.ieee]

/-- A value whose absolute value is below infinity is a real number. -/
theorem real_of_abs_lt (x : Ideal .f32) (h : FloatOps.cmpf .olt (FloatOps.hostAbsf x) (FloatOps.ofBits (F := Ideal) .f32 0x7F800000#32) = 1#1) :
    ∃ r : ℝ, x = (r : EReal) := by
  have h' : max x (-x) < Ideal.ofBits .f32 0x7F800000#32 := of_decide_eq_true ((WordCmp.ofBool_eq_one_iff _).1 h)
  rw [ofBits_inf] at h'
  refine ⟨EReal.toReal x, (EReal.coe_toReal ?_ ?_).symm⟩
  · rintro rfl
    exact absurd (lt_of_le_of_lt (le_max_left _ _) h') (lt_irrefl _)
  · rintro rfl
    exact absurd (lt_of_le_of_lt (le_max_right _ _) h') (by simp)

instance : Subsingleton Cert.Pre_finite.S_.Idx := ⟨fun i j => funext fun a => a.elim0⟩

/-- The precondition makes every entry of the first group's projections and of the bias a real number. -/
theorem real_of_finite [Cert.Pre_finite.Facts] (x0 x1 x2 : FVec Ideal Cert.Pre_finite.S8x4096x3072 .bf16) (bias : FVec Ideal Cert.Pre_finite.S3x8x128x256 .f32)
    (h : Cert.Pre_finite.fn (F := Ideal) x0 x1 x2 bias = fun _ => 1#1) : (∀ i, ∃ r : ℝ, x0 i = (r : EReal)) ∧ ∀ i, ∃ r : ℝ, bias i = (r : EReal) := by
  have h0 := congrFun h (fun a => a.elim0)
  obtain ⟨h1, h2⟩ := IntOp.andi_eq_one.1 h0
  exact ⟨fun i => real_of_abs_lt _ (Host.reduce_andi_all _ _ _ _ _ h1 i), fun i => real_of_abs_lt _ (Host.reduce_andi_all _ _ _ _ _ h2 i)⟩

theorem scale_real : ∃ x : ℝ, scale = (x : EReal) := by
  unfold scale Ideal.ofBits Ideal.ieee
  simp only []
  norm_num
  exact ⟨_, rfl⟩

open Cert.ReferenceIdeal Cert.ReferenceIdeal.Read in
/-- With real first projections and bias, the reference's result is the attention. -/
theorem reference_eq (x0 x1 x2 : (⟨S8x4096x3072, .bf16⟩ : BufTy).Contents (Elt Ideal)) (bias : (⟨S3x8x128x256, .f32⟩ : BufTy).Contents (Elt Ideal))
    (hx : ∀ i, ∃ r : ℝ, x0 i = (r : EReal)) (hb : ∀ i, ∃ r : ℝ, bias i = (r : EReal)) :
    val_main_v267 (F := Ideal) x0 x1 x2 bias = attention x0 x1 x2 bias := by
  funext y
  obtain ⟨b, s, n, rfl⟩ : ∃ (b : Fin 8) (s : Fin 4096) (n : Fin 1024), y = ix3 b s n := ⟨y 0, y 1, y 2, funext fun a => match a with
    | ⟨0, _⟩ => rfl | ⟨1, _⟩ => rfl | ⟨2, _⟩ => rfl⟩
  rw [reference_apply]
  exact (Heads.merged_eq _ _ _ (Heads.lse_zero_ne_bot _ _ (fun r e => hx _) (fun r e => hx _) (fun p j => hb _) scale_real)).symm

end Cert.Dilated

end
-- ==== Proof.Experts.Kit.lean ====
/- The expert call's surroundings: what the launch hands the region, the tables' words, the windows' blocks and buffers, and
   which of the five conditions of the body hold at a point. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them: as launched, for nothing runs before it. -/
abbrev V (c : Dev nD) (b : Ref sig .tc) : Buf (Elt F) ((c : Thread nD τ).loc b) := m ((c : Thread nD τ).loc b)

set_option maxHeartbeats 800000 in
/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents when the region is entered. -/
def tbl : pre0.Contents (Elt F) := fun j => V m (0 : Dev nD) (pre0.ref j)

/-- They are the same on every device, for there is one. -/
theorem V_pre (c : Dev nD) (j : Fin 2) : V m c (pre0.ref j) = tbl m j := by
  obtain rfl : c = 0 := Subsingleton.elim _ _; rfl

/-- Every block a window's map names lies inside its array. -/
abbrev Ok : Prop := ok0 (F := F) (tbl m)

/-- The tables' contents, admitted, and the pipeline at them. -/
abbrev adm (hO : Ok m) : (pcfg0 (F := F)).Adm := ⟨tbl m, hO⟩
abbrev cfgM (hO : Ok m) : Pipeline.Cfg sig Λ₀ := cfg0 (adm m hO)

/-- Each table as the body is handed it. -/
abbrev tbM0 : Memref sig .tc .smem S72 .i32 := Memref.whole main_arg1
abbrev htbM0 : tbM0.IsWhole := Memref.isWhole_whole _
abbrev tbM1 : Memref sig .tc .smem S72 .i32 := Memref.whole main_arg2
abbrev htbM1 : tbM1.IsWhole := Memref.isWhole_whole _

/-- A table's buffer, and half of it held at given contents: enough to read. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The region's halves of the tables, one by one. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`, read off the window's array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input's buffer holds its block at every point, when the body leaves it there. Window 0, then 1, 2 and 3. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- From the run of the pipeline to the arguments unchanged. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) {r : _}
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans (hA c 0)),
      (h c).2 main_arg1 (by decide : main_arg1 ∈ Pipeline.restRefs sig spec0),
      (h c).2 main_arg2 (by decide : main_arg2 ∈ Pipeline.restRefs sig spec0),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3))⟩

/-- Point `t` is chunk `t mod 7` of tile `t div 7`. -/
theorem coords_tile (t : Fin grid0.N) : (grid0.coords t 0).val = t.val / 7 := by
  have ht : t.val < 504 := Nat.lt_of_lt_of_eq t.isLt N_0
  have e : (grid0.coords t 0).val = t.val / 7 % 72 := Pipeline.Grid.coords_val t 0 (by decide) rfl
  omega
theorem coords_chunk (t : Fin grid0.N) : (grid0.coords t 1).val = t.val % 7 := by
  have e : (grid0.coords t 1).val = t.val / 1 % 7 := Pipeline.Grid.coords_val t 1 (by decide) rfl
  omega

/-- The output is written back only after a tile's last chunk. -/
theorem noFlush (hO : Ok m) : ∀ t : Fin (cfgM m hO).N, ¬ t.val % 7 = 6 → ((cfgM m hO).win 4).flush t = false :=
  (by decide +kernel : ∀ t : Fin grid0.N, ¬ t.val % 7 = 6 → Pipeline.Window.flushOf grid0 true cc0_transform_4 t = false)

/-- The inputs' buffers are live at every point. -/
theorem live_0 (hO : Ok m) : ∀ t : Fin (cfgM m hO).N, (cfgM m hO).idle 0 (grid0.coords t) = false := fun _ => rfl
theorem live_1 (hO : Ok m) : ∀ t : Fin (cfgM m hO).N, (cfgM m hO).idle 1 (grid0.coords t) = false := fun _ => rfl
theorem live_2 (hO : Ok m) : ∀ t : Fin (cfgM m hO).N, (cfgM m hO).idle 2 (grid0.coords t) = false := fun _ => rfl
theorem live_3 (hO : Ok m) : ∀ t : Fin (cfgM m hO).N, (cfgM m hO).idle 3 (grid0.coords t) = false := fun _ => rfl

/-- Each window's current buffer at a point, as the body is handed it. -/
abbrev ms_0 (hO : Ok m) (t : Fin (cfgM m hO).N) : Memref sig .tc .vmem S1024x1024 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x1024x512 .f32 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1024x512 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x512x1024 .f32 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1024x1024 .f32 := spec0_4.stage ((cfgM m hO).slots t 4)
abbrev hs_4 (hO : Ok m) (t : Fin (cfgM m hO).N) : (ms_4 m hO t).IsWhole := hstage0_4 (((cfgM m hO).slots t 4).cast nbuf0_4)

/-- The accumulator. -/
abbrev scM : Memref sig .tc .vmem S1024x1024 .f32 := Memref.whole cc0_scratch0

/-- What the region starts with: the accumulator at anything, and the generator register. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- A condition read back from the word it is stored in. -/
theorem bit_iff : ∀ b : BitVec 1, Scalar.cmpi .ne (Scalar.extui b : BitVec 32) 0#32 = 1#1 ↔ b = 1#1 := by decide
/-- Both of two bits, and not a bit. -/
theorem and_iff : ∀ a b : BitVec 1, Scalar.andi a b = 1#1 ↔ a = 1#1 ∧ b = 1#1 := by decide
theorem not_iff : ∀ a : BitVec 1, Scalar.xori a 1#1 = 1#1 ↔ ¬ a = 1#1 := by decide
/-- A bit made of a proposition. -/
theorem ofBool_iff (b : Bool) : BitVec.ofBool b = 1#1 ↔ b = true := by cases b <;> decide
/-- The signed comparisons, in the integers. -/
theorem sgt_iff (v w : BitVec 32) : Scalar.cmpi .sgt v w = 1#1 ↔ w.toInt < v.toInt := by
  simp only [Scalar.cmpi, IntOp.cmpi, ofBool_iff, BitVec.slt, decide_eq_true_eq]
theorem slt_iff (v w : BitVec 32) : Scalar.cmpi .slt v w = 1#1 ↔ v.toInt < w.toInt := by
  simp only [Scalar.cmpi, IntOp.cmpi, ofBool_iff, BitVec.slt, decide_eq_true_eq]
theorem sle_iff (v w : BitVec 32) : Scalar.cmpi .sle v w = 1#1 ↔ v.toInt ≤ w.toInt := by
  simp only [Scalar.cmpi, IntOp.cmpi, ofBool_iff, BitVec.sle, decide_eq_true_eq]
/-- Whether a chunk is a given one. -/
theorem chunk_iff (n : ℕ) (hn : n < 7) (k : ℕ) (hk : k < 7) :
    Scalar.cmpi .eq (BitVec.ofNat 32 n) (BitVec.ofNat 32 k) = 1#1 ↔ n = k := by
  simp only [Scalar.cmpi, IntOp.cmpi, ofBool_iff, beq_iff_eq]
  constructor
  · intro h
    have := congrArg BitVec.toNat h
    simp only [BitVec.toNat_ofNat] at this
    omega
  · rintro rfl; rfl

/-- The number of real rows as an integer: the words it is compared with. -/
theorem toInt_0 : (0#32 : BitVec 32).toInt = 0 := by decide
theorem toInt_512 : (512#32 : BitVec 32).toInt = 512 := by decide

/-- The body's conditions. The first branch is taken at a tile's first chunk, when the tile holds rows; -/
theorem first_iff (i : grid0.Coords) (v : BitVec 32) :
    Scalar.cmpi .ne (Scalar.extui (Scalar.andi (Scalar.cmpi .sgt v 0#32) (Scalar.cmpi .eq (BitVec.ofNat 32 (i 1).val) 0#32)) : BitVec 32) 0#32 = 1#1
      ↔ 0 < v.toInt ∧ (i 1).val = 0 := by
  rw [bit_iff, and_iff, sgt_iff, toInt_0, chunk_iff _ (i 1).isLt 0 (by omega)]
/-- the second when more than half of the tile's rows are real; -/
theorem whole_iff (v : BitVec 32) :
    Scalar.cmpi .ne (Scalar.extui (Scalar.cmpi .sgt v 512#32) : BitVec 32) 0#32 = 1#1 ↔ 512 < v.toInt := by
  rw [bit_iff, sgt_iff, toInt_512]
/-- the third when some are, but no more than half; -/
theorem half_iff (v : BitVec 32) :
    Scalar.cmpi .ne (Scalar.extui (Scalar.andi (Scalar.cmpi .sgt v 0#32) (Scalar.cmpi .sle v 512#32)) : BitVec 32) 0#32 = 1#1
      ↔ 0 < v.toInt ∧ v.toInt ≤ 512 := by
  rw [bit_iff, and_iff, sgt_iff, sle_iff, toInt_0, toInt_512]
/-- the fourth at a tile's last chunk when the tile holds rows, and the fifth when it does not. -/
theorem last_iff (i : grid0.Coords) (v : BitVec 32) : k0_cond4 i v = 1#1 ↔ 0 < v.toInt ∧ (i 1).val = 6 := by
  unfold k0_cond4
  rw [bit_iff, and_iff, sgt_iff, toInt_0, chunk_iff _ (i 1).isLt 6 (by omega)]
theorem none_iff (i : grid0.Coords) (v : BitVec 32) : k0_cond5 i v = 1#1 ↔ ¬ 0 < v.toInt ∧ (i 1).val = 6 := by
  unfold k0_cond5
  rw [bit_iff, and_iff, not_iff, sgt_iff, toInt_0, chunk_iff _ (i 1).isLt 6 (by omega)]

/-- The number of real rows of the tile of point `t`, as the body reads it from the second table. -/
abbrev rowsAt (i : grid0.Coords) : BitVec 32 :=
  (tbl m).at 1 (Rect.unit (s := S72) (k0_off1 i) S1.size (k0_off1_inb i)) numel1_S1

end Cert.ExpertsIdeal.Gen

end
-- ==== Proof.Experts.Body.lean ====
/- The expert call's body, branch by branch: each branch is run from what its buffers hold to what it leaves in them. -/
module

public import proofs.«01_k».proof.Proof.Experts.Kit
public import Idealize.ShloMosaic.Lib.WritesUnit
public import Idealize.ShloMosaic.Lib.VecWindow

@[expose] public section

set_option maxRecDepth 65536

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A program of the body. -/
abbrev Code (F : FTy → Type) : Type 1 := Prog (TpuEff nD τ sig (Elt F) Λ₀ .tc) PUnit

/-- What a program needs to end in `K`. -/
abbrev needs (c : Dev nD) (E : Set ℕ) (p : Code F) (K : PUnit → sProp 𝕄) : sProp 𝕄 :=
  wp frame (wpE (defs₀ (F := F)) Variants.none c none) E p K

/-- The whole of a square buffer. -/
abbrev all : Rect S1024x1024 := Rect.unit (s := S1024x1024) ![0, 0] S1024x1024.size inb_S1024x1024_S1024x1024_0_0
/-- Its upper half. -/
abbrev top : Rect S1024x1024 := Rect.unit (s := S1024x1024) ![0, 0] S512x1024.size inb_S1024x1024_S512x1024_0_0

/-- A whole buffer read over all of itself is what it holds. -/
theorem read_all {S : Shape} {e : EltTy} {M : Memref sig .tc .vmem S e} (hM : M.IsWhole) {off : Fin S.rank → ℕ} (inb : ∀ a, off a + S.size a ≤ S.size a)
    (x : Vec F S e) : View.readAt (Elt F) M.view (Rect.unit off S.size inb).toLoadRect (hM.unread x) = x :=
  (View.readAt_full _ _ _).trans (hM.read_unread _)

/-- The upper half of an array of rows. -/
def upper (x : Vec F S1024x1024 .f32) : Vec F S512x1024 .f32 := fun y => x (top.emb y)

/-- A whole buffer read over its upper half. -/
theorem read_top {M : Memref sig .tc .vmem S1024x1024 .f32} (hM : M.IsWhole) (x : Vec F S1024x1024 .f32) :
    View.readAt (Elt F) M.view top.toLoadRect (hM.unread x) = upper x := by
  funext y
  exact congrFun (hM.read_unread x) (top.emb y)

/-- The first branch: clear the accumulator. -/
def stage1 (i : grid0.Coords) (v : BitVec 32) (arg9 : Memref sig .tc .vmem S1024x1024 .f32) (k : Code F) : Code F :=
  if Scalar.cmpi .ne (Scalar.extui (Scalar.andi (Scalar.cmpi .sgt v 0#32) (Scalar.cmpi .eq (BitVec.ofNat 32 (i 1).val) 0#32)) : BitVec 32) 0#32 = 1#1 then do
    let _ ← Prog.lift (.load arg9 all.toLoadRect (View.loadsAt_vmem h_S1024x1024))
    Prog.lift (.store arg9 all (k0_pay1 (F := F)) Finset.univ (View.stores_vmem_bits_univ h_S1024x1024 rfl) (.inl rfl))
    k
  else k

/-- The second: add the chunk's product over all rows. -/
def stage2 (v : BitVec 32) (arg4 : Memref sig .tc .vmem S1024x1024 .f32) (arg5 arg6 : Memref sig .tc .vmem S1x1024x512 .f32)
    (arg7 : Memref sig .tc .vmem S1x512x1024 .f32) (arg9 : Memref sig .tc .vmem S1024x1024 .f32) (k : Code F) : Code F :=
  if Scalar.cmpi .ne (Scalar.extui (Scalar.cmpi .sgt v 512#32) : BitVec 32) 0#32 = 1#1 then do
    let v23 ← Prog.lift (.load arg4 all.toLoadRect (View.loadsAt_vmem h_S1024x1024))
    let v25 ← Prog.lift (.load arg5 (Rect.unit (s := S1x1024x512) ![0, 0, 0] S1x1024x512.size inb_S1x1024x512_S1x1024x512_0_0_0).toLoadRect (View.loadsAt_vmem h_S1x1024x512))
    let v29 ← Prog.lift (.load arg6 (Rect.unit (s := S1x1024x512) ![0, 0, 0] S1x1024x512.size inb_S1x1024x512_S1x1024x512_0_0_0).toLoadRect (View.loadsAt_vmem h_S1x1024x512))
    let v43 ← Prog.lift (.load arg9 all.toLoadRect (View.loadsAt_vmem h_S1024x1024))
    let v44 ← Prog.lift (.load arg7 (Rect.unit (s := S1x512x1024) ![0, 0, 0] S1x512x1024.size inb_S1x512x1024_S1x512x1024_0_0_0).toLoadRect (View.loadsAt_vmem h_S1x512x1024))
    let _ ← Prog.lift (.load arg9 all.toLoadRect (View.loadsAt_vmem h_S1024x1024))
    Prog.lift (.store arg9 all (k0_pay2 v23 v25 v29 v43 v44) Finset.univ (View.stores_vmem_bits_univ h_S1024x1024 rfl) (.inl rfl))
    k
  else k

/-- The third: add it over the upper half of the rows. -/
def stage3 (v : BitVec 32) (arg4 : Memref sig .tc .vmem S1024x1024 .f32) (arg5 arg6 : Memref sig .tc .vmem S1x1024x512 .f32)
    (arg7 : Memref sig .tc .vmem S1x512x1024 .f32) (arg9 : Memref sig .tc .vmem S1024x1024 .f32) (k : Code F) : Code F :=
  if Scalar.cmpi .ne (Scalar.extui (Scalar.andi (Scalar.cmpi .sgt v 0#32) (Scalar.cmpi .sle v 512#32)) : BitVec 32) 0#32 = 1#1 then do
    let v23 ← Prog.lift (.load arg4 top.toLoadRect (View.loadsAt_vmem h_S512x1024))
    let v25 ← Prog.lift (.load arg5 (Rect.unit (s := S1x1024x512) ![0, 0, 0] S1x1024x512.size inb_S1x1024x512_S1x1024x512_0_0_0).toLoadRect (View.loadsAt_vmem h_S1x1024x512))
    let v29 ← Prog.lift (.load arg6 (Rect.unit (s := S1x1024x512) ![0, 0, 0] S1x1024x512.size inb_S1x1024x512_S1x1024x512_0_0_0).toLoadRect (View.loadsAt_vmem h_S1x1024x512))
    let v43 ← Prog.lift (.load arg9 top.toLoadRect (View.loadsAt_vmem h_S512x1024))
    let v44 ← Prog.lift (.load arg7 (Rect.unit (s := S1x512x1024) ![0, 0, 0] S1x512x1024.size inb_S1x512x1024_S1x512x1024_0_0_0).toLoadRect (View.loadsAt_vmem h_S1x512x1024))
    let _ ← Prog.lift (.load arg9 top.toLoadRect (View.loadsAt_vmem h_S512x1024))
    Prog.lift (.store arg9 top (k0_pay3 v23 v25 v29 v43 v44) Finset.univ (View.stores_vmem_bits_univ h_S512x1024 rfl) (.inl rfl))
    k
  else k

/-- The fourth: copy the accumulator out. -/
def stage4 (i : grid0.Coords) (v : BitVec 32) (arg8 arg9 : Memref sig .tc .vmem S1024x1024 .f32) (k : Code F) : Code F :=
  if k0_cond4 i v = 1#1 then do
    let v23 ← Prog.lift (.load arg9 all.toLoadRect (View.loadsAt_vmem h_S1024x1024))
    let _ ← Prog.lift (.load arg8 all.toLoadRect (View.loadsAt_vmem h_S1024x1024))
    Prog.lift (.store arg8 all v23 Finset.univ (View.stores_vmem_bits_univ h_S1024x1024 rfl) (.inl rfl))
    k
  else k

/-- The fifth: put zeros out. -/
def stage5 (i : grid0.Coords) (v : BitVec 32) (arg8 : Memref sig .tc .vmem S1024x1024 .f32) (k : Code F) : Code F :=
  if k0_cond5 i v = 1#1 then do
    let _ ← Prog.lift (.load arg8 all.toLoadRect (View.loadsAt_vmem h_S1024x1024))
    Prog.lift (.store arg8 all (k0_pay4 (F := F)) Finset.univ (View.stores_vmem_bits_univ h_S1024x1024 rfl) (.inl rfl))
    k
  else k

/-- The body is its five branches in order, after the number of the tile's rows is read. -/
theorem body_stages (i : grid0.Coords) (arg2 : Memref sig .tc .smem S72 .i32) (harg2 : arg2.IsWhole) (arg3 : Memref sig .tc .smem S72 .i32) (harg3 : arg3.IsWhole) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .f32) (harg9 : arg9.IsWhole) :
    cc0_moe_expert_ffn (F := F) i arg2 harg2 arg3 harg3 arg4 harg4 arg5 harg5 arg6 harg6 arg7 harg7 arg8 harg8 arg9 harg9 = (do
      let v ← smemLoad arg3 (Rect.unit (s := S72) (k0_off1 i) S1.size (k0_off1_inb i)) numel1_S1 rfl
      stage1 i v arg9 (stage2 v arg4 arg5 arg6 arg7 arg9 (stage3 v arg4 arg5 arg6 arg7 arg9 (stage4 i v arg8 arg9 (stage5 i v arg8 (pure ⟨⟩)))))) := rfl

/-- The accumulator after the first branch. -/
def cleared (i : grid0.Coords) (v : BitVec 32) (a : Vec F S1024x1024 .f32) : Vec F S1024x1024 .f32 :=
  if 0 < v.toInt ∧ (i 1).val = 0 then k0_pay1 else a

theorem stage1_run (c : Dev nD) (i : grid0.Coords) (v : BitVec 32) (arg9 : Memref sig .tc .vmem S1024x1024 .f32) (harg9 : arg9.IsWhole)
    (a : Vec F S1024x1024 .f32) (E : Set ℕ) (k : Code F) (K : PUnit → sProp 𝕄) :
    iprop(owns (c : Thread nD τ) arg9 fullShare a ∗ (owns (c : Thread nD τ) arg9 fullShare (cleared i v a) -∗ needs c E k K))
      ⊢ needs c E (stage1 i v arg9 k) K := by
  unfold stage1 cleared needs
  by_cases h : 0 < v.toInt ∧ (i 1).val = 0
  · rw [if_pos h, if_pos ((first_iff i v).mpr h)]
    unfold owns
    iintro ⟨⟨%f, %hf, H⟩, Hk⟩
    obtain rfl := harg9.eq_unread hf
    sl_exec
    iapply Hk
    iexists _; isplitr
    swap; · iexact H
    ipureintro
    exact View.read_writes_full _ _ _ _ _
  · rw [if_neg h, if_neg (fun h' => h ((first_iff i v).mp h'))]
    iintro ⟨H, Hk⟩
    iapply Hk
    iexact H

/-- The accumulator after the second branch. -/
def addedWhole (v : BitVec 32) (x : Vec F S1024x1024 .f32) (wg wu : Vec F S1x1024x512 .f32) (wd : Vec F S1x512x1024 .f32) (a : Vec F S1024x1024 .f32) :
    Vec F S1024x1024 .f32 :=
  if 512 < v.toInt then k0_pay2 x wg wu a wd else a

theorem stage2_run (c : Dev nD) (v : BitVec 32) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg9 : Memref sig .tc .vmem S1024x1024 .f32) (harg9 : arg9.IsWhole)
    (x : Vec F S1024x1024 .f32) (wg wu : Vec F S1x1024x512 .f32) (wd : Vec F S1x512x1024 .f32) (a : Vec F S1024x1024 .f32) (E : Set ℕ) (k : Code F) (K : PUnit → sProp 𝕄) :
    iprop(owns (c : Thread nD τ) arg4 fullShare x ∗ owns (c : Thread nD τ) arg5 fullShare wg ∗ owns (c : Thread nD τ) arg6 fullShare wu ∗ owns (c : Thread nD τ) arg7 fullShare wd ∗ owns (c : Thread nD τ) arg9 fullShare a
        ∗ (iprop(owns (c : Thread nD τ) arg4 fullShare x ∗ owns (c : Thread nD τ) arg5 fullShare wg ∗ owns (c : Thread nD τ) arg6 fullShare wu ∗ owns (c : Thread nD τ) arg7 fullShare wd ∗ owns (c : Thread nD τ) arg9 fullShare (addedWhole v x wg wu wd a)) -∗ needs c E k K))
      ⊢ needs c E (stage2 v arg4 arg5 arg6 arg7 arg9 k) K := by
  unfold stage2 addedWhole needs
  by_cases h : 512 < v.toInt
  · rw [if_pos h, if_pos ((whole_iff v).mpr h)]
    unfold owns
    iintro ⟨⟨%f0, %hf0, H0⟩, ⟨%f1, %hf1, H1⟩, ⟨%f2, %hf2, H2⟩, ⟨%f3, %hf3, H3⟩, ⟨%f, %hf, H⟩, Hk⟩
    obtain rfl := harg4.eq_unread hf0; obtain rfl := harg5.eq_unread hf1; obtain rfl := harg6.eq_unread hf2; obtain rfl := harg7.eq_unread hf3
    obtain rfl := harg9.eq_unread hf
    sl_exec
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; isplitr
    swap; · iexact H
    ipureintro
    refine (View.read_writes_full _ _ _ _ _).trans ?_
    rw [read_all harg4, read_all harg5, read_all harg6, read_all harg7, read_all harg9]
  · rw [if_neg h, if_neg (fun h' => h ((whole_iff v).mp h'))]
    iintro ⟨H0, H1, H2, H3, H, Hk⟩
    iapply Hk
    isplitl [H0]; · iexact H0
    isplitl [H1]; · iexact H1
    isplitl [H2]; · iexact H2
    isplitl [H3]; · iexact H3
    iexact H

/-- A row of the upper half, as a row of the half. -/
def inHalf (y : S1024x1024.Idx) (h : (y 0).val < 512) : S512x1024.Idx := fun
  | 0 => ⟨(y 0).val, h⟩
  | 1 => y 1

/-- The accumulator after the third branch: its upper half renewed. -/
def addedHalf (v : BitVec 32) (x : Vec F S1024x1024 .f32) (wg wu : Vec F S1x1024x512 .f32) (wd : Vec F S1x512x1024 .f32) (a : Vec F S1024x1024 .f32) :
    Vec F S1024x1024 .f32 :=
  if 0 < v.toInt ∧ v.toInt ≤ 512 then
    fun y => if h : (y 0).val < 512 then k0_pay3 (upper x) wg wu (upper a) wd (inHalf y h) else a y
  else a

theorem stage3_run (c : Dev nD) (v : BitVec 32) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg9 : Memref sig .tc .vmem S1024x1024 .f32) (harg9 : arg9.IsWhole)
    (x : Vec F S1024x1024 .f32) (wg wu : Vec F S1x1024x512 .f32) (wd : Vec F S1x512x1024 .f32) (a : Vec F S1024x1024 .f32) (E : Set ℕ) (k : Code F) (K : PUnit → sProp 𝕄) :
    iprop(owns (c : Thread nD τ) arg4 fullShare x ∗ owns (c : Thread nD τ) arg5 fullShare wg ∗ owns (c : Thread nD τ) arg6 fullShare wu ∗ owns (c : Thread nD τ) arg7 fullShare wd ∗ owns (c : Thread nD τ) arg9 fullShare a
        ∗ (iprop(owns (c : Thread nD τ) arg4 fullShare x ∗ owns (c : Thread nD τ) arg5 fullShare wg ∗ owns (c : Thread nD τ) arg6 fullShare wu ∗ owns (c : Thread nD τ) arg7 fullShare wd ∗ owns (c : Thread nD τ) arg9 fullShare (addedHalf v x wg wu wd a)) -∗ needs c E k K))
      ⊢ needs c E (stage3 v arg4 arg5 arg6 arg7 arg9 k) K := by
  unfold stage3 addedHalf needs
  by_cases h : 0 < v.toInt ∧ v.toInt ≤ 512
  · rw [if_pos h, if_pos ((half_iff v).mpr h)]
    unfold owns
    iintro ⟨⟨%f0, %hf0, H0⟩, ⟨%f1, %hf1, H1⟩, ⟨%f2, %hf2, H2⟩, ⟨%f3, %hf3, H3⟩, ⟨%f, %hf, H⟩, Hk⟩
    obtain rfl := harg4.eq_unread hf0; obtain rfl := harg5.eq_unread hf1; obtain rfl := harg6.eq_unread hf2; obtain rfl := harg7.eq_unread hf3
    obtain rfl := harg9.eq_unread hf
    sl_exec
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; isplitr
    swap; · iexact H
    ipureintro
    rw [read_top harg4, read_all harg5, read_all harg6, read_all harg7, read_top harg9]
    funext y
    by_cases hy : (y 0).val < 512
    · rw [dif_pos hy]
      exact View.read_writes_cons_rows_of_mem _ _ _ _ _ y (inHalf y hy) rfl (Nat.zero_add _).symm rfl
    · rw [dif_neg hy]
      refine (View.read_writes_cons_rows_of_not_mem _ _ _ _ _ y (o := 0) rfl rfl (Or.inr (by rw [Nat.zero_add]; exact Nat.le_of_not_lt hy))).trans ?_
      exact congrFun (harg9.read_unread a) y
  · rw [if_neg h, if_neg (fun h' => h ((half_iff v).mp h'))]
    iintro ⟨H0, H1, H2, H3, H, Hk⟩
    iapply Hk
    isplitl [H0]; · iexact H0
    isplitl [H1]; · iexact H1
    isplitl [H2]; · iexact H2
    isplitl [H3]; · iexact H3
    iexact H

/-- The output's buffer after the fourth and the fifth branch. -/
def copied (i : grid0.Coords) (v : BitVec 32) (a o : Vec F S1024x1024 .f32) : Vec F S1024x1024 .f32 :=
  if 0 < v.toInt ∧ (i 1).val = 6 then a else o
def zeroed (i : grid0.Coords) (v : BitVec 32) (o : Vec F S1024x1024 .f32) : Vec F S1024x1024 .f32 :=
  if ¬ 0 < v.toInt ∧ (i 1).val = 6 then k0_pay4 else o

theorem stage4_run (c : Dev nD) (i : grid0.Coords) (v : BitVec 32) (arg8 : Memref sig .tc .vmem S1024x1024 .f32) (harg8 : arg8.IsWhole) (arg9 : Memref sig .tc .vmem S1024x1024 .f32) (harg9 : arg9.IsWhole)
    (o a : Vec F S1024x1024 .f32) (E : Set ℕ) (k : Code F) (K : PUnit → sProp 𝕄) :
    iprop(owns (c : Thread nD τ) arg8 fullShare o ∗ owns (c : Thread nD τ) arg9 fullShare a
        ∗ (iprop(owns (c : Thread nD τ) arg8 fullShare (copied i v a o) ∗ owns (c : Thread nD τ) arg9 fullShare a) -∗ needs c E k K))
      ⊢ needs c E (stage4 i v arg8 arg9 k) K := by
  unfold stage4 copied needs
  by_cases h : 0 < v.toInt ∧ (i 1).val = 6
  · rw [if_pos h, if_pos ((last_iff i v).mpr h)]
    unfold owns
    iintro ⟨⟨%f, %hf, H⟩, ⟨%f', %hf', H'⟩, Hk⟩
    obtain rfl := harg8.eq_unread hf; obtain rfl := harg9.eq_unread hf'
    sl_exec
    iapply Hk
    isplitl [H]
    · iexists _; isplitr
      swap; · iexact H
      ipureintro
      exact (View.read_writes_full _ _ _ _ _).trans (read_all harg9 _ _)
    iexists _; isplitr; · ipureintro; exact harg9.read_unread _
    iexact H'
  · rw [if_neg h, if_neg (fun h' => h ((last_iff i v).mp h'))]
    iintro ⟨H, H', Hk⟩
    iapply Hk
    isplitl [H]; · iexact H
    iexact H'

theorem stage5_run (c : Dev nD) (i : grid0.Coords) (v : BitVec 32) (arg8 : Memref sig .tc .vmem S1024x1024 .f32) (harg8 : arg8.IsWhole)
    (o : Vec F S1024x1024 .f32) (E : Set ℕ) (k : Code F) (K : PUnit → sProp 𝕄) :
    iprop(owns (c : Thread nD τ) arg8 fullShare o ∗ (owns (c : Thread nD τ) arg8 fullShare (zeroed i v o) -∗ needs c E k K))
      ⊢ needs c E (stage5 i v arg8 k) K := by
  unfold stage5 zeroed needs
  by_cases h : ¬ 0 < v.toInt ∧ (i 1).val = 6
  · rw [if_pos h, if_pos ((none_iff i v).mpr h)]
    unfold owns
    iintro ⟨⟨%f, %hf, H⟩, Hk⟩
    obtain rfl := harg8.eq_unread hf
    sl_exec
    iapply Hk
    iexists _; isplitr
    swap; · iexact H
    ipureintro
    exact View.read_writes_full _ _ _ _ _
  · rw [if_neg h, if_neg (fun h' => h ((none_iff i v).mp h'))]
    iintro ⟨H, Hk⟩
    iapply Hk
    iexact H

/-- What one point leaves in the accumulator, -/
def accNext (i : grid0.Coords) (v : BitVec 32) (x : Vec F S1024x1024 .f32) (wg wu : Vec F S1x1024x512 .f32) (wd : Vec F S1x512x1024 .f32)
    (a : Vec F S1024x1024 .f32) : Vec F S1024x1024 .f32 :=
  addedHalf v x wg wu wd (addedWhole v x wg wu wd (cleared i v a))
/-- and in the output's buffer. -/
def outNext (i : grid0.Coords) (v : BitVec 32) (a o : Vec F S1024x1024 .f32) : Vec F S1024x1024 .f32 :=
  zeroed i v (copied i v a o)

/-- The body at a point: from its blocks, the output's buffer and the accumulator to what the point leaves in them. -/
theorem body_run (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .f32) (harg9 : arg9.IsWhole)
    (m : (ℓ : Loc nD τ sig) → Buf (Elt F) ℓ) (x : Vec F S1024x1024 .f32) (wg wu : Vec F S1x1024x512 .f32) (wd : Vec F S1x512x1024 .f32) (o a : Vec F S1024x1024 .f32) (E : Set ℕ) (K : PUnit → sProp 𝕄) :
    iprop(owns (c : Thread nD τ) arg4 fullShare x ∗ owns (c : Thread nD τ) arg5 fullShare wg ∗ owns (c : Thread nD τ) arg6 fullShare wu ∗ owns (c : Thread nD τ) arg7 fullShare wd ∗ owns (c : Thread nD τ) arg8 fullShare o ∗ owns (c : Thread nD τ) arg9 fullShare a
        ∗ tbPt c tbM0 (tbl m 0) ∗ tbPt c tbM1 (tbl m 1)
        ∗ (iprop(owns (c : Thread nD τ) arg4 fullShare x ∗ owns (c : Thread nD τ) arg5 fullShare wg ∗ owns (c : Thread nD τ) arg6 fullShare wu ∗ owns (c : Thread nD τ) arg7 fullShare wd
            ∗ owns (c : Thread nD τ) arg8 fullShare (outNext i (rowsAt m i) (accNext i (rowsAt m i) x wg wu wd a) o) ∗ owns (c : Thread nD τ) arg9 fullShare (accNext i (rowsAt m i) x wg wu wd a)
            ∗ tbPt c tbM0 (tbl m 0) ∗ tbPt c tbM1 (tbl m 1)) -∗ K ⟨⟩))
      ⊢ needs c E (cc0_moe_expert_ffn i tbM0 htbM0 tbM1 htbM1 arg4 harg4 arg5 harg5 arg6 harg6 arg7 harg7 arg8 harg8 arg9 harg9) K := by
  rw [body_stages]
  unfold needs
  iintro ⟨H0, H1, H2, H3, H4, HS, HT0, HT1, Hk⟩
  sl_exec
  iapply (stage1_run c i (rowsAt m i) arg9 harg9 a E _ K)
  isplitl [HS]; · iexact HS
  iintro HS
  iapply (stage2_run c (rowsAt m i) arg4 harg4 arg5 harg5 arg6 harg6 arg7 harg7 arg9 harg9 x wg wu wd _ E _ K)
  isplitl [H0]; · iexact H0
  isplitl [H1]; · iexact H1
  isplitl [H2]; · iexact H2
  isplitl [H3]; · iexact H3
  isplitl [HS]; · iexact HS
  iintro ⟨H0, H1, H2, H3, HS⟩
  iapply (stage3_run c (rowsAt m i) arg4 harg4 arg5 harg5 arg6 harg6 arg7 harg7 arg9 harg9 x wg wu wd _ E _ K)
  isplitl [H0]; · iexact H0
  isplitl [H1]; · iexact H1
  isplitl [H2]; · iexact H2
  isplitl [H3]; · iexact H3
  isplitl [HS]; · iexact HS
  iintro ⟨H0, H1, H2, H3, HS⟩
  iapply (stage4_run c i (rowsAt m i) arg8 harg8 arg9 harg9 o _ E _ K)
  isplitl [H4]; · iexact H4
  isplitl [HS]; · iexact HS
  iintro ⟨H4, HS⟩
  iapply (stage5_run c i (rowsAt m i) arg8 harg8 _ E _ K)
  isplitl [H4]; · iexact H4
  iintro H4
  unfold needs
  sl_step
  iapply Hk
  isplitl [H0]; · iexact H0
  isplitl [H1]; · iexact H1
  isplitl [H2]; · iexact H2
  isplitl [H3]; · iexact H3
  isplitl [H4]; · iexact H4
  isplitl [HS]; · iexact HS
  isplitl [HT0]; · iexact HT0
  iexact HT1

end Cert.ExpertsIdeal.Gen

end
-- ==== Proof.Experts.Frame.lean ====
/- The expert call run over all its points: the accumulator's contents through a tile's chunks, what the output ends with,
   and the arguments unchanged. -/
module

public import proofs.«01_k».proof.Proof.Experts.Body
public import Idealize.ShloMosaic.Lib.Claim

@[expose] public section

set_option maxRecDepth 65536

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point t makes of the accumulator's contents. -/
def stepAt (hO : Ok m) (c : Dev nD) (t : Fin (cfgM m hO).N) (a : Vec F S1024x1024 .f32) : Vec F S1024x1024 .f32 :=
  accNext (grid0.coords t) (rowsAt m (grid0.coords t)) (iblk m hO c 0 t) (iblk m hO c 1 t) (iblk m hO c 2 t) (iblk m hO c 3 t) a

/-- The accumulator after point n, from zeros at the tile's first chunk. -/
def accAt (hO : Ok m) (c : Dev nD) : (n : ℕ) → n < (cfgM m hO).N → Vec F S1024x1024 .f32
  | 0, hn => stepAt m hO c ⟨0, hn⟩ k0_pay1
  | n + 1, hn => stepAt m hO c ⟨n + 1, hn⟩ (if (n + 1) % 7 = 0 then k0_pay1 else accAt hO c n (Nat.lt_of_succ_lt hn))

/-- The output's buffer after a tile's last chunk. -/
def outAt (hO : Ok m) (c : Dev nD) (t : Fin (cfgM m hO).N) : Vec F S1024x1024 .f32 :=
  if 0 < (rowsAt m (grid0.coords t)).toInt then accAt m hO c t.val t.isLt else k0_pay4

/-- Before position n: in a tile that holds rows the accumulator is what the point before left. -/
def AccOk (hO : Ok m) (c : Dev nD) : (n : ℕ) → n ≤ (cfgM m hO).N → Vec F S1024x1024 .f32 → Prop
  | 0, _, _ => True
  | n + 1, hn, a => 0 < (rowsAt m (grid0.coords ⟨n, hn⟩)).toInt → a = accAt m hO c n hn

/-- The rows of a tile are counted alike at its chunks. -/
theorem rows_same (i j : grid0.Coords) (h : i 0 = j 0) : rowsAt m i = rowsAt m j := by
  unfold rowsAt k0_off1
  simp only [h]; rfl

/-- At a tile's first chunk what the accumulator held is of no account. -/
theorem stepAt_first (hO : Ok m) (c : Dev nD) (t : Fin (cfgM m hO).N) (h : t.val % 7 = 0) (hr : 0 < (rowsAt m (grid0.coords t)).toInt)
    (a : Vec F S1024x1024 .f32) : stepAt m hO c t a = stepAt m hO c t k0_pay1 := by
  have hc : 0 < (rowsAt m (grid0.coords t)).toInt ∧ (grid0.coords t 1).val = 0 := ⟨hr, (coords_chunk t).trans h⟩
  unfold stepAt accNext cleared
  rw [if_pos hc, if_pos hc]

/-- One point carries the accumulator's contents on. -/
theorem accOk_step (hO : Ok m) (c : Dev nD) (t : Fin (cfgM m hO).N) (a : Vec F S1024x1024 .f32)
    (h : AccOk m hO c t.val (Nat.le_of_lt t.isLt) a) (hr : 0 < (rowsAt m (grid0.coords t)).toInt) :
    stepAt m hO c t a = accAt m hO c t.val t.isLt := by
  obtain ⟨n, hn⟩ := t
  cases n with
  | zero => exact stepAt_first m hO c ⟨0, hn⟩ rfl hr a
  | succ n =>
    by_cases h0 : (n + 1) % 7 = 0
    · refine (stepAt_first m hO c ⟨n + 1, hn⟩ h0 hr a).trans ?_
      unfold accAt; rw [if_pos h0]
    · have hs : rowsAt m (grid0.coords ⟨n, Nat.lt_of_succ_lt hn⟩) = rowsAt m (grid0.coords ⟨n + 1, hn⟩) :=
        rows_same m _ _ (Fin.ext (by rw [coords_tile, coords_tile]; show n / 7 = (n + 1) / 7; omega))
      have ha : a = accAt m hO c n (Nat.lt_of_succ_lt hn) := h (by rw [hs]; exact hr)
      show _ = stepAt m hO c ⟨n + 1, hn⟩ (if (n + 1) % 7 = 0 then k0_pay1 else accAt m hO c n (Nat.lt_of_succ_lt hn))
      rw [if_neg h0, ha]

/-- What the region holds between points: the accumulator, the generator register, the tables' halves. -/
def PhiS (hO : Ok m) (c : Dev nD) (n : ℕ) (hn : n ≤ (cfgM m hO).N) : sProp 𝕄 :=
  iprop(iprop((∃ a, ⌜AccOk m hO c n hn a⌝ ∗ owns (c : Thread nD τ) scM fullShare a) ∗ (∃ r, prngReg c r)) ∗ Pipeline.ΦT pre0 (tbl m) c)

/-- The run's data: the arrays as found, each buffer after each point, and the above. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outAt m hO c t := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d

/-- The output's buffer is idle but at a tile's last chunk. -/
theorem idle_4 (hO : Ok m) (t : Fin (cfgM m hO).N) (h : ¬ t.val % 7 = 6) : (cfgM m hO).idle 4 (grid0.coords t) = true := by
  have hc : ¬ (grid0.coords t 1).val = 6 := by rw [coords_chunk]; exact h
  show (!(k0_cond4 (grid0.coords t) _ == 1#1) && !(k0_cond5 (grid0.coords t) _ == 1#1)) = true
  rw [Bool.and_eq_true]
  constructor
  · rw [Bool.not_eq_true', beq_eq_false_iff_ne]; exact fun h' => hc ((last_iff _ _).mp h').2
  · rw [Bool.not_eq_true', beq_eq_false_iff_ne]; exact fun h' => hc ((none_iff _ _).mp h').2
theorem live_4 (hO : Ok m) (t : Fin (cfgM m hO).N) (h : t.val % 7 = 6) : (cfgM m hO).idle 4 (grid0.coords t) = false := by
  have hc : (grid0.coords t 1).val = 6 := by rw [coords_chunk]; exact h
  show (!(k0_cond4 (grid0.coords t) ((tbl m).atD 1 (k0_off1 (grid0.coords t))) == 1#1) && !(k0_cond5 (grid0.coords t) ((tbl m).atD 1 (k0_off1 (grid0.coords t))) == 1#1)) = false
  generalize (tbl m).atD 1 (k0_off1 (grid0.coords t)) = v
  by_cases hv : 0 < v.toInt
  · rw [(last_iff (grid0.coords t) v).mpr ⟨hv, hc⟩]; rfl
  · rw [(none_iff (grid0.coords t) v).mpr ⟨hv, hc⟩, Bool.and_comm]; rfl

/-- The body's program at a point. -/
abbrev bodyAt (hO : Ok m) (t : Fin (cfgM m hO).N) : Code F :=
  cc0_moe_expert_ffn (grid0.coords t) tbM0 htbM0 tbM1 htbM1 (ms_0 m hO t) (hs_0 m hO t) (ms_1 m hO t) (hs_1 m hO t)
    (ms_2 m hO t) (hs_2 m hO t) (ms_3 m hO t) (hs_3 m hO t) (ms_4 m hO t) (hs_4 m hO t) scM (Memref.isWhole_whole _)

/-- What the body is called with at a point, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- After a tile's last chunk the output's buffer is the accumulator, or zeros when the tile holds no rows. -/
theorem outNext_last (hO : Ok m) (c : Dev nD) (t : Fin (cfgM m hO).N) (h : t.val % 7 = 6) (a o : Vec F S1024x1024 .f32)
    (ha : AccOk m hO c t.val (Nat.le_of_lt t.isLt) a) :
    outNext (grid0.coords t) (rowsAt m (grid0.coords t)) (stepAt m hO c t a) o = outAt m hO c t := by
  have hc : (grid0.coords t 1).val = 6 := by rw [coords_chunk]; exact h
  unfold outNext zeroed copied outAt
  by_cases hr : 0 < (rowsAt m (grid0.coords t)).toInt
  · rw [if_neg (fun h' => h'.1 hr), if_pos ⟨hr, hc⟩, if_pos hr, accOk_step m hO c t a ha hr]
  · rw [if_pos ⟨hr, hc⟩, if_neg hr]

/-- At its other chunks the output's buffer is left as found. -/
theorem outNext_other (t : Fin grid0.N) (h : ¬ t.val % 7 = 6) (v : BitVec 32) (a o : Vec F S1024x1024 .f32) :
    outNext (grid0.coords t) v a o = o := by
  have hc : ¬ (grid0.coords t 1).val = 6 := by rw [coords_chunk]; exact h
  unfold outNext zeroed copied
  rw [if_neg (fun h' => hc h'.2), if_neg (fun h' => hc h'.2)]

theorem owns_other (c : Dev nD) (t : Fin grid0.N) (h : ¬ t.val % 7 = 6) (M : Memref sig .tc .vmem S1024x1024 .f32) (v : BitVec 32) (a o : Vec F S1024x1024 .f32) :
    (owns (c : Thread nD τ) M fullShare (outNext (grid0.coords t) v a o) : sProp 𝕄) ⊢ owns (c : Thread nD τ) M fullShare o := by
  rw [outNext_other t h]

set_option maxHeartbeats 4800000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).owesAt () t.succ = (dats m hO 0 c).owesAt () t.castSucc from rfl]
  rw [show (dats m hO 0 c).Φ t.succ = PhiS m hO c (t.val + 1) t.isLt from rfl, PhiS_castSucc m hO c t]
  unfold PhiS
  rw [PhiT_eq]
  rw [show (dats m hO 0 c).leavesExact 0 t = owns (c : Thread nD τ) (ms_0 m hO t) fullShare ((dats m hO 0 c).after 0 t) from by
    unfold Dat.leavesExact; rw [live_0 m hO t]; try rfl, after_0]
  rw [show (dats m hO 0 c).leavesExact 1 t = owns (c : Thread nD τ) (ms_1 m hO t) fullShare ((dats m hO 0 c).after 1 t) from by
    unfold Dat.leavesExact; rw [live_1 m hO t]; try rfl, after_1]
  rw [show (dats m hO 0 c).leavesExact 2 t = owns (c : Thread nD τ) (ms_2 m hO t) fullShare ((dats m hO 0 c).after 2 t) from by
    unfold Dat.leavesExact; rw [live_2 m hO t]; try rfl, after_2]
  rw [show (dats m hO 0 c).leavesExact 3 t = owns (c : Thread nD τ) (ms_3 m hO t) fullShare ((dats m hO 0 c).after 3 t) from by
    unfold Dat.leavesExact; rw [live_3 m hO t]; try rfl, after_3]
  iintro ⟨⟨⟨⟨%a, %ha, HS⟩, Hg⟩, ⟨HT0, HT1⟩⟩, Ho, ⟨%d0, H0⟩, ⟨%d1, H1⟩, ⟨%d2, H2⟩, ⟨%d3, H3⟩, ⟨%d4, H4⟩⟩
  iapply (body_run c (grid0.coords t) (ms_0 m hO t) (hs_0 m hO t) (ms_1 m hO t) (hs_1 m hO t) (ms_2 m hO t) (hs_2 m hO t) (ms_3 m hO t) (hs_3 m hO t) (ms_4 m hO t) (hs_4 m hO t) scM (Memref.isWhole_whole _)
    m (iblk m hO c 0 t) (iblk m hO c 1 t) (iblk m hO c 2 t) (iblk m hO c 3 t) _ a Set.univ _)
  isplitl [H0]; · iexact H0
  isplitl [H1]; · iexact H1
  isplitl [H2]; · iexact H2
  isplitl [H3]; · iexact H3
  isplitl [H4]; · iexact H4
  isplitl [HS]; · iexact HS
  isplitl [HT0]; · iexact HT0
  isplitl [HT1]; · iexact HT1
  iintro ⟨H0, H1, H2, H3, H4, HS, HT0, HT1⟩
  isplitl [HS Hg HT0 HT1]
  · isplitl [HS Hg]
    · isplitl [HS]
      · iexists _; isplitr
        swap; · iexact HS
        ipureintro; exact accOk_step m hO c t a ha
      iexact Hg
    isplitl [HT0]; · iexact HT0
    iexact HT1
  isplitl [Ho]; · iexact Ho
  isplitl [H0]; · iexact H0
  isplitl [H1]; · iexact H1
  isplitl [H2]; · iexact H2
  isplitl [H3]; · iexact H3
  by_cases h : t.val % 7 = 6
  · rw [show (dats m hO 0 c).leavesExact 4 t = owns (c : Thread nD τ) (ms_4 m hO t) fullShare ((dats m hO 0 c).after 4 t) from by
      unfold Dat.leavesExact; rw [live_4 m hO t h]; try rfl, after_4, ← outNext_last m hO c t h a _ ha]
    iexact H4
  · rw [Dat.leavesExact_idle (dats m hO 0 c) 4 t (idle_4 m hO t h) (noFlush m hO t h)]
    iexists d4; iapply (owns_other c t h (ms_4 m hO t) (rowsAt m (grid0.coords t)) _ ((dats m hO 0 c).before 4 t d4)); iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]; try rfl

/-- The body meets what the pipeline asks of it at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The region's start and its end. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiA_eq]
  unfold PhiS
  iintro ⟨⟨⟨%a, HS⟩, Hg⟩, HT⟩
  isplitr [HT]
  · isplitl [HS]
    · iexists _; isplitr
      swap; · iexact HS
      ipureintro; trivial
    iexact Hg
  iexact HT
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N (Nat.le_refl _) from rfl, PhiA_eq]
  unfold PhiS
  iintro ⟨⟨⟨%a, %ha, HS⟩, Hg⟩, -⟩
  isplitl [HS]
  · iexists _; iexact HS
  iexact Hg

set_option backward.isDefEq.respectTransparency.types false in
/-- The call runs to its end: every array of the pipeline is what the data say, every other buffer as found, and every
    counter zero again. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The call leaves its arguments and the counters as they were. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨frame_of m hO (dats m hO) (A_eq m hO) h.1, h.2⟩) (run_main_quiescent m ρ hO)

end Cert.ExpertsIdeal.Gen

end
-- ==== Proof.Experts.Spec.lean ====
/- What an expert makes of a row, over extended reals: two products, a gate, and a third product. -/
module

public import Idealize.ShloMosaic.Lib.Pointwise

@[expose] public section

set_option maxRecDepth 65536

noncomputable section

namespace Cert.Experts.Spec

open Idealize.ShloMosaic

/-- The product of a row and a column. -/
def dot (x w : Fin 1024 → EReal) : EReal := ∑ k, x k * w k

/-- The gate: the first product times its logistic function, times the second. -/
def act (g u : EReal) : EReal := g * Ideal.div (1 : EReal) (1 + Ideal.exp (-g)) * u

/-- Taking from zero is negation. -/
theorem zero_minus (g : EReal) : 0 - g = -g := by rw [sub_eq_add_neg, zero_add]

/-- An expert's result for a row `x`, at a lane whose column of the third array is `wd`. -/
def ffn (x : Fin 1024 → EReal) (wg wu : Fin 1024 → Fin 3584 → EReal) (wd : Fin 3584 → EReal) : EReal :=
  ∑ f, act (dot x fun k => wg k f) (dot x fun k => wu k f) * wd f

/-- Hidden unit `k` of chunk `g`. -/
def unit (g : Fin 7) (k : Fin 512) : Fin 3584 := ⟨512 * g.val + k.val, by have := g.isLt; have := k.isLt; omega⟩

/-- A chunk's part of the result. -/
def part (x : Fin 1024 → EReal) (wg wu : Fin 1024 → Fin 3584 → EReal) (wd : Fin 3584 → EReal) (g : Fin 7) : EReal :=
  ∑ k : Fin 512, act (dot x fun j => wg j (unit g k)) (dot x fun j => wu j (unit g k)) * wd (unit g k)

/-- The chunks' parts add up to the result. -/
theorem sum_part (x : Fin 1024 → EReal) (wg wu : Fin 1024 → Fin 3584 → EReal) (wd : Fin 3584 → EReal) :
    ∑ g, part x wg wu wd g = ffn x wg wu wd := by
  unfold part ffn
  rw [← Fintype.sum_prod_type' (fun (g : Fin 7) (k : Fin 512) => act (dot x fun j => wg j (unit g k)) (dot x fun j => wu j (unit g k)) * wd (unit g k))]
  refine Fintype.sum_equiv (finProdFinEquiv (m := 7) (n := 512)) _ _ fun p => ?_
  have e : unit p.1 p.2 = finProdFinEquiv (m := 7) (n := 512) p := Fin.ext (by
    show 512 * p.1.val + p.2.val = p.2.val + 512 * p.1.val; omega)
  rw [e]

/-- The expert of a row's tile. -/
def expertOf (te : Fin 72 → BitVec 32) (r : Fin 73728) : Fin 8 :=
  ⟨(te ⟨r.val / 1024, by omega⟩).toNat % 8, Nat.mod_lt _ (by decide)⟩

/-- Each row through its tile's expert. -/
def routed (xs : (⟨2, ![73728, 1024]⟩ : Shape).Idx → EReal) (te : (⟨1, ![72]⟩ : Shape).Idx → BitVec 32)
    (wg wu : (⟨3, ![8, 1024, 3584]⟩ : Shape).Idx → EReal) (wd : (⟨3, ![8, 3584, 1024]⟩ : Shape).Idx → EReal)
    (r : Fin 73728) (d : Fin 1024) : EReal :=
  let e := expertOf (fun i => te (ix1 i)) r
  ffn (fun k => xs (ix2 r k)) (fun k f => wg (ix3 e k f)) (fun k f => wu (ix3 e k f)) fun f => wd (ix3 e f d)

end Cert.Experts.Spec

end
-- ==== Proof.Experts.Chunk.lean ====
/- One chunk of the expert's products, at an index, over extended reals. -/
module

public import proofs.«01_k».proof.Proof.Experts.Spec
public import proofs.«01_k».proof.Proof.Experts.Body
public import Idealize.ShloMosaic.Lib.Pointwise

@[expose] public section

set_option maxRecDepth 65536

noncomputable section

namespace Cert.ExpertsIdeal.Gen

open Cert.Experts.Spec Idealize.ShloMosaic Idealize.ShloMosaic.TcCoe Idealize.SL.Sem

/-- Zeros are zero. -/
theorem pay1_apply (j d : Fin 1024) : k0_pay1 (F := Ideal) (ix2 j d) = (0 : EReal) := by
  pointwise [k0_pay1]

/-- All rows renewed: a chunk's part added. -/
theorem pay2_apply (x : Vec Ideal S1024x1024 .f32) (wg wu : Vec Ideal S1x1024x512 .f32) (a : Vec Ideal S1024x1024 .f32) (wd : Vec Ideal S1x512x1024 .f32) (j d : Fin 1024) :
    k0_pay2 x wg wu a wd (ix2 j d) = a (ix2 j d) + ∑ k : Fin 512, act (dot (fun i => x (ix2 j i)) fun i => wg (ix3 0 i k)) (dot (fun i => x (ix2 j i)) fun i => wu (ix3 0 i k)) * wd (ix3 0 k d) := by
  pointwise [k0_pay2]
  simp only [zero_minus]
  rfl

/-- The upper half renewed. -/
theorem pay3_apply (x : Vec Ideal S512x1024 .f32) (wg wu : Vec Ideal S1x1024x512 .f32) (a : Vec Ideal S512x1024 .f32) (wd : Vec Ideal S1x512x1024 .f32) (j : Fin 512) (d : Fin 1024) :
    k0_pay3 x wg wu a wd (ix2 j d) = a (ix2 j d) + ∑ k : Fin 512, act (dot (fun i => x (ix2 j i)) fun i => wg (ix3 0 i k)) (dot (fun i => x (ix2 j i)) fun i => wu (ix3 0 i k)) * wd (ix3 0 k d) := by
  pointwise [k0_pay3]
  simp only [zero_minus]
  rfl

end Cert.ExpertsIdeal.Gen

end
-- ==== Proof.Experts.Routed.lean ====
/- The precondition read back, and what the tables then say: each tile's expert, and each window's block. -/
module

public import proofs.«01_k».proof.Proof.Experts.Kit
public import proofs.«01_k».proof.Proof.Gen.Pre_routed
public import Idealize.ShloMosaic.Lib.ReduceAll
public import Idealize.ShloMosaic.Lib.Pointwise

@[expose] public section

set_option maxRecDepth 65536

noncomputable section

namespace Cert.ExpertsIdeal.Gen

open Cert.ExpertsIdeal Cert.ExpertsIdeal.Gen Facts₀ Facts
open Idealize.ShloMosaic Idealize.ShloMosaic.TcCoe Idealize.SL.Sem

variable {F : FTy → Type} [FloatOps F]
variable (m : (ℓ : Loc nD τ sig) → Buf (Elt F) ℓ)

/-- A tile's expert and its number of real rows, from the two tables. -/
def teOf (i : Fin 72) : BitVec 32 := m (((0 : Dev nD) : Thread nD τ).loc main_arg1) (ix1 i)
def rowsOf (i : Fin 72) : BitVec 32 := m (((0 : Dev nD) : Thread nD τ).loc main_arg2) (ix1 i)

/-- The place in a table a point reads. -/
theorem place (i : grid0.Coords) : (Rect.unit (s := S72) (k0_off1 i) S1.size (k0_off1_inb i)).emb (Shape.Idx.first (numel1_S1.symm ▸ Nat.one_pos)) = ix1 (i 0) := by
  funext a
  obtain rfl : a = 0 := Subsingleton.elim _ _
  refine Fin.ext ?_
  have h : (i 0).val < 72 := (i 0).isLt
  show (BitVec.ofNat 32 (i 0).val).toNat + _ = (i 0).val
  rw [BitVec.toNat_ofNat]
  show (i 0).val % 2 ^ 32 + 1 * 0 = _
  omega
theorem expert_read (i : grid0.Coords) : (tbl m).at 0 (Rect.unit (s := S72) (k0_off1 i) S1.size (k0_off1_inb i)) numel1_S1 = teOf m (i 0) :=
  congrArg (m (((0 : Dev nD) : Thread nD τ).loc main_arg1)) (place i)
theorem rows_read (i : grid0.Coords) : rowsAt m i = rowsOf m (i 0) :=
  congrArg (m (((0 : Dev nD) : Thread nD τ).loc main_arg2)) (place i)

/-- What the precondition says of the tables. -/
def Routed : Prop := ∀ i : Fin 72, 0 ≤ (teOf m i).toInt ∧ (0 < (rowsOf m i).toInt → (teOf m i).toInt < 8)

instance : Subsingleton Cert.Pre_routed.S_.Idx := ⟨fun i j => funext fun a => a.elim0⟩

/-- A bit that is one or another. -/
theorem or_iff : ∀ a b : BitVec 1, IntOp.ori a b = 1#1 ↔ a = 1#1 ∨ b = 1#1 := by decide

/-- The precondition says it. -/
theorem routed_of_pre (x0 : FVec F Cert.Pre_routed.S73728x1024 .f32) (x3 x4 : FVec F Cert.Pre_routed.S8x1024x3584 .f32) (x5 : FVec F Cert.Pre_routed.S8x3584x1024 .f32)
    (h : Cert.Pre_routed.fn (F := F) x0 (m (((0 : Dev nD) : Thread nD τ).loc main_arg1)) (m (((0 : Dev nD) : Thread nD τ).loc main_arg2)) x3 x4 x5 = fun _ => 1#1) : Routed m := by
  intro i
  have h0 := Host.reduce_andi_all _ _ _ _ _ (congrFun h fun a => a.elim0) (ix1 i)
  obtain ⟨h1, h2⟩ := IntOp.andi_eq_one.1 h0
  have h1' : (0#32 : BitVec 32).toInt ≤ (teOf m i).toInt := (sle_iff 0#32 (teOf m i)).mp h1
  refine ⟨by rw [toInt_0] at h1'; exact h1', fun hr => ?_⟩
  rcases (or_iff _ _).1 h2 with h3 | h3
  · have h3' : (rowsOf m i).toInt ≤ (0#32 : BitVec 32).toInt := (sle_iff (rowsOf m i) 0#32).mp h3
    rw [toInt_0] at h3'; omega
  · exact (slt_iff (teOf m i) 8#32).mp h3

/-- The first block index of the weights: the tile's expert, at most the last. -/
theorem expert_word (v : BitVec 32) (h : 0 ≤ v.toInt) : (Scalar.minsi v 7#32).toNat = min v.toNat 7 := by
  have e : (7#32 : BitVec 32).toInt = 7 := by decide
  have hv : v.toInt = v.toNat := BitVec.toInt_eq_toNat_of_lt (by rw [BitVec.toInt_eq_toNat_cond] at h; have := v.isLt; split at h <;> omega)
  unfold Scalar.minsi IntOp.minsi
  rw [BitVec.slt, e]
  by_cases hc : v.toInt < 7
  · rw [if_pos (by simpa using hc)]; omega
  · rw [if_neg (by simpa using hc)]; show 7 = _; omega
/-- The other: the chunk, or the last chunk when the tile has no expert. -/
theorem chunk_word (v : BitVec 32) (n : ℕ) (hn : n < 7) :
    (Scalar.select (Scalar.cmpi .slt v 8#32) (BitVec.ofNat 32 n) (6#32 : BitVec 32)).toNat = if v.toInt < 8 then n else 6 := by
  have e : (8#32 : BitVec 32).toInt = 8 := by decide
  show (if Scalar.cmpi .slt v 8#32 = 1#1 then BitVec.ofNat 32 n else 6#32).toNat = _
  by_cases hc : v.toInt < 8
  · rw [if_pos ((slt_iff v 8#32).mpr (by rw [e]; exact hc)), if_pos hc, BitVec.toNat_ofNat]; omega
  · rw [if_neg (fun h' => hc (by have := (slt_iff v 8#32).mp h'; rw [e] at this; exact this)), if_neg hc]; rfl

/-- Each weight window's block. -/
theorem index_1 (h : Routed m) (i : grid0.Coords) : cc0_transform_1 k0_off1_inb numel1_S1 (tbl m) i
    = ![min (teOf m (i 0)).toNat 7, 0, if (teOf m (i 0)).toInt < 8 then (i 1).val else 6] := by
  rw [← expert_word _ (h (i 0)).1, ← chunk_word _ _ (i 1).isLt, ← expert_read]
  rfl
theorem index_2 (h : Routed m) (i : grid0.Coords) : cc0_transform_2 k0_off1_inb numel1_S1 (tbl m) i
    = ![min (teOf m (i 0)).toNat 7, 0, if (teOf m (i 0)).toInt < 8 then (i 1).val else 6] := index_1 m h i
theorem index_3 (h : Routed m) (i : grid0.Coords) : cc0_transform_3 k0_off1_inb numel1_S1 (tbl m) i
    = ![min (teOf m (i 0)).toNat 7, if (teOf m (i 0)).toInt < 8 then (i 1).val else 6, 0] := by
  rw [← expert_word _ (h (i 0)).1, ← chunk_word _ _ (i 1).isLt, ← expert_read]
  rfl

/-- Every block lies inside its array. -/
theorem ok_of_routed (h : Routed m) : Ok m := by
  refine ⟨fun i => ⟨fun a => ?_, .inl rfl⟩, fun i => ⟨fun a => ?_, .inl rfl⟩, fun i => ⟨fun a => ?_, .inl rfl⟩⟩
  all_goals
    have hi : (i 1).val < 7 := (i 1).isLt
    have hc : (if (teOf m (i 0)).toInt < 8 then (i 1).val else 6) ≤ 6 := by split <;> omega
    have he : min (teOf m (i 0)).toNat 7 ≤ 7 := Nat.min_le_right _ _
    generalize hg : (if (teOf m (i 0)).toInt < 8 then (i 1).val else 6) = g at hc
    generalize hq : min (teOf m (i 0)).toNat 7 = q at he
  · rw [index_1 m h, hg, hq]
    match a with
    | ⟨0, _⟩ => show (q + 1) * 1 ≤ 8; omega
    | ⟨1, _⟩ => show (0 + 1) * 1024 ≤ 1024; omega
    | ⟨2, _⟩ => show (g + 1) * 512 ≤ 3584; omega
  · rw [index_2 m h, hg, hq]
    match a with
    | ⟨0, _⟩ => show (q + 1) * 1 ≤ 8; omega
    | ⟨1, _⟩ => show (0 + 1) * 1024 ≤ 1024; omega
    | ⟨2, _⟩ => show (g + 1) * 512 ≤ 3584; omega
  · rw [index_3 m h, hg, hq]
    match a with
    | ⟨0, _⟩ => show (q + 1) * 1 ≤ 8; omega
    | ⟨1, _⟩ => show (g + 1) * 512 ≤ 3584; omega
    | ⟨2, _⟩ => show (0 + 1) * 1024 ≤ 1024; omega

end Cert.ExpertsIdeal.Gen

end
-- ==== Proof.Experts.Blocks.lean ====
/- The windows' blocks at an index: which entries of the arrays a point is given. -/
module

public import proofs.«01_k».proof.Proof.Experts.Routed
public import proofs.«01_k».proof.Proof.Experts.Spec

@[expose] public section

set_option maxRecDepth 65536

noncomputable section

namespace Cert.ExpertsIdeal.Gen

open Cert.ExpertsIdeal Cert.ExpertsIdeal.Gen Cert.Experts.Spec Facts₀ Facts
open Idealize.ShloMosaic Idealize.ShloMosaic.TcCoe Idealize.SL.Sem

variable {F : FTy → Type} [FloatOps F]
variable (m : (ℓ : Loc nD τ sig) → Buf (Elt F) ℓ)

/-- Row j of tile T. -/
def rowIn (T : Fin 72) (j : Fin 1024) : Fin 73728 := ⟨1024 * T.val + j.val, by have := T.isLt; have := j.isLt; omega⟩

/-- A tile's expert. -/
def expertIn (T : Fin 72) : Fin 8 := ⟨(teOf m T).toNat % 8, Nat.mod_lt _ (by decide)⟩

/-- A row is some tile's. -/
theorem rowIn_surj (r : Fin 73728) : rowIn ⟨r.val / 1024, by omega⟩ ⟨r.val % 1024, by omega⟩ = r :=
  Fin.ext (by show 1024 * (r.val / 1024) + r.val % 1024 = r.val; omega)

/-- The tile of its row. -/
theorem tile_rowIn (T : Fin 72) (j : Fin 1024) (h : (rowIn T j).val / 1024 < 72) : (⟨(rowIn T j).val / 1024, h⟩ : Fin 72) = T :=
  Fin.ext (by show (1024 * T.val + j.val) / 1024 = T.val; have := j.isLt; omega)

/-- In a tile that holds rows the expert is one of the eight. -/
theorem expert_lt (h : Routed m) (T : Fin 72) (hr : 0 < (rowsOf m T).toInt) : (teOf m T).toNat < 8 ∧ (teOf m T).toInt < 8 := by
  obtain ⟨h0, h1⟩ := h T
  have h2 := h1 hr
  refine ⟨?_, h2⟩
  rw [BitVec.toInt_eq_toNat_cond] at h0 h2
  have := (teOf m T).isLt
  split at h0 <;> omega

/-- The rows' window is at the tile; -/
theorem index_0 (i : grid0.Coords) : cc0_transform_0 i = ![(i 0).val, 0] := by
  have h : (i 0).val < 72 := (i 0).isLt
  have e : (BitVec.ofNat 32 (i 0).val).toNat = (i 0).val := by rw [BitVec.toNat_ofNat]; omega
  show ![(BitVec.ofNat 32 (i 0).val).toNat, 0] = _
  rw [e]
/-- so is the output's; -/
theorem index_4 (i : grid0.Coords) : cc0_transform_4 i = ![(i 0).val, 0] := index_0 i
/-- and in a tile that holds rows the weights' are at the tile's expert and the chunk. -/
theorem index_1_real (h : Routed m) (i : grid0.Coords) (hr : 0 < (rowsOf m (i 0)).toInt) :
    cc0_transform_1 k0_off1_inb numel1_S1 (tbl m) i = ![(expertIn m (i 0)).val, 0, (i 1).val] := by
  obtain ⟨h1, h2⟩ := expert_lt m h (i 0) hr
  rw [index_1 m h, if_pos h2, show min (teOf m (i 0)).toNat 7 = (expertIn m (i 0)).val from by show _ = (teOf m (i 0)).toNat % 8; omega]
theorem index_3_real (h : Routed m) (i : grid0.Coords) (hr : 0 < (rowsOf m (i 0)).toInt) :
    cc0_transform_3 k0_off1_inb numel1_S1 (tbl m) i = ![(expertIn m (i 0)).val, (i 1).val, 0] := by
  obtain ⟨h1, h2⟩ := expert_lt m h (i 0) hr
  rw [index_3 m h, if_pos h2, show min (teOf m (i 0)).toNat 7 = (expertIn m (i 0)).val from by show _ = (teOf m (i 0)).toNat % 8; omega]

variable (hO : Ok m) (t : Fin (cfgM m hO).N)

/-- The axes of a weight block in numbers: expert, feature and unit of the chunk, -/
theorem place_up (e : Fin 8) (g : Fin 7) (j : Fin 1024) (k : Fin 512) (a : Fin 3) :
    (![e.val, 0, g.val] : Fin 3 → ℕ) a * (![1, 1024, 512] : Fin 3 → ℕ) a + ((ix3 0 j k : S1x1024x512.Idx) a).val
      = ((ix3 e j (unit g k) : S8x1024x3584.Idx) a).val := by
  match a with
  | ⟨0, _⟩ => show e.val * 1 + 0 = e.val; omega
  | ⟨1, _⟩ => show 0 * 1024 + j.val = j.val; omega
  | ⟨2, _⟩ => show g.val * 512 + k.val = 512 * g.val + k.val; omega
/-- or expert, unit and feature. -/
theorem place_down (e : Fin 8) (g : Fin 7) (k : Fin 512) (d : Fin 1024) (a : Fin 3) :
    (![e.val, g.val, 0] : Fin 3 → ℕ) a * (![1, 512, 1024] : Fin 3 → ℕ) a + ((ix3 0 k d : S1x512x1024.Idx) a).val
      = ((ix3 e (unit g k) d : S8x3584x1024.Idx) a).val := by
  match a with
  | ⟨0, _⟩ => show e.val * 1 + 0 = e.val; omega
  | ⟨1, _⟩ => show g.val * 512 + k.val = 512 * g.val + k.val; omega
  | ⟨2, _⟩ => show 0 * 1024 + d.val = d.val; omega

/-- Where an index of a block sits in its array. -/
theorem emb_0 (j k : Fin 1024) : (((cfgM m hO).win 0).blk t).view.emb (ix2 j k : S1024x1024.Idx) = ix2 (rowIn (grid0.coords t 0) j) k := by
  refine funext fun a => Fin.ext ?_
  have h := ((cfgM m hO).win 0).rect_emb_val t (ix2 j k : S1024x1024.Idx) a
  rw [show ((cfgM m hO).win 0).index t = ![(grid0.coords t 0).val, 0] from index_0 (grid0.coords t)] at h
  refine Eq.trans h ?_
  match a with
  | ⟨0, _⟩ => show (grid0.coords t 0).val * 1024 + j.val = 1024 * (grid0.coords t 0).val + j.val; omega
  | ⟨1, _⟩ => show 0 * 1024 + k.val = k.val; omega
theorem emb_4 (j k : Fin 1024) : (((cfgM m hO).win 4).blk t).view.emb (ix2 j k : S1024x1024.Idx) = ix2 (rowIn (grid0.coords t 0) j) k := by
  refine funext fun a => Fin.ext ?_
  have h := ((cfgM m hO).win 4).rect_emb_val t (ix2 j k : S1024x1024.Idx) a
  rw [show ((cfgM m hO).win 4).index t = ![(grid0.coords t 0).val, 0] from index_4 (grid0.coords t)] at h
  refine Eq.trans h ?_
  match a with
  | ⟨0, _⟩ => show (grid0.coords t 0).val * 1024 + j.val = 1024 * (grid0.coords t 0).val + j.val; omega
  | ⟨1, _⟩ => show 0 * 1024 + k.val = k.val; omega
theorem emb_1 (hR : Routed m) (hr : 0 < (rowsOf m (grid0.coords t 0)).toInt) (j : Fin 1024) (k : Fin 512) :
    (((cfgM m hO).win 1).blk t).view.emb (ix3 0 j k : S1x1024x512.Idx) = ix3 (expertIn m (grid0.coords t 0)) j (unit (grid0.coords t 1) k) := by
  refine funext fun a => Fin.ext ?_
  have h := ((cfgM m hO).win 1).rect_emb_val t (ix3 0 j k : S1x1024x512.Idx) a
  rw [show ((cfgM m hO).win 1).index t = ![(expertIn m (grid0.coords t 0)).val, 0, (grid0.coords t 1).val] from index_1_real m hR (grid0.coords t) hr] at h
  exact Eq.trans h (place_up (expertIn m (grid0.coords t 0)) (grid0.coords t 1) j k a)
theorem emb_2 (hR : Routed m) (hr : 0 < (rowsOf m (grid0.coords t 0)).toInt) (j : Fin 1024) (k : Fin 512) :
    (((cfgM m hO).win 2).blk t).view.emb (ix3 0 j k : S1x1024x512.Idx) = ix3 (expertIn m (grid0.coords t 0)) j (unit (grid0.coords t 1) k) :=
  emb_1 m hO t hR hr j k
theorem emb_3 (hR : Routed m) (hr : 0 < (rowsOf m (grid0.coords t 0)).toInt) (k : Fin 512) (d : Fin 1024) :
    (((cfgM m hO).win 3).blk t).view.emb (ix3 0 k d : S1x512x1024.Idx) = ix3 (expertIn m (grid0.coords t 0)) (unit (grid0.coords t 1) k) d := by
  refine funext fun a => Fin.ext ?_
  have h := ((cfgM m hO).win 3).rect_emb_val t (ix3 0 k d : S1x512x1024.Idx) a
  rw [show ((cfgM m hO).win 3).index t = ![(expertIn m (grid0.coords t 0)).val, (grid0.coords t 1).val, 0] from index_3_real m hR (grid0.coords t) hr] at h
  exact Eq.trans h (place_down (expertIn m (grid0.coords t 0)) (grid0.coords t 1) k d a)

variable (c : Dev nD)

/-- The blocks' entries: rows of the tile, -/
theorem iblk_0 (j k : Fin 1024) : (iblk m hO c 0 t : Vec F S1024x1024 .f32) (ix2 j k) = m ((c : Thread nD τ).loc main_arg0) (ix2 (rowIn (grid0.coords t 0) j) k) :=
  congrArg (m ((c : Thread nD τ).loc main_arg0)) (emb_0 m hO t j k)
/-- and the expert's chunk of each weight. -/
theorem iblk_1 (hR : Routed m) (hr : 0 < (rowsOf m (grid0.coords t 0)).toInt) (j : Fin 1024) (k : Fin 512) :
    (iblk m hO c 1 t : Vec F S1x1024x512 .f32) (ix3 0 j k) = m ((c : Thread nD τ).loc main_arg3) (ix3 (expertIn m (grid0.coords t 0)) j (unit (grid0.coords t 1) k)) :=
  congrArg (m ((c : Thread nD τ).loc main_arg3)) (emb_1 m hO t hR hr j k)
theorem iblk_2 (hR : Routed m) (hr : 0 < (rowsOf m (grid0.coords t 0)).toInt) (j : Fin 1024) (k : Fin 512) :
    (iblk m hO c 2 t : Vec F S1x1024x512 .f32) (ix3 0 j k) = m ((c : Thread nD τ).loc main_arg4) (ix3 (expertIn m (grid0.coords t 0)) j (unit (grid0.coords t 1) k)) :=
  congrArg (m ((c : Thread nD τ).loc main_arg4)) (emb_2 m hO t hR hr j k)
theorem iblk_3 (hR : Routed m) (hr : 0 < (rowsOf m (grid0.coords t 0)).toInt) (k : Fin 512) (d : Fin 1024) :
    (iblk m hO c 3 t : Vec F S1x512x1024 .f32) (ix3 0 k d) = m ((c : Thread nD τ).loc main_arg5) (ix3 (expertIn m (grid0.coords t 0)) (unit (grid0.coords t 1) k) d) :=
  congrArg (m ((c : Thread nD τ).loc main_arg5)) (emb_3 m hO t hR hr k d)

end Cert.ExpertsIdeal.Gen

end
-- ==== Proof.Experts.Accumulate.lean ====
/- The accumulator over a tile's chunks: after the last one each real row holds its expert's result, over extended reals. -/
module

public import proofs.«01_k».proof.Proof.Experts.Frame
public import proofs.«01_k».proof.Proof.Experts.Chunk
public import proofs.«01_k».proof.Proof.Experts.Blocks

@[expose] public section

set_option maxRecDepth 65536

noncomputable section

namespace Cert.ExpertsIdeal.Gen

open Cert.ExpertsIdeal Cert.ExpertsIdeal.Gen Cert.Experts.Spec Facts₀ Facts
open Idealize.ShloMosaic Idealize.ShloMosaic.TcCoe Idealize.SL.Sem

/-- What one chunk adds at a row and a lane. -/
def added (x : Vec Ideal S1024x1024 .f32) (wg wu : Vec Ideal S1x1024x512 .f32) (wd : Vec Ideal S1x512x1024 .f32) (j d : Fin 1024) : EReal :=
  ∑ k : Fin 512, act (dot (fun i => x (ix2 j i)) fun i => wg (ix3 0 i k)) (dot (fun i => x (ix2 j i)) fun i => wu (ix3 0 i k)) * wd (ix3 0 k d)

/-- The first branch at an index. -/
theorem cleared_apply (i : grid0.Coords) (v : BitVec 32) (hr : 0 < v.toInt) (a : Vec Ideal S1024x1024 .f32) (j d : Fin 1024) :
    cleared i v a (ix2 j d) = (if (i 1).val = 0 then (0 : EReal) else a (ix2 j d)) := by
  unfold cleared
  by_cases h : (i 1).val = 0
  · rw [if_pos ⟨hr, h⟩, if_pos h, pay1_apply]
  · rw [if_neg (fun h' => h h'.2), if_neg h]

/-- A row of the upper half is that row. -/
theorem upper_apply (x : Vec Ideal S1024x1024 .f32) (j i : Fin 1024) (h : j.val < 512) : upper x (ix2 ⟨j.val, h⟩ i) = x (ix2 j i) := by
  refine congrArg x (funext fun a => Fin.ext ?_)
  match a with
  | ⟨0, _⟩ => show 0 + 1 * j.val = j.val; omega
  | ⟨1, _⟩ => show 0 + 1 * i.val = i.val; omega
theorem inHalf_eq (j d : Fin 1024) (h : j.val < 512) : inHalf (ix2 j d) h = ix2 ⟨j.val, h⟩ d :=
  funext fun a => match a with | ⟨0, _⟩ => rfl | ⟨1, _⟩ => rfl

/-- One point at a real row: the chunk added to nothing at the first chunk, and to what was there later. -/
theorem accNext_apply (i : grid0.Coords) (v : BitVec 32) (x : Vec Ideal S1024x1024 .f32) (wg wu : Vec Ideal S1x1024x512 .f32)
    (wd : Vec Ideal S1x512x1024 .f32) (a : Vec Ideal S1024x1024 .f32) (j d : Fin 1024) (hj : (j.val : ℤ) < v.toInt) :
    accNext i v x wg wu wd a (ix2 j d) = (if (i 1).val = 0 then (0 : EReal) else a (ix2 j d)) + added x wg wu wd j d := by
  have hr : 0 < v.toInt := by omega
  unfold accNext addedHalf addedWhole added
  by_cases h : 512 < v.toInt
  · rw [if_neg (fun h' => by omega), if_pos h, pay2_apply, cleared_apply i v hr]
  · have hj' : j.val < 512 := by omega
    rw [if_pos ⟨hr, by omega⟩, if_neg h]
    show (dite _ _ _ : EReal) = _
    rw [dif_pos (show ((ix2 j d : S1024x1024.Idx) 0).val < 512 from hj'), inHalf_eq j d hj', pay3_apply, upper_apply _ j d hj', cleared_apply i v hr]
    simp only [upper_apply x j _ hj']

variable (m : (ℓ : Loc nD τ sig) → Buf (Elt Ideal) ℓ) (hO : Ok m) (c : Dev nD)

/-- A chunk's part of the result of row j of tile T. -/
def chunkOf (T : Fin 72) (j d : Fin 1024) (g : Fin 7) : EReal :=
  part (fun k => m ((c : Thread nD τ).loc main_arg0) (ix2 (rowIn T j) k)) (fun k f => m ((c : Thread nD τ).loc main_arg3) (ix3 (expertIn m T) k f))
    (fun k f => m ((c : Thread nD τ).loc main_arg4) (ix3 (expertIn m T) k f)) (fun f => m ((c : Thread nD τ).loc main_arg5) (ix3 (expertIn m T) f d)) g
/-- The same by the chunk's number. -/
def chunkAt (T : Fin 72) (j d : Fin 1024) (g : ℕ) : EReal := if h : g < 7 then chunkOf m c T j d ⟨g, h⟩ else 0

/-- One point at a real row, in the arrays' entries. -/
theorem stepAt_apply (hR : Routed m) (t : Fin (cfgM m hO).N) (a : Vec Ideal S1024x1024 .f32) (j d : Fin 1024)
    (hj : (j.val : ℤ) < (rowsOf m (grid0.coords t 0)).toInt) :
    stepAt m hO c t a (ix2 j d)
      = (if (grid0.coords t 1).val = 0 then (0 : EReal) else a (ix2 j d)) + chunkOf m c (grid0.coords t 0) j d (grid0.coords t 1) := by
  have hr : 0 < (rowsOf m (grid0.coords t 0)).toInt := by omega
  refine (accNext_apply _ _ _ _ _ _ a j d (by rw [rows_read]; exact hj)).trans ?_
  refine congrArg₂ (· + ·) rfl ?_
  unfold added chunkOf part
  refine Finset.sum_congr rfl fun k _ => ?_
  have e0 := funext fun i => iblk_0 m hO t c j i
  have e1 := funext fun i => iblk_1 m hO t c hR hr i k
  have e2 := funext fun i => iblk_2 m hO t c hR hr i k
  exact congrArg₂ (· * ·) (congrArg₂ act (congrArg₂ dot e0 e1) (congrArg₂ dot e0 e2)) (iblk_3 m hO t c hR hr k d)

/-- One point in the chunks' numbers. -/
theorem stepAt_chunk (hR : Routed m) (t : Fin (cfgM m hO).N) (a : Vec Ideal S1024x1024 .f32) (T : Fin 72) (hT : T.val = t.val / 7) (j d : Fin 1024)
    (hj : (j.val : ℤ) < (rowsOf m T).toInt) :
    stepAt m hO c t a (ix2 j d) = (if t.val % 7 = 0 then (0 : EReal) else a (ix2 j d)) + chunkAt m c T j d (t.val % 7) := by
  obtain rfl : grid0.coords t 0 = T := Fin.ext ((coords_tile t).trans hT.symm)
  rw [stepAt_apply m hO c hR t a j d hj, coords_chunk]
  unfold chunkAt
  rw [dif_pos (Nat.mod_lt _ (by omega))]
  exact congrArg (fun g => _ + chunkOf m c _ j d g) (Fin.ext (coords_chunk t))

/-- After a point the accumulator holds the parts of the chunks so far. -/
theorem accAt_apply (hR : Routed m) (T : Fin 72) (j d : Fin 1024) (hj : (j.val : ℤ) < (rowsOf m T).toInt) :
    ∀ (n : ℕ) (hn : n < (cfgM m hO).N), T.val = n / 7 →
      accAt m hO c n hn (ix2 j d) = ∑ g ∈ Finset.range (n % 7 + 1), chunkAt m c T j d g
  | 0, hn, hT => by
    unfold accAt
    rw [stepAt_chunk m hO c hR ⟨0, hn⟩ _ T hT j d hj]
    show (0 : EReal) + chunkAt m c T j d 0 = ∑ g ∈ Finset.range 1, _
    rw [zero_add, Finset.sum_range_one]
  | n + 1, hn, hT => by
    unfold accAt
    rw [stepAt_chunk m hO c hR ⟨n + 1, hn⟩ _ T hT j d hj, Finset.sum_range_succ]
    refine congrArg₂ (· + ·) ?_ rfl
    show (if (n + 1) % 7 = 0 then (0 : EReal) else _) = _
    by_cases h : (n + 1) % 7 = 0
    · rw [if_pos h, h, Finset.sum_range_zero]
    · rw [if_neg h, if_neg h, accAt_apply hR T j d hj n (Nat.lt_of_succ_lt hn) (by omega), show (n + 1) % 7 = n % 7 + 1 by omega]

/-- After the last chunk, all of them: the row's result. -/
theorem accAt_last (hR : Routed m) (T : Fin 72) (j d : Fin 1024) (hj : (j.val : ℤ) < (rowsOf m T).toInt) (n : ℕ) (hn : n < (cfgM m hO).N)
    (hT : T.val = n / 7) (h6 : n % 7 = 6) :
    accAt m hO c n hn (ix2 j d) = ffn (fun k => m ((c : Thread nD τ).loc main_arg0) (ix2 (rowIn T j) k)) (fun k f => m ((c : Thread nD τ).loc main_arg3) (ix3 (expertIn m T) k f))
      (fun k f => m ((c : Thread nD τ).loc main_arg4) (ix3 (expertIn m T) k f)) (fun f => m ((c : Thread nD τ).loc main_arg5) (ix3 (expertIn m T) f d)) := by
  rw [accAt_apply m hO c hR T j d hj n hn hT, h6, ← sum_part, Finset.sum_range]
  exact Finset.sum_congr rfl fun g _ => dif_pos g.isLt

end Cert.ExpertsIdeal.Gen

end
-- ==== Proof.Experts.Result.lean ====
/- The expert call's result array: at every real row it holds what the row's expert makes of the row. -/
module

public import proofs.«01_k».proof.Proof.Experts.Accumulate

@[expose] public section

set_option maxRecDepth 65536

noncomputable section

namespace Cert.ExpertsIdeal.Gen

open Cert.ExpertsIdeal Cert.ExpertsIdeal.Gen Cert.Experts.Spec Facts₀ Facts
open Idealize.ShloMosaic Idealize.ShloMosaic.TcCoe Idealize.SL.Sem

variable (m : (ℓ : Loc nD τ sig) → Buf (Elt Ideal) ℓ) (hO : Ok m) (c : Dev nD)

/-- The result at row r and lane d, from the arguments. -/
def resultAt (r : Fin 73728) (d : Fin 1024) : EReal :=
  routed (m ((c : Thread nD τ).loc main_arg0)) (m (((0 : Dev nD) : Thread nD τ).loc main_arg1)) (m ((c : Thread nD τ).loc main_arg3))
    (m ((c : Thread nD τ).loc main_arg4)) (m ((c : Thread nD τ).loc main_arg5)) r d

/-- A row's expert is its tile's. -/
theorem expertOf_rowIn (T : Fin 72) (j : Fin 1024) :
    expertOf (fun i => m (((0 : Dev nD) : Thread nD τ).loc main_arg1) (ix1 i)) (rowIn T j) = expertIn m T := by
  unfold expertOf expertIn teOf
  simp only [tile_rowIn]

/-- So a row's result is made by the tile's expert. -/
theorem resultAt_rowIn (T : Fin 72) (j d : Fin 1024) : resultAt m c (rowIn T j) d
    = ffn (fun k => m ((c : Thread nD τ).loc main_arg0) (ix2 (rowIn T j) k)) (fun k f => m ((c : Thread nD τ).loc main_arg3) (ix3 (expertIn m T) k f))
        (fun k f => m ((c : Thread nD τ).loc main_arg4) (ix3 (expertIn m T) k f)) (fun f => m ((c : Thread nD τ).loc main_arg5) (ix3 (expertIn m T) f d)) := by
  unfold resultAt routed
  simp only [expertOf_rowIn m T j]

/-- Two rows are the same only in the same tile, at the same place. -/
theorem rowIn_inj {T T' : Fin 72} {j j' : Fin 1024} (h : rowIn T j = rowIn T' j') : T = T' ∧ j = j' := by
  have e : 1024 * T.val + j.val = 1024 * T'.val + j'.val := congrArg Fin.val h
  have := j.isLt; have := j'.isLt
  exact ⟨Fin.ext (by omega), Fin.ext (by omega)⟩

/-- What is copied out of the accumulator after a tile's last chunk. -/
theorem outAt_apply (hR : Routed m) (t : Fin (cfgM m hO).N) (h6 : t.val % 7 = 6) (j d : Fin 1024)
    (hj : (j.val : ℤ) < (rowsOf m (grid0.coords t 0)).toInt) :
    outAt m hO c t (ix2 j d) = resultAt m c (rowIn (grid0.coords t 0) j) d := by
  unfold outAt
  rw [if_pos (show 0 < (rowsAt m (grid0.coords t)).toInt by rw [rows_read]; omega)]
  exact (accAt_last m hO c hR (grid0.coords t 0) j d hj t.val t.isLt (coords_tile t) h6).trans (resultAt_rowIn m c _ j d).symm

/-- After a tile's last chunk its block is written back. -/
theorem flushes : ∀ t : Fin (cfgM m hO).N, t.val % 7 = 6 → ((cfgM m hO).win 4).flush t = true :=
  (by decide +kernel : ∀ t : Fin grid0.N, t.val % 7 = 6 → Pipeline.Window.flushOf grid0 true cc0_transform_4 t = true)

/-- A place of an array of rows and lanes, by its row and lane. -/
theorem by_coords {M N : ℕ} (y : (⟨2, ![M, N]⟩ : Shape).Idx) : ∃ (j : Fin M) (d : Fin N), y = ix2 j d :=
  ⟨y 0, y 1, funext fun a => match a with | ⟨0, _⟩ => rfl | ⟨1, _⟩ => rfl⟩

/-- Every place of the result array is in some tile's block. -/
theorem covered (T : Fin 72) (j d : Fin 1024) :
    ∃ t : Fin (cfgM m hO).N, ((cfgM m hO).win 4).flush t = true ∧ (ix2 (rowIn T j) d : S73728x1024.Idx) ∈ (((cfgM m hO).win 4).blk t).view.set := by
  have hT := T.isLt
  have hN : (cfgM m hO).N = 504 := N_0
  let t : Fin (cfgM m hO).N := ⟨7 * T.val + 6, by omega⟩
  have h6 : t.val % 7 = 6 := by show (7 * T.val + 6) % 7 = 6; omega
  have e : grid0.coords t 0 = T := Fin.ext ((coords_tile t).trans (by show (7 * T.val + 6) / 7 = T.val; omega))
  have h := emb_4 m hO t j d
  refine ⟨t, flushes m hO t h6, ?_⟩
  rw [← e]
  exact h ▸ View.emb_mem_set _ _

/-- The result array at a real row. -/
theorem result_real (hR : Routed m) (T : Fin 72) (j d : Fin 1024) (hj : (j.val : ℤ) < (rowsOf m T).toInt) :
    (dats m hO 0 c).arrAt 4 (cfgM m hO).N (ix2 (rowIn T j) d : S73728x1024.Idx) = resultAt m c (rowIn T j) d := by
  refine (dats m hO 0 c).arrAt_forall_of_cover 4
    (fun i v => ∀ (T : Fin 72) (j d : Fin 1024), (j.val : ℤ) < (rowsOf m T).toInt → i = (ix2 (rowIn T j) d : S73728x1024.Idx) → v = resultAt m c (rowIn T j) d)
    (fun t hf y T j d hj e => ?_) (fun i => ?_) _ T j d hj rfl
  swap
  · obtain ⟨r, d, rfl⟩ := by_coords (M := 73728) (N := 1024) i
    exact rowIn_surj r ▸ covered m hO _ _ d
  have h6 : t.val % 7 = 6 := by
    by_contra h; rw [noFlush m hO t h] at hf; exact absurd hf (by decide)
  obtain ⟨j', d', rfl⟩ : ∃ j' d', y = (ix2 j' d' : S1024x1024.Idx) := by_coords (M := 1024) (N := 1024) y
  have e' := (emb_4 m hO t j' d').symm.trans e
  obtain ⟨hT, rfl⟩ := rowIn_inj (congrFun e' 0)
  obtain rfl : d' = d := congrFun e' 1
  subst hT
  exact outAt_apply m hO c hR t h6 j' d' hj

end Cert.ExpertsIdeal.Gen

end
-- ==== Proof.Experts.Mask.lean ====
/- The mask of the real rows, read back. -/
module

public import proofs.«01_k».proof.Proof.Experts.Blocks
public import proofs.«01_k».proof.Proof.Gen.On_real_rows

@[expose] public section

set_option maxRecDepth 65536

noncomputable section

namespace Cert.ExpertsIdeal.Gen

open Idealize.ShloMosaic Idealize.ShloMosaic.TcCoe Idealize.SL.Sem

/-- Where the mask is set the row is one of those its tile counts. -/
theorem real_of_mask [Cert.On_real_rows.Facts] (x0 : FVec Ideal Cert.On_real_rows.S73728x1024 .f32) (x1 x2 : IVec Cert.On_real_rows.S72 32)
    (x3 x4 : FVec Ideal Cert.On_real_rows.S8x1024x3584 .f32) (x5 : FVec Ideal Cert.On_real_rows.S8x3584x1024 .f32) (T : Fin 72) (j d : Fin 1024)
    (h : Cert.On_real_rows.fn (F := Ideal) x0 x1 x2 x3 x4 x5 (ix2 (rowIn T j) d) = 1#1) : (j.val : ℤ) < (x2 (ix1 T)).toInt := by
  have e : Cert.On_real_rows.fn (F := Ideal) x0 x1 x2 x3 x4 x5 (ix2 (rowIn T j) d) = Scalar.cmpi .slt (BitVec.ofNat 32 j.val) (x2 (ix1 T)) := by
    pointwise [Cert.On_real_rows.fn]
    have hj := j.isLt
    have e1 : (rowIn T j).val % 1024 = j.val := by show (1024 * T.val + j.val) % 1024 = j.val; omega
    exact congrArg₂ (fun a b => IntOp.cmpi .slt (BitVec.ofNat 32 a) (x2 (ix1 b))) e1 (tile_rowIn T j _)
  have h' := (slt_iff _ _).mp (e.symm.trans h)
  have hj := j.isLt
  rwa [BitVec.toInt_eq_toNat_of_lt (by rw [BitVec.toNat_ofNat]; omega), BitVec.toNat_ofNat, Nat.mod_eq_of_lt (by omega)] at h'

end Cert.ExpertsIdeal.Gen

end
-- ==== Proof.Experts.Reference.lean ====
/- The reference's result at an index: each row through its tile's expert. -/
module

public import proofs.«01_k».proof.Proof.Experts.Spec
public import proofs.«01_k».proof.Proof.Gen.ExpertsPlainIdeal.Read
public import Idealize.ShloMosaic.Lib.Pointwise

@[expose] public section

set_option maxRecDepth 65536

noncomputable section

namespace Cert.ExpertsPlainIdeal.Read

open Cert.ExpertsPlainIdeal Cert.ExpertsPlainIdeal.Gen Cert.Experts.Spec Idealize.ShloMosaic Idealize.ShloMosaic.TcCoe Idealize.SL.Sem

variable (xs : (⟨S73728x1024, .f32⟩ : BufTy).Contents (Elt Ideal)) (te : (⟨S72, .i32⟩ : BufTy).Contents (Elt Ideal))
  (wg wu : (⟨S8x1024x3584, .f32⟩ : BufTy).Contents (Elt Ideal)) (wd : (⟨S8x3584x1024, .f32⟩ : BufTy).Contents (Elt Ideal))

/-- Expert e's gated products for row r. -/
theorem hidden_apply (e : Fin 8) (r : Fin 73728) (f : Fin 3584) : val_main_v8 (F := Ideal) xs wg wu (ix3 e r f)
    = act (dot (fun k => xs (ix2 r k)) fun k => wg (ix3 e k f)) (dot (fun k => xs (ix2 r k)) fun k => wu (ix3 e k f)) := by
  pointwise [val_main_v8, val_main_v7, val_main_v6, val_main_v5, val_main_v4, val_main_v3, val_main_call1_v0, val_main_call1_v1, val_main_call1_v2, val_main_call1_v3, val_main_call1_v4, val_main_call1_v5, val_main_call1_cst, val_main_call1_cst_0]
  simp only [show ∀ k, wg (ix3 e k f) * xs (ix2 r k) = xs (ix2 r k) * wg (ix3 e k f) from fun k => mul_comm _ _,
    show ∀ k, wu (ix3 e k f) * xs (ix2 r k) = xs (ix2 r k) * wu (ix3 e k f) from fun k => mul_comm _ _]
  rfl

/-- Expert e's result for row r. -/
theorem each_apply (e : Fin 8) (r : Fin 73728) (d : Fin 1024) : val_main_v9 (F := Ideal) xs wg wu wd (ix3 e r d)
    = ffn (fun k => xs (ix2 r k)) (fun k f => wg (ix3 e k f)) (fun k f => wu (ix3 e k f)) fun f => wd (ix3 e f d) := by
  pointwise [val_main_v9]
  simp only [hidden_apply]
  rfl

/-- The gates: one at the tile's expert, zero elsewhere. -/
theorem gate_apply (e : Fin 8) (r : Fin 73728) (d : Fin 1024) : val_main_v12 (F := Ideal) te (ix3 e r d)
    = if te (ix1 ⟨r.val / 1024, by omega⟩) = BitVec.ofNat 32 e.val then (1 : EReal) else 0 := by
  pointwise [val_main_v12, val_main_v11, val_main_v10, val_main_v2, val_main_call0_v4, val_main_call0_v3, val_main_call0_v2, val_main_call0_v1, val_main_call0_v0, val_main_v1, val_main_v0]
  by_cases h : te (ix1 ⟨r.val / 1024, by omega⟩) = BitVec.ofNat 32 e.val
  · rw [if_pos h, h]
    simp [IntOp.cmpi, FloatOps.uitofp]
  · rw [if_neg h]
    simp [IntOp.cmpi, FloatOps.uitofp, h]

/-- The result: the experts' results under the gates, added up. -/
theorem result_sum (r : Fin 73728) (d : Fin 1024) : val_main_v14 (F := Ideal) xs te wg wu wd (ix2 r d)
    = ∑ e : Fin 8, val_main_v12 (F := Ideal) te (ix3 e r d) * val_main_v9 (F := Ideal) xs wg wu wd (ix3 e r d) := by
  pointwise [val_main_v14, val_main_v13, val_main_cst]

/-- In a tile whose expert is one of the eight the result is that expert's. -/
theorem result_apply (r : Fin 73728) (d : Fin 1024) (h : (te (ix1 ⟨r.val / 1024, by omega⟩)).toNat < 8) :
    val_main_v14 (F := Ideal) xs te wg wu wd (ix2 r d) = routed xs te wg wu wd r d := by
  rw [result_sum]
  have he : (expertOf (fun i => te (ix1 i)) r).val = (te (ix1 ⟨r.val / 1024, by omega⟩)).toNat := Nat.mod_eq_of_lt h
  rw [Finset.sum_eq_single (expertOf (fun i => te (ix1 i)) r)]
  · rw [gate_apply, if_pos (by rw [he]; exact BitVec.eq_of_toNat_eq (by rw [BitVec.toNat_ofNat]; exact (Nat.mod_eq_of_lt (BitVec.isLt _)).symm)), one_mul, each_apply]
    rfl
  · intro e _ hne
    rw [gate_apply, if_neg (fun h' => hne (Fin.ext (by rw [he, h', BitVec.toNat_ofNat]; have := e.isLt; omega))), zero_mul]
  · exact fun h' => absurd (Finset.mem_univ _) h'

end Cert.ExpertsPlainIdeal.Read

end
-- ==== Proof.Experts.Claims.lean ====
/- The expert call's claims: it leaves its arguments as they were, at either reading of floats, and its real rows are the
   plain program's. -/
module

public import proofs.«01_k».proof.Defs
public import proofs.«01_k».proof.Proof.Gen.Experts
public import proofs.«01_k».proof.Proof.Gen.Experts.Launch
public import proofs.«01_k».proof.Proof.Gen.ExpertsPlainIdeal
public import proofs.«01_k».proof.Proof.Gen.ExpertsPlainIdeal.Run
public import proofs.«01_k».proof.Proof.Experts.Result
public import proofs.«01_k».proof.Proof.Experts.Mask
public import proofs.«01_k».proof.Proof.Experts.Reference
public import Idealize.ShloMosaic.Lib.Tactic
public import Idealize.ShloMosaic.Adequacy
public import Idealize.ShloMosaic.Init

@[expose] public section

set_option maxRecDepth 65536

noncomputable section

namespace Cert.Experts.Claims

open Idealize.ShloMosaic Idealize.ShloMosaic.TcCoe Idealize.ShloMosaic.Tactic Idealize.SL.Sem

/-- The two printed texts of the expert call are one program. -/
theorem same_run (m : (ℓ : Loc Cert.Experts.nD Cert.Experts.τ Cert.Experts.sig) → Buf (Elt Bits) ℓ) (g : Dev Cert.Experts.nD → PrngReg) (Q : _ → Prop) :
    θ_run (Cert.ExpertsIdeal.defs (F := Bits)) (onTc (τ := Cert.ExpertsIdeal.τ) (Cert.ExpertsIdeal.main (F := Bits))) ⟨m, fun _ => 0, g⟩ Q
      = θ_run (Cert.Experts.defs (F := Bits)) (onTc (τ := Cert.Experts.τ) (Cert.Experts.main (F := Bits))) ⟨m, fun _ => 0, g⟩ Q := by
  sl_kernel_rfl

/-- The call on machine words: it ends, with its arguments and its counters as they were. -/
theorem frameBits : Cert.quiescent_Experts (hExperts := Cert.Experts.Gen.facts) (hPre_routed := Cert.Pre_routed.Gen.facts) := by
  intro m g hpre
  have hO := Cert.ExpertsIdeal.Gen.ok_of_routed (F := Bits) m (Cert.ExpertsIdeal.Gen.routed_of_pre (F := Bits) m _ _ _ _ (hpre 0))
  exact (same_run m g _).mp (Cert.ExpertsIdeal.Gen.frame (F := Bits) m g hO)

/-- The call over extended reals, likewise. -/
theorem frameIdeal : Cert.quiescent_ExpertsIdeal (hExpertsIdeal := Cert.ExpertsIdeal.Gen.facts) (hPre_routed := Cert.Pre_routed.Gen.facts) :=
  fun m g hpre => Cert.ExpertsIdeal.Gen.frame m g
    (Cert.ExpertsIdeal.Gen.ok_of_routed m (Cert.ExpertsIdeal.Gen.routed_of_pre m _ _ _ _ (hpre 0)))

/-- The plain program runs to its end, keeps its arguments, and has no semaphore to leave counted up. -/
theorem framePlain : Cert.quiescent_ExpertsPlainIdeal (hExpertsPlainIdeal := Cert.ExpertsPlainIdeal.Gen.facts) :=
  fun m g _ => θ_run_mono (Cert.ExpertsPlainIdeal.Value.run m g) fun r h => ⟨fun c => (h c).2, sem_eq_zero_of_no_sems (by decide) r.2⟩
theorem framePlain_routed : Cert.quiescent_ExpertsPlainIdeal_pre_routed (hExpertsPlainIdeal := Cert.ExpertsPlainIdeal.Gen.facts)
    (hPre_routed := Cert.Pre_routed.Gen.facts) :=
  fun m g _ => framePlain m g trivial

/-- The call and the plain program hold the same at every real row: what the row's expert makes of it. -/
theorem equal : Cert.algebraic_ExpertsIdeal_ExpertsPlainIdeal_on_real_rows (hExpertsIdeal := Cert.ExpertsIdeal.Gen.facts)
    (hExpertsPlainIdeal := Cert.ExpertsPlainIdeal.Gen.facts) (hPre_routed := Cert.Pre_routed.Gen.facts) (hOn_real_rows := Cert.On_real_rows.Gen.facts) := by
  intro m g m' g' hpre hagree
  have hR := Cert.ExpertsIdeal.Gen.routed_of_pre m _ _ _ _ (hpre 0)
  have hO := Cert.ExpertsIdeal.Gen.ok_of_routed m hR
  refine ⟨fun c i => Cert.ExpertsIdeal.Gen.resultAt m c (i 0) (i 1), ?_, ?_⟩
  · refine θ_run_mono (Cert.ExpertsIdeal.Gen.run_main_quiescent m g hO) fun r h c => ⟨fun i hi => ?_, ?_⟩
    · obtain ⟨n, d, rfl⟩ := Cert.ExpertsIdeal.Gen.by_coords (M := 73728) (N := 1024) i
      obtain ⟨T, j, rfl⟩ : ∃ T j, n = Cert.ExpertsIdeal.Gen.rowIn T j := ⟨_, _, (Cert.ExpertsIdeal.Gen.rowIn_surj n).symm⟩
      obtain rfl : c = 0 := Subsingleton.elim (α := Fin 1) _ _
      have hj := @Cert.ExpertsIdeal.Gen.real_of_mask Cert.On_real_rows.Gen.facts _ _ _ _ _ _ T j d hi
      exact (congrFun ((h.1 0).1 4) _).trans (Cert.ExpertsIdeal.Gen.result_real m hO 0 hR T j d hj)
    · exact Cert.ExpertsIdeal.Gen.frame_of m hO (Cert.ExpertsIdeal.Gen.dats m hO) (Cert.ExpertsIdeal.Gen.A_eq m hO) h.1 c
  · refine θ_run_mono (Cert.ExpertsPlainIdeal.Value.run m' g') fun r h c => ⟨fun i hi => ?_, (h c).2⟩
    obtain ⟨n, d, rfl⟩ := Cert.ExpertsIdeal.Gen.by_coords (M := 73728) (N := 1024) i
    obtain ⟨T, j, rfl⟩ : ∃ T j, n = Cert.ExpertsIdeal.Gen.rowIn T j := ⟨_, _, (Cert.ExpertsIdeal.Gen.rowIn_surj n).symm⟩
    obtain rfl : c = 0 := Subsingleton.elim (α := Fin 1) _ _
    have hj := @Cert.ExpertsIdeal.Gen.real_of_mask Cert.On_real_rows.Gen.facts _ _ _ _ _ _ T j d hi
    obtain ⟨e0, e1, e2, e3, e4, e5⟩ := hagree 0
    have hlt := (Cert.ExpertsIdeal.Gen.expert_lt m hR T (by unfold Cert.ExpertsIdeal.Gen.rowsOf; omega)).1
    refine (congrFun ((h 0).1.trans (Cert.ExpertsPlainIdeal.Read.val_main_v14_eq _ _ _ _ _)) _).trans ?_
    rw [e0, e1, e3, e4, e5]
    exact Cert.ExpertsPlainIdeal.Read.result_apply _ _ _ _ _ _ d (by rw [Cert.ExpertsIdeal.Gen.tile_rowIn]; exact hlt)

end Cert.Experts.Claims

end
-- ==== Proof.Dense.Spec.lean ====
/- What the dense feed-forward makes of a row, over extended reals: the gated products, added to the scaled row, normalised. -/
module

public import proofs.«01_k».proof.Proof.Experts.Spec

@[expose] public section

set_option maxRecDepth 65536

noncomputable section

namespace Cert.Dense.Spec

open Idealize.ShloMosaic Cert.Experts.Spec

/-- Hidden unit `k` of chunk `g`. -/
def unit (g : Fin 2) (k : Fin 1408) : Fin 2816 := ⟨1408 * g.val + k.val, by have := g.isLt; have := k.isLt; omega⟩

/-- A chunk's part of the feed-forward's result at a lane whose column of the third array is `wd`. -/
def part (x : Fin 1024 → EReal) (wg wu : Fin 1024 → Fin 2816 → EReal) (wd : Fin 2816 → EReal) (g : Fin 2) : EReal :=
  ∑ k : Fin 1408, act (dot x fun j => wg j (unit g k)) (dot x fun j => wu j (unit g k)) * wd (unit g k)

/-- The feed-forward's result. -/
def ffn (x : Fin 1024 → EReal) (wg wu : Fin 1024 → Fin 2816 → EReal) (wd : Fin 2816 → EReal) : EReal :=
  ∑ f, act (dot x fun k => wg k f) (dot x fun k => wu k f) * wd f

/-- The two chunks' parts add up to the result. -/
theorem parts (x : Fin 1024 → EReal) (wg wu : Fin 1024 → Fin 2816 → EReal) (wd : Fin 2816 → EReal) :
    part x wg wu wd 0 + part x wg wu wd 1 = ffn x wg wu wd := by
  rw [← Fin.sum_univ_two (part x wg wu wd)]
  unfold part ffn
  rw [← Fintype.sum_prod_type' (fun (g : Fin 2) (k : Fin 1408) => act (dot x fun j => wg j (unit g k)) (dot x fun j => wu j (unit g k)) * wd (unit g k))]
  refine Fintype.sum_equiv (finProdFinEquiv (m := 2) (n := 1408)) _ _ fun p => ?_
  have e : unit p.1 p.2 = finProdFinEquiv (m := 2) (n := 1408) p := Fin.ext (by
    show 1408 * p.1.val + p.2.val = p.2.val + 1408 * p.1.val; omega)
  rw [e]

/-- The mean of 1024 lanes. -/
def mean (y : Fin 1024 → EReal) : EReal := Ideal.div (∑ k, y k) (Ideal.ofBits FTy.f32 0x44800000#32)

/-- A row normalised to mean zero and variance one, scaled by `g` and shifted by `b`. -/
def norm (y g b : Fin 1024 → EReal) (d : Fin 1024) : EReal :=
  (y d - mean y) * Ideal.rsqrt (mean (fun k => (y k - mean y) * (y k - mean y)) + Ideal.ofBits FTy.f32 0x3727C5AC#32) * g d + b d

/-- A row times the square root of two. -/
def scaled (x : EReal) : EReal := Ideal.ofBits FTy.f32 0x3FB504F3#32 * x

/-- What the layer makes of row `r`, at lane `d`. -/
def layer (x : (⟨2, ![32768, 1024]⟩ : Shape).Idx → EReal) (wg wu : (⟨2, ![1024, 2816]⟩ : Shape).Idx → EReal)
    (wd : (⟨2, ![2816, 1024]⟩ : Shape).Idx → EReal) (g b : (⟨1, ![1024]⟩ : Shape).Idx → EReal) (r : Fin 32768) (d : Fin 1024) : EReal :=
  norm (fun d => scaled (x (ix2 r d)) + ffn (fun k => x (ix2 r k)) (fun k f => wg (ix2 k f)) (fun k f => wu (ix2 k f)) fun f => wd (ix2 f d))
    (fun d => g (ix1 d)) (fun d => b (ix1 d)) d

end Cert.Dense.Spec

end
-- ==== Proof.Dense.Blocks.lean ====
/- What the body's input blocks hold, in the arguments. -/
module

public import proofs.«01_k».proof.Proof.Dense.Spec
public import proofs.«01_k».proof.Proof.Gen.DenseIdeal.Value
public import Idealize.ShloMosaic.Lib.Pipeline.ValueKit

@[expose] public section

set_option maxRecDepth 65536

noncomputable section

namespace Cert.DenseIdeal.Gen

open Cert.DenseIdeal Cert.Dense.Spec Idealize.ShloMosaic Idealize.ShloMosaic.TcCoe Idealize.SL.Sem

variable (m : (ℓ : Loc nD τ sig) → Buf (Elt Ideal) ℓ) (c : Dev nD) (t : Fin cfg0.N)

/-- A point's tile of rows and its chunk of hidden units. -/
def tileAt (t : Fin cfg0.N) : Fin 64 := ⟨t.val / 2, by have h := t.isLt; have : cfg0.N = 128 := N_0; omega⟩
def chunkAt (t : Fin cfg0.N) : Fin 2 := ⟨t.val % 2, by omega⟩

/-- Row j of tile T. -/
def rowIn (T : Fin 64) (j : Fin 512) : Fin 32768 := ⟨512 * T.val + j.val, by have := T.isLt; have := j.isLt; omega⟩

/-- Where each window is at a point. -/
theorem places : ∀ t : Fin cfg0.N, win0_0.index t = ![t.val / 2, 0] ∧ win0_1.index t = ![t.val / 2, 0] ∧ win0_2.index t = ![0, t.val % 2]
    ∧ win0_3.index t = ![0, t.val % 2] ∧ win0_4.index t = ![t.val % 2, 0] ∧ win0_5.index t = ![0, 0] ∧ win0_6.index t = ![0, 0]
    ∧ win0_7.index t = ![t.val / 2, 0] ∧ win0_8.index t = ![t.val / 2, 0] :=
  (by decide +kernel : ∀ t : Fin grid0.N, _)

/-- The blocks: the tile's rows, in either width; the chunk's columns, columns and rows of the three weights; scale and shift. -/
theorem block_0 (j : Fin 512) (i : Fin 1024) : iblk m c 0 t (ix2 j i : S512x1024.Idx) = m ((c : Thread nD τ).loc main_arg0) (ix2 (rowIn (tileAt t) j) i) := by
  obtain ⟨h0, h1, h2, h3, h4, h5, h6, h7, h8⟩ := places t
  blk_ext! [iblk, V, rowIn, tileAt, h0]
theorem block_1 (j : Fin 512) (i : Fin 1024) : iblk m c 1 t (ix2 j i : S512x1024.Idx) = m ((c : Thread nD τ).loc main_arg0) (ix2 (rowIn (tileAt t) j) i) := by
  obtain ⟨h0, h1, h2, h3, h4, h5, h6, h7, h8⟩ := places t
  blk_ext! [iblk, V_main_arg0, rowIn, tileAt, h1]
theorem block_2 (i : Fin 1024) (k : Fin 1408) : iblk m c 2 t (ix2 i k : S1024x1408.Idx) = m ((c : Thread nD τ).loc main_arg1) (ix2 i (unit (chunkAt t) k)) := by
  obtain ⟨h0, h1, h2, h3, h4, h5, h6, h7, h8⟩ := places t
  blk_ext! [iblk, V, unit, chunkAt, h2]
theorem block_3 (i : Fin 1024) (k : Fin 1408) : iblk m c 3 t (ix2 i k : S1024x1408.Idx) = m ((c : Thread nD τ).loc main_arg2) (ix2 i (unit (chunkAt t) k)) := by
  obtain ⟨h0, h1, h2, h3, h4, h5, h6, h7, h8⟩ := places t
  blk_ext! [iblk, V, unit, chunkAt, h3]
theorem block_4 (k : Fin 1408) (d : Fin 1024) : iblk m c 4 t (ix2 k d : S1408x1024.Idx) = m ((c : Thread nD τ).loc main_arg3) (ix2 (unit (chunkAt t) k) d) := by
  obtain ⟨h0, h1, h2, h3, h4, h5, h6, h7, h8⟩ := places t
  blk_ext! [iblk, V, unit, chunkAt, h4]
theorem block_5 (d : Fin 1024) : iblk m c 5 t (ix2 0 d : S1x1024.Idx) = m ((c : Thread nD τ).loc main_arg4) (ix1 d) := by
  obtain ⟨h0, h1, h2, h3, h4, h5, h6, h7, h8⟩ := places t
  blk_ext! [iblk, V, h5]
theorem block_6 (d : Fin 1024) : iblk m c 6 t (ix2 0 d : S1x1024.Idx) = m ((c : Thread nD τ).loc main_arg5) (ix1 d) := by
  obtain ⟨h0, h1, h2, h3, h4, h5, h6, h7, h8⟩ := places t
  blk_ext! [iblk, V, h6]

/-- Where a place of a result's block sits in its array. -/
theorem emb_7 (j : Fin 512) (d : Fin 1024) : ((cfg0.win 7).blk t).view.emb (ix2 j d : S512x1024.Idx) = (ix2 (rowIn (tileAt t) j) d : S32768x1024.Idx) := by
  refine funext fun a => Fin.ext ?_
  have h := (cfg0.win 7).rect_emb_val t (ix2 j d : S512x1024.Idx) a
  rw [show (cfg0.win 7).index t = ![t.val / 2, 0] from (places t).2.2.2.2.2.2.2.1] at h
  refine Eq.trans h ?_
  match a with
  | ⟨0, _⟩ => show t.val / 2 * 512 + j.val = 512 * (t.val / 2) + j.val; omega
  | ⟨1, _⟩ => show 0 * 1024 + d.val = d.val; omega
theorem emb_8 (j : Fin 512) (d : Fin 1024) : ((cfg0.win 8).blk t).view.emb (ix2 j d : S512x1024.Idx) = (ix2 (rowIn (tileAt t) j) d : S32768x1024.Idx) := by
  refine funext fun a => Fin.ext ?_
  have h := (cfg0.win 8).rect_emb_val t (ix2 j d : S512x1024.Idx) a
  rw [show (cfg0.win 8).index t = ![t.val / 2, 0] from (places t).2.2.2.2.2.2.2.2] at h
  refine Eq.trans h ?_
  match a with
  | ⟨0, _⟩ => show t.val / 2 * 512 + j.val = 512 * (t.val / 2) + j.val; omega
  | ⟨1, _⟩ => show 0 * 1024 + d.val = d.val; omega

end Cert.DenseIdeal.Gen

end
-- ==== Proof.Dense.Body.lean ====
/- What a point of the call leaves, as what the body computes from its input blocks. -/
module

public import proofs.«01_k».proof.Proof.Gen.DenseIdeal.Value
public import Idealize.ShloMosaic.Lib.Pipeline.ValueKit

@[expose] public section

set_option maxRecDepth 65536

noncomputable section

namespace Cert.DenseIdeal.Gen

open Cert.DenseIdeal Idealize.ShloMosaic Idealize.ShloMosaic.TcCoe Idealize.SL.Sem

variable (m : (ℓ : Loc nD τ sig) → Buf (Elt Ideal) ℓ) (c : Dev nD) (t : Fin cfg0.N)

/-- The first chunk's point: the accumulator holds the chunk's part alone. -/
theorem first (h0 : t.val % 2 = 0) : (outsAt0 m c t.val t.isLt).2.2
    = k0_pay2 (iblk m c 0 t) (iblk m c 2 t) (iblk m c 3 t) (k0_pay1 (F := Ideal)) (iblk m c 4 t) := by
  rw [outsAt0_A m c t h0 (by omega)]
  frame_out

/-- The second chunk's point: its part added, the results made from the sum. -/
theorem second_7 (h1 : t.val % 2 = 1) : (outsAt0 m c t.val t.isLt).1
    = k0_pay3 (iblk m c 1 t) (k0_pay2 (iblk m c 0 t) (iblk m c 2 t) (iblk m c 3 t)
        (outsAt0 m c (t.val - 1) (Nat.lt_of_le_of_lt (Nat.sub_le _ _) t.isLt)).2.2 (iblk m c 4 t)) (iblk m c 5 t) (iblk m c 6 t) := by
  rw [outsAt0_B m c t (by omega) h1]
  frame_out
  exact congrArg (fun a => k0_pay3 (iblk m c 1 t) (k0_pay2 (iblk m c 0 t) (iblk m c 2 t) (iblk m c 3 t) a (iblk m c 4 t)) (iblk m c 5 t) (iblk m c 6 t))
    ((Memref.isWhole_whole cc0_scratch0).read_unread _)
theorem second_8 (h1 : t.val % 2 = 1) : (outsAt0 m c t.val t.isLt).2.1
    = k0_pay4 (iblk m c 1 t) (k0_pay2 (iblk m c 0 t) (iblk m c 2 t) (iblk m c 3 t)
        (outsAt0 m c (t.val - 1) (Nat.lt_of_le_of_lt (Nat.sub_le _ _) t.isLt)).2.2 (iblk m c 4 t)) (iblk m c 5 t) (iblk m c 6 t) := by
  rw [outsAt0_B m c t (by omega) h1]
  frame_out
  exact congrArg (fun a => k0_pay4 (iblk m c 1 t) (k0_pay2 (iblk m c 0 t) (iblk m c 2 t) (iblk m c 3 t) a (iblk m c 4 t)) (iblk m c 5 t) (iblk m c 6 t))
    ((Memref.isWhole_whole cc0_scratch0).read_unread _)

end Cert.DenseIdeal.Gen

end
-- ==== Proof.Dense.Chunk.lean ====
/- What the body computes at an index. -/
module

public import proofs.«01_k».proof.Proof.Dense.Spec
public import proofs.«01_k».proof.Proof.Gen.DenseIdeal.Skeleton
public import Idealize.ShloMosaic.Lib.Pointwise

@[expose] public section

set_option maxRecDepth 65536

noncomputable section

namespace Cert.DenseIdeal.Gen

open Cert.Dense.Spec Cert.Experts.Spec Idealize.ShloMosaic Idealize.ShloMosaic.TcCoe Idealize.SL.Sem

/-- Zeros are zero. -/
theorem pay1_apply (j : Fin 512) (d : Fin 1024) : k0_pay1 (F := Ideal) (ix2 j d) = (0 : EReal) := by
  pointwise [k0_pay1]

/-- The accumulator with a chunk's part added. -/
theorem pay2_apply (x : Vec Ideal S512x1024 .bf16) (wg wu : Vec Ideal S1024x1408 .bf16) (a : Vec Ideal S512x1024 .f32) (wd : Vec Ideal S1408x1024 .bf16) (j : Fin 512) (d : Fin 1024) :
    k0_pay2 x wg wu a wd (ix2 j d) = a (ix2 j d) + ∑ k : Fin 1408, act (dot (fun i => x (ix2 j i)) fun i => wg (ix2 i k)) (dot (fun i => x (ix2 j i)) fun i => wu (ix2 i k)) * wd (ix2 k d) := by
  pointwise [k0_pay2]
  simp only [zero_minus]
  rfl

/-- The scaled rows and the feed-forward's result added and normalised. -/
theorem pay3_apply (x a : Vec Ideal S512x1024 .f32) (g b : Vec Ideal S1x1024 .f32) (j : Fin 512) (d : Fin 1024) :
    k0_pay3 x a g b (ix2 j d) = norm (fun d => scaled (x (ix2 j d)) + a (ix2 j d)) (fun d => g (ix2 0 d)) (fun d => b (ix2 0 d)) d := by
  pointwise [k0_pay3]
  rfl

/-- The copy holds the same. -/
theorem pay4_apply (x a : Vec Ideal S512x1024 .f32) (g b : Vec Ideal S1x1024 .f32) (j : Fin 512) (d : Fin 1024) :
    k0_pay4 x a g b (ix2 j d) = norm (fun d => scaled (x (ix2 j d)) + a (ix2 j d)) (fun d => g (ix2 0 d)) (fun d => b (ix2 0 d)) d :=
  pay3_apply x a g b j d

end Cert.DenseIdeal.Gen

end
-- ==== Proof.Dense.Result.lean ====
/- The call's result arrays: each holds what the layer makes of every row. -/
module

public import proofs.«01_k».proof.Proof.Dense.Blocks
public import proofs.«01_k».proof.Proof.Dense.Body
public import proofs.«01_k».proof.Proof.Dense.Chunk

@[expose] public section

set_option maxRecDepth 65536

noncomputable section

namespace Cert.DenseIdeal.Gen

open Cert.DenseIdeal Cert.Dense.Spec Cert.Experts.Spec Idealize.ShloMosaic Idealize.ShloMosaic.TcCoe Idealize.SL.Sem

variable (m : (ℓ : Loc nD τ sig) → Buf (Elt Ideal) ℓ) (c : Dev nD)

/-- A row's part of its result from chunk g, in the arguments. -/
def partOf (r : Fin 32768) (d : Fin 1024) (g : Fin 2) : EReal :=
  Cert.Dense.Spec.part (fun k => m ((c : Thread nD τ).loc main_arg0) (ix2 r k)) (fun k f => m ((c : Thread nD τ).loc main_arg1) (ix2 k f))
    (fun k f => m ((c : Thread nD τ).loc main_arg2) (ix2 k f)) (fun f => m ((c : Thread nD τ).loc main_arg3) (ix2 f d)) g

/-- The result at row r and lane d, from the arguments. -/
def resultAt (r : Fin 32768) (d : Fin 1024) : EReal :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r d

/-- A point adds its chunk's part. -/
theorem adds (t : Fin cfg0.N) (a : Vec Ideal S512x1024 .f32) (j : Fin 512) (d : Fin 1024) :
    k0_pay2 (iblk m c 0 t) (iblk m c 2 t) (iblk m c 3 t) a (iblk m c 4 t) (ix2 j d)
      = a (ix2 j d) + partOf m c (rowIn (tileAt t) j) d (chunkAt t) := by
  refine (pay2_apply _ _ _ _ _ j d).trans (congrArg (a (ix2 j d) + ·) ?_)
  unfold partOf Cert.Dense.Spec.part
  refine Finset.sum_congr rfl fun k _ => ?_
  exact congrArg₂ (· * ·) (congrArg₂ act
    (congrArg₂ dot (funext fun i => block_0 m c t j i) (funext fun i => block_2 m c t i k))
    (congrArg₂ dot (funext fun i => block_0 m c t j i) (funext fun i => block_3 m c t i k))) (block_4 m c t k d)

/-- After the second chunk's part is added the accumulator holds the feed-forward's result. -/
theorem both (t : Fin cfg0.N) (h1 : t.val % 2 = 1) (j : Fin 512) (d : Fin 1024) :
    k0_pay2 (iblk m c 0 t) (iblk m c 2 t) (iblk m c 3 t) (outsAt0 m c (t.val - 1) (Nat.lt_of_le_of_lt (Nat.sub_le _ _) t.isLt)).2.2 (iblk m c 4 t) (ix2 j d)
      = Cert.Dense.Spec.ffn (fun k => m ((c : Thread nD τ).loc main_arg0) (ix2 (rowIn (tileAt t) j) k)) (fun k f => m ((c : Thread nD τ).loc main_arg1) (ix2 k f))
          (fun k f => m ((c : Thread nD τ).loc main_arg2) (ix2 k f)) (fun f => m ((c : Thread nD τ).loc main_arg3) (ix2 f d)) := by
  let s : Fin cfg0.N := ⟨t.val - 1, Nat.lt_of_le_of_lt (Nat.sub_le _ _) t.isLt⟩
  have hs : s.val % 2 = 0 := by show (t.val - 1) % 2 = 0; omega
  have e0 : chunkAt s = 0 := Fin.ext hs
  have e1 : chunkAt t = 1 := Fin.ext h1
  have eT : tileAt s = tileAt t := Fin.ext (by show (t.val - 1) / 2 = t.val / 2; omega)
  have h : (outsAt0 m c (t.val - 1) (Nat.lt_of_le_of_lt (Nat.sub_le _ _) t.isLt)).2.2 (ix2 j d) = partOf m c (rowIn (tileAt t) j) d 0 := by
    refine (congrFun (first m c s hs) (ix2 j d)).trans ((adds m c s _ j d).trans ?_)
    rw [e0, eT, pay1_apply, zero_add]
  refine (adds m c t _ j d).trans ((congrArg (· + _) h).trans ?_)
  rw [e1]
  exact parts _ _ _ _

/-- What the second chunk's point leaves in either result's block. -/
theorem normed (t : Fin cfg0.N) (h1 : t.val % 2 = 1) (j : Fin 512) (d : Fin 1024) :
    norm (fun d => scaled (iblk m c 1 t (ix2 j d : S512x1024.Idx)) + k0_pay2 (iblk m c 0 t) (iblk m c 2 t) (iblk m c 3 t)
        (outsAt0 m c (t.val - 1) (Nat.lt_of_le_of_lt (Nat.sub_le _ _) t.isLt)).2.2 (iblk m c 4 t) (ix2 j d))
      (fun d => iblk m c 5 t (ix2 0 d : S1x1024.Idx)) (fun d => iblk m c 6 t (ix2 0 d : S1x1024.Idx)) d = resultAt m c (rowIn (tileAt t) j) d := by
  have e : (fun d => scaled (iblk m c 1 t (ix2 j d : S512x1024.Idx)) + k0_pay2 (iblk m c 0 t) (iblk m c 2 t) (iblk m c 3 t)
        (outsAt0 m c (t.val - 1) (Nat.lt_of_le_of_lt (Nat.sub_le _ _) t.isLt)).2.2 (iblk m c 4 t) (ix2 j d)) = _ :=
    funext fun d => congrArg₂ (fun a b => scaled a + b) (block_1 m c t j d) (both m c t h1 j d)
  have e5 : (fun d => iblk m c 5 t (ix2 0 d : S1x1024.Idx)) = _ := funext fun d => block_5 m c t d
  have e6 : (fun d => iblk m c 6 t (ix2 0 d : S1x1024.Idx)) = _ := funext fun d => block_6 m c t d
  exact congrFun (congr (congrArg₂ norm e e5) e6) d
theorem left_7 (t : Fin cfg0.N) (h1 : t.val % 2 = 1) (j : Fin 512) (d : Fin 1024) :
    (outsAt0 m c t.val t.isLt).1 (ix2 j d) = resultAt m c (rowIn (tileAt t) j) d :=
  (congrFun (second_7 m c t h1) (ix2 j d)).trans ((pay3_apply _ _ _ _ j d).trans (normed m c t h1 j d))
theorem left_8 (t : Fin cfg0.N) (h1 : t.val % 2 = 1) (j : Fin 512) (d : Fin 1024) :
    (outsAt0 m c t.val t.isLt).2.1 (ix2 j d) = resultAt m c (rowIn (tileAt t) j) d :=
  (congrFun (second_8 m c t h1) (ix2 j d)).trans ((pay4_apply _ _ _ _ j d).trans (normed m c t h1 j d))

/-- A place of a block, by its row and lane. -/
theorem by_coords {M N : ℕ} (y : (⟨2, ![M, N]⟩ : Shape).Idx) : ∃ (j : Fin M) (d : Fin N), y = ix2 j d :=
  ⟨y 0, y 1, funext fun a => match a with | ⟨0, _⟩ => rfl | ⟨1, _⟩ => rfl⟩

/-- A result array, whole. -/
def result : S32768x1024.Idx → EReal := fun i => resultAt m c (i 0) (i 1)
theorem result_apply (r : Fin 32768) (d : Fin 1024) : result m c (ix2 r d) = resultAt m c r d := rfl

/-- The two result arrays. -/
theorem result_7 : (dats m 0 c).arrAt 7 cfg0.N = result m c := by
  refine (dats m 0 c).arrAt_eq_of_cover 7 _ (fun t hf => ?_)
    (fun i => (Value.covered_iff7 i).2 ⟨Nat.zero_le _, (i 0).isLt, Nat.zero_le _, (i 1).isLt⟩)
  show (cfg0.win 7).cut (grid0.coords t) ((dats m 0 c).after 7 t) = _
  rw [after0_7]
  funext y
  obtain ⟨j, d, rfl⟩ : ∃ j d, y = (ix2 j d : S512x1024.Idx) := by_coords (M := 512) (N := 1024) y
  refine Eq.trans (left_7 m c t ((flush0_7 t).mp hf) j d) ?_
  exact (result_apply m c _ d).symm.trans (congrArg (result m c) (emb_7 t j d).symm)
theorem result_8 : (dats m 0 c).arrAt 8 cfg0.N = result m c := by
  refine (dats m 0 c).arrAt_eq_of_cover 8 _ (fun t hf => ?_)
    (fun i => (Value.covered_iff8 i).2 ⟨Nat.zero_le _, (i 0).isLt, Nat.zero_le _, (i 1).isLt⟩)
  show (cfg0.win 8).cut (grid0.coords t) ((dats m 0 c).after 8 t) = _
  rw [after0_8]
  funext y
  obtain ⟨j, d, rfl⟩ : ∃ j d, y = (ix2 j d : S512x1024.Idx) := by_coords (M := 512) (N := 1024) y
  refine Eq.trans (left_8 m c t ((flush0_8 t).mp hf) j d) ?_
  exact (result_apply m c _ d).symm.trans (congrArg (result m c) (emb_8 t j d).symm)

end Cert.DenseIdeal.Gen

end
-- ==== Proof.Dense.Reference.lean ====
/- The plain program's results at an index. -/
module

public import proofs.«01_k».proof.Proof.Dense.Spec
public import proofs.«01_k».proof.Proof.Gen.DensePlainIdeal.Read
public import Idealize.ShloMosaic.Lib.Pointwise

@[expose] public section

set_option maxRecDepth 65536

noncomputable section

namespace Cert.DensePlainIdeal.Read

open Cert.DensePlainIdeal Cert.DensePlainIdeal.Gen Cert.Dense.Spec Cert.Experts.Spec Idealize.ShloMosaic Idealize.ShloMosaic.TcCoe Idealize.SL.Sem

variable (x : (⟨S32768x1024, .f32⟩ : BufTy).Contents (Elt Ideal)) (wg wu : (⟨S1024x2816, .f32⟩ : BufTy).Contents (Elt Ideal))
  (wd : (⟨S2816x1024, .f32⟩ : BufTy).Contents (Elt Ideal)) (g b : (⟨S1024, .f32⟩ : BufTy).Contents (Elt Ideal))

/-- The gated products of a row. -/
theorem hidden_apply (r : Fin 32768) (f : Fin 2816) : val_main_v5 (F := Ideal) x wg wu (ix2 r f)
    = act (dot (fun k => x (ix2 r k)) fun k => wg (ix2 k f)) (dot (fun k => x (ix2 r k)) fun k => wu (ix2 k f)) := by
  pointwise [val_main_v5, val_main_v4, val_main_v3, val_main_v2, val_main_call0_v0, val_main_call0_v1, val_main_call0_v2, val_main_call0_v3, val_main_call0_v4, val_main_call0_v5, val_main_call0_cst, val_main_call0_cst_0]
  rfl

/-- The sum that is normalised. -/
theorem sum_apply (r : Fin 32768) (d : Fin 1024) : val_main_v7 (F := Ideal) x wg wu wd (ix2 r d)
    = scaled (x (ix2 r d)) + ffn (fun k => x (ix2 r k)) (fun k f => wg (ix2 k f)) (fun k f => wu (ix2 k f)) fun f => wd (ix2 f d) := by
  pointwise [val_main_v7, val_main_v6, val_main_v1, val_main_v0, val_main_cst]
  simp only [hidden_apply]
  rfl

/-- The first result: that sum, normalised. -/
theorem norm_apply (r : Fin 32768) (d : Fin 1024) : val_main_v31 (F := Ideal) x wg wu wd g b (ix2 r d)
    = norm (fun k => val_main_v7 (F := Ideal) x wg wu wd (ix2 r k)) (fun d => g (ix1 d)) (fun d => b (ix1 d)) d := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst_0, val_main_cst_1, val_main_cst_2, val_main_cst_3, val_main_cst_4]
  rfl
theorem result_apply (r : Fin 32768) (d : Fin 1024) : val_main_v31 (F := Ideal) x wg wu wd g b (ix2 r d) = layer x wg wu wd g b r d := by
  rw [norm_apply]
  simp only [sum_apply]
  rfl

/-- The second result is the first. -/
theorem copy_apply (r : Fin 32768) (d : Fin 1024) : val_main_v32 (F := Ideal) x wg wu wd g b (ix2 r d) = layer x wg wu wd g b r d := by
  refine Eq.trans ?_ (result_apply x wg wu wd g b r d)
  unfold val_main_v32
  rfl

end Cert.DensePlainIdeal.Read

end
-- ==== Proof.Dense.Claims.lean ====
/- The dense feed-forward's equality: the call's two results are the plain program's. -/
module

public import proofs.«01_k».proof.Defs
public import proofs.«01_k».proof.Proof.Gen.DensePlainIdeal
public import proofs.«01_k».proof.Proof.Gen.DensePlainIdeal.Run
public import proofs.«01_k».proof.Proof.Dense.Result
public import proofs.«01_k».proof.Proof.Dense.Reference
public import Idealize.ShloMosaic.Lib.Tactic
public import Idealize.ShloMosaic.Adequacy
public import Idealize.ShloMosaic.Init

@[expose] public section

set_option maxRecDepth 65536

noncomputable section

namespace Cert.Dense.Claims

open Idealize.ShloMosaic Idealize.ShloMosaic.TcCoe Idealize.ShloMosaic.Tactic Idealize.SL.Sem

/-- The plain program runs to its end, keeps its arguments, and has no semaphore to leave counted up. -/
theorem framePlain : Cert.quiescent_DensePlainIdeal (hDensePlainIdeal := Cert.DensePlainIdeal.Gen.facts) :=
  fun m g _ => θ_run_mono (Cert.DensePlainIdeal.Value.run m g) fun r h => ⟨fun c => (h c).2.2, sem_eq_zero_of_no_sems (by decide) r.2⟩

/-- Both results of both programs are what the layer makes of each row. -/
theorem equal : Cert.algebraic_DenseIdeal_DensePlainIdeal (hDenseIdeal := Cert.DenseIdeal.Gen.facts)
    (hDensePlainIdeal := Cert.DensePlainIdeal.Gen.facts) := by
  intro m g m' g' _ hagree
  refine ⟨fun c => Cert.DenseIdeal.Gen.result m c, fun c => Cert.DenseIdeal.Gen.result m c, ?_, ?_⟩
  · exact θ_run_mono (Cert.DenseIdeal.Value.run_blocks m g) fun r h c =>
      ⟨(h c).1.trans (Cert.DenseIdeal.Gen.result_7 m c), (h c).2.1.trans (Cert.DenseIdeal.Gen.result_8 m c), (h c).2.2⟩
  · refine θ_run_mono (Cert.DensePlainIdeal.Value.run m' g') fun r h c => ⟨?_, ?_, (h c).2.2⟩
    · obtain ⟨e0, e1, e2, e3, e4, e5⟩ := hagree c
      refine ((h c).1.trans (Cert.DensePlainIdeal.Read.val_main_v31_eq _ _)).trans (funext fun i => ?_)
      obtain ⟨n, d, rfl⟩ := Cert.DenseIdeal.Gen.by_coords (M := 32768) (N := 1024) i
      rw [e0, e1, e2, e3, e4, e5]
      exact Cert.DensePlainIdeal.Read.result_apply _ _ _ _ _ _ n d
    · obtain ⟨e0, e1, e2, e3, e4, e5⟩ := hagree c
      refine ((h c).2.1.trans (Cert.DensePlainIdeal.Read.val_main_v32_eq _ _)).trans (funext fun i => ?_)
      obtain ⟨n, d, rfl⟩ := Cert.DenseIdeal.Gen.by_coords (M := 32768) (N := 1024) i
      rw [e0, e1, e2, e3, e4, e5]
      exact Cert.DensePlainIdeal.Read.copy_apply _ _ _ _ _ _ n d

end Cert.Dense.Claims

end
-- ==== Proof.lean ====
/- The claims of the dilated attention, of the experts and of the dense feed-forward, put together from the modules under
   Proof/Dilated, Proof/Experts and Proof/Dense. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsPlainIdeal
public import proofs.«01_k».proof.Proof.Gen.ExpertsPlainIdeal.Run
public import proofs.«01_k».proof.Proof.Gen.ExpertsPlainIdeal.Read
public import proofs.«01_k».proof.Proof.Gen.Pre_routed
public import proofs.«01_k».proof.Proof.Gen.On_real_rows
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseIdeal.Value
public import proofs.«01_k».proof.Proof.Gen.DensePlainIdeal
public import proofs.«01_k».proof.Proof.Gen.DensePlainIdeal.Run
public import proofs.«01_k».proof.Proof.Gen.DensePlainIdeal.Read
public import Idealize.ShloMosaic.Adequacy
public import Idealize.ShloMosaic.Init
public import proofs.«01_k».proof.Proof.Dilated.Result
public import proofs.«01_k».proof.Proof.Dilated.Finite
public import proofs.«01_k».proof.Proof.Experts.Claims
public import proofs.«01_k».proof.Proof.Dense.Claims

@[expose] public section

noncomputable section

namespace Cert.Proof

open Idealize.ShloMosaic Idealize.ShloMosaic.TcCoe Idealize.SL.Sem

/-- The reference runs to its end, keeps its arguments, and has no semaphore to leave counted up. -/
theorem referenceFrame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0 :=
  θ_run_mono (Cert.ReferenceIdeal.Value.run m ρ) fun r h => ⟨fun c => (h c).2, sem_eq_zero_of_no_sems (by decide) r.2⟩

/-- The kernel and the reference end with the attention of the same arguments. -/
theorem equal : Cert.algebraic_KernelIdeal_ReferenceIdeal_pre_finite (hKernelIdeal := Cert.KernelIdeal.Gen.facts)
    (hReferenceIdeal := Cert.ReferenceIdeal.Gen.facts) (hPre_finite := Cert.Dilated.preFacts) := by
  intro m g m' g' hpre hagree
  refine ⟨fun c => Cert.Dilated.attention (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3)), ?_, ?_⟩
  · refine θ_run_mono (Cert.KernelIdeal.Value.run_blocks m g) fun r h c => ⟨(h c).1.trans (Cert.Dilated.result_eq m c), (h c).2⟩
  · refine θ_run_mono (Cert.ReferenceIdeal.Value.run m' g') fun r h c => ⟨(h c).1.trans ?_, (h c).2⟩
    obtain ⟨e0, e1, e2, e3⟩ := hagree c
    obtain ⟨hx, hb⟩ := @Cert.Dilated.real_of_finite Cert.Dilated.preFacts _ _ _ _ (hpre c)
    rw [← e0] at hx
    rw [← e3] at hb
    refine (Cert.ReferenceIdeal.Read.val_main_v267_eq _).trans ((Cert.Dilated.reference_eq _ _ _ _ hx hb).trans ?_)
    exact congr (congr (congr (congrArg Cert.Dilated.attention e0) e1) e2) e3

/-- The claims. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsPlainIdeal.Gen.facts,
  Cert.Dense.Gen.facts, Cert.DenseIdeal.Gen.facts, Cert.DensePlainIdeal.Gen.facts,
  Cert.Dilated.preFacts, Cert.Pre_routed.Gen.facts, Cert.On_real_rows.Gen.facts,
  fun m ρ _ => Cert.Kernel.Gen.frame m ρ,
  fun m ρ _ => Cert.KernelIdeal.Gen.frame m ρ,
  fun m ρ _ => Cert.KernelIdeal.Gen.frame m ρ,
  fun m ρ _ => referenceFrame m ρ,
  fun m ρ _ => referenceFrame m ρ,
  Cert.Experts.Claims.frameBits,
  Cert.Experts.Claims.frameIdeal,
  Cert.Experts.Claims.framePlain,
  Cert.Experts.Claims.framePlain_routed,
  fun m ρ _ => Cert.Dense.Gen.frame m ρ,
  fun m ρ _ => Cert.DenseIdeal.Gen.frame m ρ,
  Cert.Dense.Claims.framePlain,
  IdealRules.named_const.statement Cert.KernelIdeal.κ "neg" .f32 0xF149F2CA#32 ⊥ rfl,
  equal,
  trivial,
  Cert.Experts.Claims.equal,
  trivial,
  Cert.Dense.Claims.equal⟩

end Cert.Proof

end
